-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v46) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v29_0)) (v1 : (c : Dev Cert.Kernel3Ideal.nD) → Buf (Elt Ideal) ((c.tc : Thread Cert.Kernel3Ideal.nD Cert.Kernel3Ideal.τ).loc Cert.Kernel3Ideal.main_v29_1)) (v2 : (c : Dev Cert.Kernel3Ideal.nD) → Buf (Elt Ideal) ((c.tc : Thread Cert.Kernel3Ideal.nD Cert.Kernel3Ideal.τ).loc Cert.Kernel3Ideal.main_v29_2)) (v3 : (c : Dev Cert.Kernel3Ideal.nD) → Buf (Elt Ideal) ((c.tc : Thread Cert.Kernel3Ideal.nD Cert.Kernel3Ideal.τ).loc Cert.Kernel3Ideal.main_v29_3)) (v4 : (c : Dev Cert.Kernel3Ideal.nD) → Buf (Elt Ideal) ((c.tc : Thread Cert.Kernel3Ideal.nD Cert.Kernel3Ideal.τ).loc Cert.Kernel3Ideal.main_v29_4)) (v5 : (c : Dev Cert.Kernel3Ideal.nD) → Buf (Elt Ideal) ((c.tc : Thread Cert.Kernel3Ideal.nD Cert.Kernel3Ideal.τ).loc Cert.Kernel3Ideal.main_v29_5)) (v6 : (c : Dev Cert.Kernel3Ideal.nD) → Buf (Elt Ideal) ((c.tc : Thread Cert.Kernel3Ideal.nD Cert.Kernel3Ideal.τ).loc Cert.Kernel3Ideal.main_v29_6)) (v7 : (c : Dev Cert.Kernel3Ideal.nD) → Buf (Elt Ideal) ((c.tc : Thread Cert.Kernel3Ideal.nD Cert.Kernel3Ideal.τ).loc Cert.Kernel3Ideal.main_v29_7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v29_0) = v0 c
          ∧ r.2.mem ((c.tc : Thread Cert.Kernel3Ideal.nD Cert.Kernel3Ideal.τ).loc Cert.Kernel3Ideal.main_v29_1) = v1 c
          ∧ r.2.mem ((c.tc : Thread Cert.Kernel3Ideal.nD Cert.Kernel3Ideal.τ).loc Cert.Kernel3Ideal.main_v29_2) = v2 c
          ∧ r.2.mem ((c.tc : Thread Cert.Kernel3Ideal.nD Cert.Kernel3Ideal.τ).loc Cert.Kernel3Ideal.main_v29_3) = v3 c
          ∧ r.2.mem ((c.tc : Thread Cert.Kernel3Ideal.nD Cert.Kernel3Ideal.τ).loc Cert.Kernel3Ideal.main_v29_4) = v4 c
          ∧ r.2.mem ((c.tc : Thread Cert.Kernel3Ideal.nD Cert.Kernel3Ideal.τ).loc Cert.Kernel3Ideal.main_v29_5) = v5 c
          ∧ r.2.mem ((c.tc : Thread Cert.Kernel3Ideal.nD Cert.Kernel3Ideal.τ).loc Cert.Kernel3Ideal.main_v29_6) = v6 c
          ∧ r.2.mem ((c.tc : Thread Cert.Kernel3Ideal.nD Cert.Kernel3Ideal.τ).loc Cert.Kernel3Ideal.main_v29_7) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v72) = v0 c
          ∧ r.2.mem ((c.tc : Thread Cert.Reference3Ideal.nD Cert.Reference3Ideal.τ).loc Cert.Reference3Ideal.main_v73) = v1 c
          ∧ r.2.mem ((c.tc : Thread Cert.Reference3Ideal.nD Cert.Reference3Ideal.τ).loc Cert.Reference3Ideal.main_v98) = v2 c
          ∧ r.2.mem ((c.tc : Thread Cert.Reference3Ideal.nD Cert.Reference3Ideal.τ).loc Cert.Reference3Ideal.main_v121) = v3 c
          ∧ r.2.mem ((c.tc : Thread Cert.Reference3Ideal.nD Cert.Reference3Ideal.τ).loc Cert.Reference3Ideal.main_v124) = v4 c
          ∧ r.2.mem ((c.tc : Thread Cert.Reference3Ideal.nD Cert.Reference3Ideal.τ).loc Cert.Reference3Ideal.main_v128) = v5 c
          ∧ r.2.mem ((c.tc : Thread Cert.Reference3Ideal.nD Cert.Reference3Ideal.τ).loc Cert.Reference3Ideal.main_v135) = v6 c
          ∧ r.2.mem ((c.tc : Thread Cert.Reference3Ideal.nD Cert.Reference3Ideal.τ).loc Cert.Reference3Ideal.main_v142) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
-- ==== Pre_finite.lean ====
abbrev S1x64 : Shape := ⟨2, ![1, 64]⟩
abbrev S1x128 : Shape := ⟨2, ![1, 128]⟩
abbrev S32x8x2048x128 : Shape := ⟨4, ![32, 8, 2048, 128]⟩
abbrev S_ : Shape := ⟨0, ![]⟩

class Facts : Prop where
  bcast_S_S1x64 : S_.BroadcastsInDim S1x64 (![] : Fin 0 → Fin S1x64.rank)
  reducesTo_S1x64_S_d0_1 : S1x64.ReducesTo [0, 1] S_
  h_S_ : 0 < S_.numel
  bitsLt_bf16_f32 : FTy.bits .bf16 < FTy.bits .f32
  bcast_S_S32x8x2048x128 : S_.BroadcastsInDim S32x8x2048x128 (![] : Fin 0 → Fin S32x8x2048x128.rank)
  reducesTo_S32x8x2048x128_S_d0_1_2_3 : S32x8x2048x128.ReducesTo [0, 1, 2, 3] S_

variable [Facts]

def fn_part2 {F : FTy → Type} [FloatOps F] (main_v30 : IVec S_ 1) (main_v34 : IVec S32x8x2048x128 1) : IVec S_ 1 :=
  let main_c_11 : IVec S_ 1 := constantI S_ 1 1#1
  let main_v35 : IVec S_ 1 := (fun x v => Host.reduce IntOp.andi x v reducesTo_S32x8x2048x128_S_d0_1_2_3 h_S_) main_v34 main_c_11
  let main_v36 : IVec S_ 1 := andi main_v30 main_v35
  main_v36

def fn_part1 {F : FTy → Type} [FloatOps F] (main_arg5 : FVec F S32x8x2048x128 .bf16) (main_arg6 : FVec F S32x8x2048x128 .bf16) (main_arg7 : FVec F S32x8x2048x128 .bf16) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S32x8x2048x128 .f32 := (extf .f32 · bitsLt_bf16_f32) main_arg5
  let main_v20 : FVec F S32x8x2048x128 .f32 := Host.absf main_v19
  let main_cst_6 : FVec F S_ .f32 := constant S_ .f32 0x7F800000#32
  let main_v21 : FVec F S32x8x2048x128 .f32 := broadcastInDim S32x8x2048x128 ![] bcast_S_S32x8x2048x128 main_cst_6
  let main_v22 : IVec S32x8x2048x128 1 := cmpf .olt main_v20 main_v21
  let main_c_7 : IVec S_ 1 := constantI S_ 1 1#1
  let main_v23 : IVec S_ 1 := (fun x v => Host.reduce IntOp.andi x v reducesTo_S32x8x2048x128_S_d0_1_2_3 h_S_) main_v22 main_c_7
  let main_v24 : IVec S_ 1 := andi main_v18 main_v23
  let main_v25 : FVec F S32x8x2048x128 .f32 := (extf .f32 · bitsLt_bf16_f32) main_arg6
  let main_v26 : FVec F S32x8x2048x128 .f32 := Host.absf main_v25
  let main_cst_8 : FVec F S_ .f32 := constant S_ .f32 0x7F800000#32
  let main_v27 : FVec F S32x8x2048x128 .f32 := broadcastInDim S32x8x2048x128 ![] bcast_S_S32x8x2048x128 main_cst_8
  let main_v28 : IVec S32x8x2048x128 1 := cmpf .olt main_v26 main_v27
  let main_c_9 : IVec S_ 1 := constantI S_ 1 1#1
  let main_v29 : IVec S_ 1 := (fun x v => Host.reduce IntOp.andi x v reducesTo_S32x8x2048x128_S_d0_1_2_3 h_S_) main_v28 main_c_9
  let main_v30 : IVec S_ 1 := andi main_v24 main_v29
  let main_v31 : FVec F S32x8x2048x128 .f32 := (extf .f32 · bitsLt_bf16_f32) main_arg7
  let main_v32 : FVec F S32x8x2048x128 .f32 := Host.absf main_v31
  let main_cst_10 : FVec F S_ .f32 := constant S_ .f32 0x7F800000#32
  let main_v33 : FVec F S32x8x2048x128 .f32 := broadcastInDim S32x8x2048x128 ![] bcast_S_S32x8x2048x128 main_cst_10
  let main_v34 : IVec S32x8x2048x128 1 := cmpf .olt main_v32 main_v33
  fn_part2 (F := F) main_v30 main_v34

def fn {F : FTy → Type} [FloatOps F] (main_arg0 : FVec F S1x64 .f32) (main_arg1 : FVec F S1x64 .f32) (main_arg2 : FVec F S1x64 .f32) (main_arg3 : FVec F S1x64 .f32) (main_arg4 : FVec F S1x128 .f32) (main_arg5 : FVec F S32x8x2048x128 .bf16) (main_arg6 : FVec F S32x8x2048x128 .bf16) (main_arg7 : FVec F S32x8x2048x128 .bf16) (main_arg8 : FVec F S32x8x2048x128 .bf16) : IVec S_ 1 :=
  let main_v0 : FVec F S1x64 .f32 := Host.absf main_arg0
  let main_cst : FVec F S_ .f32 := constant S_ .f32 0x7F800000#32
  let main_v1 : FVec F S1x64 .f32 := broadcastInDim S1x64 ![] bcast_S_S1x64 main_cst
  let main_v2 : IVec S1x64 1 := cmpf .olt main_v0 main_v1
  let main_c : IVec S_ 1 := constantI S_ 1 1#1
  let main_v3 : IVec S_ 1 := (fun x v => Host.reduce IntOp.andi x v reducesTo_S1x64_S_d0_1 h_S_) main_v2 main_c
  let main_v4 : FVec F S1x64 .f32 := Host.absf main_arg1
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S1x64 .f32 := Host.absf main_arg2
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S1x64 .f32 := Host.absf main_arg3
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg5 main_arg6 main_arg7 main_v13 main_v16
-- ==== Pre_finite3.lean ====
abbrev S65536x1024 : Shape := ⟨2, ![65536, 1024]⟩
abbrev S1x1024 : Shape := ⟨2, ![1, 1024]⟩
abbrev S1x1024x9216 : Shape := ⟨3, ![1, 1024, 9216]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1x1024x9216 : S_.BroadcastsInDim S1x1024x9216 (![] : Fin 0 → Fin S1x1024x9216.rank)
  reducesTo_S1x1024x9216_S_d0_1_2 : S1x1024x9216.ReducesTo [0, 1, 2] S_

variable [Facts]

def fn {F : FTy → Type} [FloatOps F] (main_arg0 : FVec F S65536x1024 .f32) (main_arg1 : FVec F S1x1024 .f32) (main_arg2 : FVec F S1x1024x9216 .f32) (main_arg3 : FVec F S1x1024 .f32) (main_arg4 : FVec F S1x1024 .f32) : IVec S_ 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1x1024x9216 .f32 := Host.absf main_arg2
  let main_cst_0 : FVec F S_ .f32 := constant S_ .f32 0x7F800000#32
  let main_v5 : FVec F S1x1024x9216 .f32 := broadcastInDim S1x1024x9216 ![] bcast_S_S1x1024x9216 main_cst_0
  let main_v6 : IVec S1x1024x9216 1 := cmpf .olt main_v4 main_v5
  let main_c_1 : IVec S_ 1 := constantI S_ 1 1#1
  let main_v7 : IVec S_ 1 := (fun x v => Host.reduce IntOp.andi x v reducesTo_S1x1024x9216_S_d0_1_2 h_S_) main_v6 main_c_1
  let main_v8 : IVec S_ 1 := andi main_v3 main_v7
  main_v8
-- ==== Kernel.lean ====
abbrev S1x64 : Shape := ⟨2, ![1, 64]⟩
abbrev S1x128 : Shape := ⟨2, ![1, 128]⟩
abbrev S32x8x2048x128 : Shape := ⟨4, ![32, 8, 2048, 128]⟩
abbrev S1x4x2048x128 : Shape := ⟨4, ![1, 4, 2048, 128]⟩
abbrev S4x128x2048 : Shape := ⟨3, ![4, 128, 2048]⟩
abbrev S2048x512 : Shape := ⟨2, ![2048, 512]⟩
abbrev S1 : Shape := ⟨1, ![1]⟩
abbrev S1x1 : Shape := ⟨2, ![1, 1]⟩
abbrev S1x1x2048x128 : Shape := ⟨4, ![1, 1, 2048, 128]⟩
abbrev S2048x128 : Shape := ⟨2, ![2048, 128]⟩
abbrev S128x2048 : Shape := ⟨2, ![128, 2048]⟩
abbrev S1x128x2048 : Shape := ⟨3, ![1, 128, 2048]⟩
abbrev S256x128 : Shape := ⟨2, ![256, 128]⟩
abbrev S1x1x256x128 : Shape := ⟨4, ![1, 1, 256, 128]⟩
abbrev S512x128 : Shape := ⟨2, ![512, 128]⟩
abbrev S8x512 : Shape := ⟨2, ![8, 512]⟩
abbrev S256x512 : Shape := ⟨2, ![256, 512]⟩
abbrev S32x8x512 : Shape := ⟨3, ![32, 8, 512]⟩
abbrev S512 : Shape := ⟨1, ![512]⟩
abbrev S1x512 : Shape := ⟨2, ![1, 512]⟩
abbrev S64x512 : Shape := ⟨2, ![64, 512]⟩
abbrev S8x8x512 : Shape := ⟨3, ![8, 8, 512]⟩
abbrev S128x512 : Shape := ⟨2, ![128, 512]⟩
abbrev S1x256 : Shape := ⟨2, ![1, 256]⟩
abbrev S128x256 : Shape := ⟨2, ![128, 256]⟩
abbrev S256 : Shape := ⟨1, ![256]⟩
abbrev S256x1 : Shape := ⟨2, ![256, 1]⟩

abbrev nBuf : Space → Nat
  | .hbm => 10
  | .vmem => 20
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x128, .f32⟩
  | .hbm, ⟨5, _⟩ => ⟨S32x8x2048x128, .bf16⟩
  | .hbm, ⟨6, _⟩ => ⟨S32x8x2048x128, .bf16⟩
  | .hbm, ⟨7, _⟩ => ⟨S32x8x2048x128, .bf16⟩
  | .hbm, ⟨8, _⟩ => ⟨S32x8x2048x128, .bf16⟩
  | .hbm, ⟨9, _⟩ => ⟨S32x8x2048x128, .bf16⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S1x128, .f32⟩
  | .local _ .vmem, ⟨5, _⟩ => ⟨S1x4x2048x128, .bf16⟩
  | .local _ .vmem, ⟨6, _⟩ => ⟨S1x4x2048x128, .bf16⟩
  | .local _ .vmem, ⟨7, _⟩ => ⟨S1x4x2048x128, .bf16⟩
  | .local _ .vmem, ⟨8, _⟩ => ⟨S1x4x2048x128, .bf16⟩
  | .local _ .vmem, ⟨9, _⟩ => ⟨S1x4x2048x128, .bf16⟩
  | .local _ .vmem, ⟨10, _⟩ => ⟨S1x4x2048x128, .bf16⟩
  | .local _ .vmem, ⟨11, _⟩ => ⟨S1x4x2048x128, .bf16⟩
  | .local _ .vmem, ⟨12, _⟩ => ⟨S1x4x2048x128, .bf16⟩
  | .local _ .vmem, ⟨13, _⟩ => ⟨S1x4x2048x128, .bf16⟩
  | .local _ .vmem, ⟨14, _⟩ => ⟨S1x4x2048x128, .bf16⟩
  | .local _ .vmem, ⟨15, _⟩ => ⟨S4x128x2048, .bf16⟩
  | .local _ .vmem, ⟨16, _⟩ => ⟨S2048x512, .f32⟩
  | .local _ .vmem, ⟨17, _⟩ => ⟨S2048x512, .f32⟩
  | .local _ .vmem, ⟨18, _⟩ => ⟨S2048x512, .bf16⟩
  | .local _ .vmem, ⟨19, _⟩ => ⟨S2048x512, .bf16⟩
  | _, _ => ⟨S1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![32, 2], ![false, false]⟩

@[reducible] def k0_t1_loop : Scf.Loop 32 :=
  let c2_i32 : BitVec 32 := 2#32
  let c30_i32 : BitVec 32 := 30#32
  let v562 : BitVec 32 := Scalar.addi c2_i32 c30_i32
  let c1_i32 : BitVec 32 := 1#32
  ⟨c2_i32, v562, c1_i32⟩
def k0_cond1 (k0_t1 : Fin k0_t1_loop.trips) : BitVec 1 :=
  let c2_i32 : BitVec 32 := 2#32
  let c1_i32 : BitVec 32 := 1#32
  let arg17 : BitVec 32 := Scf.iv c2_i32 c1_i32 k0_t1
  let c2_i32_509 : BitVec 32 := 2#32
  let v995 : BitVec 32 := Scalar.remsi arg17 c2_i32_509
  let c0_i32 : BitVec 32 := 0#32
  let v996 : BitVec 1 := Scalar.cmpi .eq v995 c0_i32
  let v997 : BitVec 32 := Scalar.extui v996
  let c0_i32_510 : BitVec 32 := 0#32
  let v998 : BitVec 1 := Scalar.cmpi .ne v997 c0_i32_510
  v998

def k0_off1 (k0_t1 : Fin k0_t1_loop.trips) : Fin 3 → Nat :=
  let c2_i32 : BitVec 32 := 2#32
  let c1_i32 : BitVec 32 := 1#32
  let arg17 : BitVec 32 := Scf.iv c2_i32 c1_i32 k0_t1
  let c2_i32_511 : BitVec 32 := 2#32
  let v1000 : BitVec 32 := Scalar.subi arg17 c2_i32_511
  let c8_i32 : BitVec 32 := 8#32
  let v1002 : BitVec 32 := Scalar.divsi v1000 c8_i32
  let v1047 : Index := Scalar.indexCast v1002
  let c0_533 : Index := 0#32
  let c0_534 : Index := 0#32
  ![v1047.toNat, 0, 0]
def k0_mult1 (k0_t1 : Fin k0_t1_loop.trips) : BitVec 32 :=
  let c2_i32 : BitVec 32 := 2#32
  let c1_i32 : BitVec 32 := 1#32
  let arg17 : BitVec 32 := Scf.iv c2_i32 c1_i32 k0_t1
  let c2_i32_511 : BitVec 32 := 2#32
  let v1000 : BitVec 32 := Scalar.subi arg17 c2_i32_511
  let c8_i32_559 : BitVec 32 := 8#32
  let v1097 : BitVec 32 := Scalar.remsi v1000 c8_i32_559
  let c256_i32 : BitVec 32 := 256#32
  let v1098 : BitVec 32 := Scalar.muli v1097 c256_i32
  v1098
def k0_off2 (k0_t1 : Fin k0_t1_loop.trips) : Fin 4 → Nat :=
  let c0_564 : Index := 0#32
  let c2_i32 : BitVec 32 := 2#32
  let c1_i32 : BitVec 32 := 1#32
  let arg17 : BitVec 32 := Scf.iv c2_i32 c1_i32 k0_t1
  let c2_i32_511 : BitVec 32 := 2#32
  let v1000 : BitVec 32 := Scalar.subi arg17 c2_i32_511
  let c8_i32_558 : BitVec 32 := 8#32
  let v1096 : BitVec 32 := Scalar.divsi v1000 c8_i32_558
  let v1126 : Index := Scalar.indexCast v1096
  let c8_i32_559 : BitVec 32 := 8#32
  let v1097 : BitVec 32 := Scalar.remsi v1000 c8_i32_559
  let c256_i32 : BitVec 32 := 256#32
  let v1098 : BitVec 32 := Scalar.muli v1097 c256_i32
  let v1099 : BitVec 32 := v1098
  let v1127 : Index := Scalar.indexCast v1099
  let c0_565 : Index := 0#32
  ![0, v1126.toNat, v1127.toNat, 0]
def k0_mult2 (k0_t1 : Fin k0_t1_loop.trips) : BitVec 32 :=
  let c2_i32 : BitVec 32 := 2#32
  let c1_i32 : BitVec 32 := 1#32
  let arg17 : BitVec 32 := Scf.iv c2_i32 c1_i32 k0_t1
  let c8_i32_570 : BitVec 32 := 8#32
  let v1140 : BitVec 32 := Scalar.remsi arg17 c8_i32_570
  let c256_i32_571 : BitVec 32 := 256#32
  let v1141 : BitVec 32 := Scalar.muli v1140 c256_i32_571
  v1141
def k0_off3 (k0_t1 : Fin k0_t1_loop.trips) : Fin 4 → Nat :=
  let c0_572 : Index := 0#32
  let c2_i32 : BitVec 32 := 2#32
  let c1_i32 : BitVec 32 := 1#32
  let arg17 : BitVec 32 := Scf.iv c2_i32 c1_i32 k0_t1
  let c8_i32_569 : BitVec 32 := 8#32
  let v1139 : BitVec 32 := Scalar.divsi arg17 c8_i32_569
  let v1143 : Index := Scalar.indexCast v1139
  let c8_i32_570 : BitVec 32 := 8#32
  let v1140 : BitVec 32 := Scalar.remsi arg17 c8_i32_570
  let c256_i32_571 : BitVec 32 := 256#32
  let v1141 : BitVec 32 := Scalar.muli v1140 c256_i32_571
  let v1142 : BitVec 32 := v1141
  let v1144 : Index := Scalar.indexCast v1142
  let c0_573 : Index := 0#32
  ![0, v1143.toNat, v1144.toNat, 0]
def k0_off4 (k0_t1 : Fin k0_t1_loop.trips) : Fin 4 → Nat :=
  let c0_576 : Index := 0#32
  let c2_i32 : BitVec 32 := 2#32
  let c1_i32 : BitVec 32 := 1#32
  let arg17 : BitVec 32 := Scf.iv c2_i32 c1_i32 k0_t1
  let c8_i32_568 : BitVec 32 := 8#32
  let v1138 : BitVec 32 := Scalar.divsi arg17 c8_i32_568
  let v1152 : Index := Scalar.indexCast v1138
  let c0_577 : Index := 0#32
  let c0_578 : Index := 0#32
  ![0, v1152.toNat, 0, 0]
def k0_off5 (k0_t1 : Fin k0_t1_loop.trips) : Fin 4 → Nat :=
  let c0_598 : Index := 0#32
  let c2_i32 : BitVec 32 := 2#32
  let c1_i32 : BitVec 32 := 1#32
  let arg17 : BitVec 32 := Scf.iv c2_i32 c1_i32 k0_t1
  let c8_i32_568 : BitVec 32 := 8#32
  let v1138 : BitVec 32 := Scalar.divsi arg17 c8_i32_568
  let v1195 : Index := Scalar.indexCast v1138
  let c256_599 : Index := 256#32
  let c0_600 : Index := 0#32
  ![0, v1195.toNat, 256, 0]
def k0_off6 (k0_t1 : Fin k0_t1_loop.trips) : Fin 4 → Nat :=
  let c0_620 : Index := 0#32
  let c2_i32 : BitVec 32 := 2#32
  let c1_i32 : BitVec 32 := 1#32
  let arg17 : BitVec 32 := Scf.iv c2_i32 c1_i32 k0_t1
  let c8_i32_568 : BitVec 32 := 8#32
  let v1138 : BitVec 32 := Scalar.divsi arg17 c8_i32_568
  let v1238 : Index := Scalar.indexCast v1138
  let c512_621 : Index := 512#32
  let c0_622 : Index := 0#32
  ![0, v1238.toNat, 512, 0]
def k0_off7 (k0_t1 : Fin k0_t1_loop.trips) : Fin 4 → Nat :=
  let c0_642 : Index := 0#32
  let c2_i32 : BitVec 32 := 2#32
  let c1_i32 : BitVec 32 := 1#32
  let arg17 : BitVec 32 := Scf.iv c2_i32 c1_i32 k0_t1
  let c8_i32_568 : BitVec 32 := 8#32
  let v1138 : BitVec 32 := Scalar.divsi arg17 c8_i32_568
  let v1281 : Index := Scalar.indexCast v1138
  let c768_643 : Index := 768#32
  let c0_644 : Index := 0#32
  ![0, v1281.toNat, 768, 0]
def k0_off8 (k0_t1 : Fin k0_t1_loop.trips) : Fin 4 → Nat :=
  let c0_664 : Index := 0#32
  let c2_i32 : BitVec 32 := 2#32
  let c1_i32 : BitVec 32 := 1#32
  let arg17 : BitVec 32 := Scf.iv c2_i32 c1_i32 k0_t1
  let c8_i32_568 : BitVec 32 := 8#32
  let v1138 : BitVec 32 := Scalar.divsi arg17 c8_i32_568
  let v1324 : Index := Scalar.indexCast v1138
  let c1024_665 : Index := 1024#32
  let c0_666 : Index := 0#32
  ![0, v1324.toNat, 1024, 0]
def k0_off9 (k0_t1 : Fin k0_t1_loop.trips) : Fin 4 → Nat :=
  let c0_686 : Index := 0#32
  let c2_i32 : BitVec 32 := 2#32
  let c1_i32 : BitVec 32 := 1#32
  let arg17 : BitVec 32 := Scf.iv c2_i32 c1_i32 k0_t1
  let c8_i32_568 : BitVec 32 := 8#32
  let v1138 : BitVec 32 := Scalar.divsi arg17 c8_i32_568
  let v1367 : Index := Scalar.indexCast v1138
  let c1280_687 : Index := 1280#32
  let c0_688 : Index := 0#32
  ![0, v1367.toNat, 1280, 0]
def k0_off10 (k0_t1 : Fin k0_t1_loop.trips) : Fin 4 → Nat :=
  let c0_708 : Index := 0#32
  let c2_i32 : BitVec 32 := 2#32
  let c1_i32 : BitVec 32 := 1#32
  let arg17 : BitVec 32 := Scf.iv c2_i32 c1_i32 k0_t1
  let c8_i32_568 : BitVec 32 := 8#32
  let v1138 : BitVec 32 := Scalar.divsi arg17 c8_i32_568
  let v1410 : Index := Scalar.indexCast v1138
  let c1536_709 : Index := 1536#32
  let c0_710 : Index := 0#32
  ![0, v1410.toNat, 1536, 0]
def k0_off11 (k0_t1 : Fin k0_t1_loop.trips) : Fin 4 → Nat :=
  let c0_730 : Index := 0#32
  let c2_i32 : BitVec 32 := 2#32
  let c1_i32 : BitVec 32 := 1#32
  let arg17 : BitVec 32 := Scf.iv c2_i32 c1_i32 k0_t1
  let c8_i32_568 : BitVec 32 := 8#32
  let v1138 : BitVec 32 := Scalar.divsi arg17 c8_i32_568
  let v1453 : Index := Scalar.indexCast v1138
  let c1792_731 : Index := 1792#32
  let c0_732 : Index := 0#32
  ![0, v1453.toNat, 1792, 0]
def k0_off12 (k0_t1 : Fin k0_t1_loop.trips) : Fin 3 → Nat :=
  let c2_i32 : BitVec 32 := 2#32
  let c1_i32 : BitVec 32 := 1#32
  let arg17 : BitVec 32 := Scf.iv c2_i32 c1_i32 k0_t1
  let c2_i32_511 : BitVec 32 := 2#32
  let v1000 : BitVec 32 := Scalar.subi arg17 c2_i32_511
  let c8_i32 : BitVec 32 := 8#32
  let v1002 : BitVec 32 := Scalar.divsi v1000 c8_i32
  let v1047 : Index := Scalar.indexCast v1002
  let c0_533 : Index := 0#32
  let c0_534 : Index := 0#32
  ![v1047.toNat, 0, 0]
def k0_mult3 (k0_t1 : Fin k0_t1_loop.trips) : BitVec 32 :=
  let c2_i32 : BitVec 32 := 2#32
  let c1_i32 : BitVec 32 := 1#32
  let arg17 : BitVec 32 := Scf.iv c2_i32 c1_i32 k0_t1
  let c2_i32_511 : BitVec 32 := 2#32
  let v1000 : BitVec 32 := Scalar.subi arg17 c2_i32_511
  let c8_i32_559 : BitVec 32 := 8#32
  let v1097 : BitVec 32 := Scalar.remsi v1000 c8_i32_559
  let c256_i32 : BitVec 32 := 256#32
  let v1098 : BitVec 32 := Scalar.muli v1097 c256_i32
  v1098
def k0_off13 (k0_t1 : Fin k0_t1_loop.trips) : Fin 4 → Nat :=
  let c0_564 : Index := 0#32
  let c2_i32 : BitVec 32 := 2#32
  let c1_i32 : BitVec 32 := 1#32
  let arg17 : BitVec 32 := Scf.iv c2_i32 c1_i32 k0_t1
  let c2_i32_511 : BitVec 32 := 2#32
  let v1000 : BitVec 32 := Scalar.subi arg17 c2_i32_511
  let c8_i32_558 : BitVec 32 := 8#32
  let v1096 : BitVec 32 := Scalar.divsi v1000 c8_i32_558
  let v1126 : Index := Scalar.indexCast v1096
  let c8_i32_559 : BitVec 32 := 8#32
  let v1097 : BitVec 32 := Scalar.remsi v1000 c8_i32_559
  let c256_i32 : BitVec 32 := 256#32
  let v1098 : BitVec 32 := Scalar.muli v1097 c256_i32
  let v1099 : BitVec 32 := v1098
  let v1127 : Index := Scalar.indexCast v1099
  let c0_565 : Index := 0#32
  ![0, v1126.toNat, v1127.toNat, 0]
def k0_mult4 (k0_t1 : Fin k0_t1_loop.trips) : BitVec 32 :=
  let c2_i32 : BitVec 32 := 2#32
  let c1_i32 : BitVec 32 := 1#32
  let arg17 : BitVec 32 := Scf.iv c2_i32 c1_i32 k0_t1
  let c8_i32_570 : BitVec 32 := 8#32
  let v1140 : BitVec 32 := Scalar.remsi arg17 c8_i32_570
  let c256_i32_571 : BitVec 32 := 256#32
  let v1141 : BitVec 32 := Scalar.muli v1140 c256_i32_571
  v1141
def k0_off14 (k0_t1 : Fin k0_t1_loop.trips) : Fin 4 → Nat :=
  let c0_572 : Index := 0#32
  let c2_i32 : BitVec 32 := 2#32
  let c1_i32 : BitVec 32 := 1#32
  let arg17 : BitVec 32 := Scf.iv c2_i32 c1_i32 k0_t1
  let c8_i32_569 : BitVec 32 := 8#32
  let v1139 : BitVec 32 := Scalar.divsi arg17 c8_i32_569
  let v1143 : Index := Scalar.indexCast v1139
  let c8_i32_570 : BitVec 32 := 8#32
  let v1140 : BitVec 32 := Scalar.remsi arg17 c8_i32_570
  let c256_i32_571 : BitVec 32 := 256#32
  let v1141 : BitVec 32 := Scalar.muli v1140 c256_i32_571
  let v1142 : BitVec 32 := v1141
  let v1144 : Index := Scalar.indexCast v1142
  let c0_573 : Index := 0#32
  ![0, v1143.toNat, v1144.toNat, 0]
def k0_off15 (k0_t1 : Fin k0_t1_loop.trips) : Fin 4 → Nat :=
  let c0_576 : Index := 0#32
  let c2_i32 : BitVec 32 := 2#32
  let c1_i32 : BitVec 32 := 1#32
  let arg17 : BitVec 32 := Scf.iv c2_i32 c1_i32 k0_t1
  let c8_i32_568 : BitVec 32 := 8#32
  let v1138 : BitVec 32 := Scalar.divsi arg17 c8_i32_568
  let v1152 : Index := Scalar.indexCast v1138
  let c0_577 : Index := 0#32
  let c0_578 : Index := 0#32
  ![0, v1152.toNat, 0, 0]
def k0_off16 (k0_t1 : Fin k0_t1_loop.trips) : Fin 4 → Nat :=
  let c0_598 : Index := 0#32
  let c2_i32 : BitVec 32 := 2#32
  let c1_i32 : BitVec 32 := 1#32
  let arg17 : BitVec 32 := Scf.iv c2_i32 c1_i32 k0_t1
  let c8_i32_568 : BitVec 32 := 8#32
  let v1138 : BitVec 32 := Scalar.divsi arg17 c8_i32_568
  let v1195 : Index := Scalar.indexCast v1138
  let c256_599 : Index := 256#32
  let c0_600 : Index := 0#32
  ![0, v1195.toNat, 256, 0]
def k0_off17 (k0_t1 : Fin k0_t1_loop.trips) : Fin 4 → Nat :=
  let c0_620 : Index := 0#32
  let c2_i32 : BitVec 32 := 2#32
  let c1_i32 : BitVec 32 := 1#32
  let arg17 : BitVec 32 := Scf.iv c2_i32 c1_i32 k0_t1
  let c8_i32_568 : BitVec 32 := 8#32
  let v1138 : BitVec 32 := Scalar.divsi arg17 c8_i32_568
  let v1238 : Index := Scalar.indexCast v1138
  let c512_621 : Index := 512#32
  let c0_622 : Index := 0#32
  ![0, v1238.toNat, 512, 0]
def k0_off18 (k0_t1 : Fin k0_t1_loop.trips) : Fin 4 → Nat :=
  let c0_642 : Index := 0#32
  let c2_i32 : BitVec 32 := 2#32
  let c1_i32 : BitVec 32 := 1#32
  let arg17 : BitVec 32 := Scf.iv c2_i32 c1_i32 k0_t1
  let c8_i32_568 : BitVec 32 := 8#32
  let v1138 : BitVec 32 := Scalar.divsi arg17 c8_i32_568
  let v1281 : Index := Scalar.indexCast v1138
  let c768_643 : Index := 768#32
  let c0_644 : Index := 0#32
  ![0, v1281.toNat, 768, 0]
def k0_off19 (k0_t1 : Fin k0_t1_loop.trips) : Fin 4 → Nat :=
  let c0_664 : Index := 0#32
  let c2_i32 : BitVec 32 := 2#32
  let c1_i32 : BitVec 32 := 1#32
  let arg17 : BitVec 32 := Scf.iv c2_i32 c1_i32 k0_t1
  let c8_i32_568 : BitVec 32 := 8#32
  let v1138 : BitVec 32 := Scalar.divsi arg17 c8_i32_568
  let v1324 : Index := Scalar.indexCast v1138
  let c1024_665 : Index := 1024#32
  let c0_666 : Index := 0#32
  ![0, v1324.toNat, 1024, 0]
def k0_off20 (k0_t1 : Fin k0_t1_loop.trips) : Fin 4 → Nat :=
  let c0_686 : Index := 0#32
  let c2_i32 : BitVec 32 := 2#32
  let c1_i32 : BitVec 32 := 1#32
  let arg17 : BitVec 32 := Scf.iv c2_i32 c1_i32 k0_t1
  let c8_i32_568 : BitVec 32 := 8#32
  let v1138 : BitVec 32 := Scalar.divsi arg17 c8_i32_568
  let v1367 : Index := Scalar.indexCast v1138
  let c1280_687 : Index := 1280#32
  let c0_688 : Index := 0#32
  ![0, v1367.toNat, 1280, 0]
def k0_off21 (k0_t1 : Fin k0_t1_loop.trips) : Fin 4 → Nat :=
  let c0_708 : Index := 0#32
  let c2_i32 : BitVec 32 := 2#32
  let c1_i32 : BitVec 32 := 1#32
  let arg17 : BitVec 32 := Scf.iv c2_i32 c1_i32 k0_t1
  let c8_i32_568 : BitVec 32 := 8#32
  let v1138 : BitVec 32 := Scalar.divsi arg17 c8_i32_568
  let v1410 : Index := Scalar.indexCast v1138
  let c1536_709 : Index := 1536#32
  let c0_710 : Index := 0#32
  ![0, v1410.toNat, 1536, 0]
def k0_off22 (k0_t1 : Fin k0_t1_loop.trips) : Fin 4 → Nat :=
  let c0_730 : Index := 0#32
  let c2_i32 : BitVec 32 := 2#32
  let c1_i32 : BitVec 32 := 1#32
  let arg17 : BitVec 32 := Scf.iv c2_i32 c1_i32 k0_t1
  let c8_i32_568 : BitVec 32 := 8#32
  let v1138 : BitVec 32 := Scalar.divsi arg17 c8_i32_568
  let v1453 : Index := Scalar.indexCast v1138
  let c1792_731 : Index := 1792#32
  let c0_732 : Index := 0#32
  ![0, v1453.toNat, 1792, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x4x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S1x64 : Shape := ⟨2, ![1, 64]⟩
abbrev S1x128 : Shape := ⟨2, ![1, 128]⟩
abbrev S32x8x2048x128 : Shape := ⟨4, ![32, 8, 2048, 128]⟩
abbrev S32x8x2048x64 : Shape := ⟨4, ![32, 8, 2048, 64]⟩
abbrev S_ : Shape := ⟨0, ![]⟩
abbrev S32x8x2048x2048 : Shape := ⟨4, ![32, 8, 2048, 2048]⟩
abbrev S32x8x2048 : Shape := ⟨3, ![32, 8, 2048]⟩
abbrev S32x8x2048x1 : Shape := ⟨4, ![32, 8, 2048, 1]⟩
abbrev S128 : Shape := ⟨1, ![128]⟩
abbrev S1x1x1x128 : Shape := ⟨4, ![1, 1, 1, 128]⟩

abbrev nBuf : Space → Nat
  | .hbm => 90
  | .vmem => 0
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x128, .f32⟩
  | .hbm, ⟨5, _⟩ => ⟨S32x8x2048x128, .bf16⟩
  | .hbm, ⟨6, _⟩ => ⟨S32x8x2048x128, .bf16⟩
  | .hbm, ⟨7, _⟩ => ⟨S32x8x2048x128, .bf16⟩
  | .hbm, ⟨8, _⟩ => ⟨S32x8x2048x128, .bf16⟩
  | .hbm, ⟨9, _⟩ => ⟨S32x8x2048x128, .f32⟩
  | .hbm, ⟨10, _⟩ => ⟨S32x8x2048x128, .f32⟩
  | .hbm, ⟨11, _⟩ => ⟨S32x8x2048x128, .f32⟩
  | .hbm, ⟨12, _⟩ => ⟨S32x8x2048x128, .f32⟩
  | .hbm, ⟨13, _⟩ => ⟨S32x8x2048x64, .f32⟩
  | .hbm, ⟨14, _⟩ => ⟨S32x8x2048x64, .f32⟩
  | .hbm, ⟨15, _⟩ => ⟨S32x8x2048x64, .f32⟩
  | .hbm, ⟨16, _⟩ => ⟨S32x8x2048x64, .f32⟩
  | .hbm, ⟨17, _⟩ => ⟨S1x64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S1x64, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S32x8x2048x2048, .f32⟩
  | .hbm, ⟨31, _⟩ => ⟨S32x8x2048x2048, .f32⟩
  | .hbm, ⟨32, _⟩ => ⟨S32x8x2048x2048, .f32⟩
  | .hbm, ⟨33, _⟩ => ⟨S_, .f32⟩
  | .hbm, ⟨34, _⟩ => ⟨S32x8x2048, .f32⟩
  | .hbm, ⟨35, _⟩ => ⟨S_, .f32⟩
  | .hbm, ⟨36, _⟩ => ⟨S32x8x2048, .f32⟩
  | .hbm, ⟨37, _⟩ => ⟨S32x8x2048, .f32⟩
  | .hbm, ⟨38, _⟩ => ⟨S32x8x2048x1, .f32⟩
  | .hbm, ⟨39, _⟩ => ⟨S32x8x2048x2048, .f32⟩
  | .hbm, ⟨40, _⟩ => ⟨S32x8x2048x2048, .f32⟩
  | .hbm, ⟨41, _⟩ => ⟨S32x8x2048x2048, .f32⟩
  | .hbm, ⟨42, _⟩ => ⟨S_, .f32⟩
  | .hbm, ⟨43, _⟩ => ⟨S32x8x2048, .f32⟩
  | .hbm, ⟨44, _⟩ => ⟨S32x8x2048x1, .f32⟩
  | .hbm, ⟨45, _⟩ => ⟨S32x8x2048x2048, .f32⟩
  | .hbm, ⟨46, _⟩ => ⟨S32x8x2048x2048, .f32⟩
  | .hbm, ⟨47, _⟩ => ⟨S32x8x2048x2048, .f32⟩
  | .hbm, ⟨48, _⟩ => ⟨S32x8x2048x2048, .f32⟩
  | .hbm, ⟨49, _⟩ => ⟨S32x8x2048x2048, .f32⟩
  | .hbm, ⟨50, _⟩ => ⟨S_, .f32⟩
  | .hbm, ⟨51, _⟩ => ⟨S32x8x2048, .f32⟩
  | .hbm, ⟨52, _⟩ => ⟨S_, .f32⟩
  | .hbm, ⟨53, _⟩ => ⟨S32x8x2048, .f32⟩
  | .hbm, ⟨54, _⟩ => ⟨S32x8x2048, .f32⟩
  | .hbm, ⟨55, _⟩ => ⟨S32x8x2048x1, .f32⟩
  | .hbm, ⟨56, _⟩ => ⟨S32x8x2048x2048, .f32⟩
  | .hbm, ⟨57, _⟩ => ⟨S32x8x2048x2048, .f32⟩
  | .hbm, ⟨58, _⟩ => ⟨S32x8x2048x2048, .f32⟩
  | .hbm, ⟨59, _⟩ => ⟨S_, .f32⟩
  | .hbm, ⟨60, _⟩ => ⟨S32x8x2048, .f32⟩
  | .hbm, ⟨61, _⟩ => ⟨S32x8x2048x1, .f32⟩
  | .hbm, ⟨62, _⟩ => ⟨S32x8x2048x2048, .f32⟩
  | .hbm, ⟨63, _⟩ => ⟨S32x8x2048x2048, .f32⟩
  | .hbm, ⟨64, _⟩ => ⟨S32x8x2048x2048, .f32⟩
  | .hbm, ⟨65, _⟩ => ⟨S32x8x2048x2048, .f32⟩
  | .hbm, ⟨66, _⟩ => ⟨S32x8x2048x2048, .f32⟩
  | .hbm, ⟨67, _⟩ => ⟨S32x8x2048x128, .f32⟩
  | .hbm, ⟨68, _⟩ => ⟨S32x8x2048x128, .f32⟩
  | .hbm, ⟨69, _⟩ => ⟨S_, .f32⟩
  | .hbm, ⟨70, _⟩ => ⟨S32x8x2048, .f32⟩
  | .hbm, ⟨71, _⟩ => ⟨S32x8x2048x1, .f32⟩
  | .hbm, ⟨72, _⟩ => ⟨S_, .f32⟩
  | .hbm, ⟨73, _⟩ => ⟨S32x8x2048x1, .f32⟩
  | .hbm, ⟨74, _⟩ => ⟨S32x8x2048x1, .f32⟩
  | .hbm, ⟨75, _⟩ => ⟨S_, .f32⟩
  | .hbm, ⟨76, _⟩ => ⟨S32x8x2048x1, .f32⟩
  | .hbm, ⟨77, _⟩ => ⟨S32x8x2048x1, .f32⟩
  | .hbm, ⟨78, _⟩ => ⟨S32x8x2048x1, .f32⟩
  | .hbm, ⟨79, _⟩ => ⟨S32x8x2048x128, .f32⟩
  | .hbm, ⟨80, _⟩ => ⟨S32x8x2048x128, .f32⟩
  | .hbm, ⟨81, _⟩ => ⟨S128, .f32⟩
  | .hbm, ⟨82, _⟩ => ⟨S1x1x1x128, .f32⟩
  | .hbm, ⟨83, _⟩ => ⟨S32x8x2048x128, .f32⟩
  | .hbm, ⟨84, _⟩ => ⟨S32x8x2048x128, .f32⟩
  | .hbm, ⟨85, _⟩ => ⟨S_, .f32⟩
  | .hbm, ⟨86, _⟩ => ⟨S32x8x2048x128, .f32⟩
  | .hbm, ⟨87, _⟩ => ⟨S32x8x2048x128, .f32⟩
  | .hbm, ⟨88, _⟩ => ⟨S32x8x2048x128, .f32⟩
  | .hbm, ⟨89, _⟩ => ⟨S32x8x2048x128, .bf16⟩
  | _, _ => ⟨S1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_9 : Ref sig .tc := ⟨.hbm, 69, rfl⟩
abbrev main_v50 : Ref sig .tc := ⟨.hbm, 70, rfl⟩
abbrev main_v51 : Ref sig .tc := ⟨.hbm, 71, rfl⟩
abbrev main_cst_10 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩

abbrev nD : Nat := 1
abbrev τ : Topo := Topo.v7x

variable {F : FTy → Type} [FloatOps F]
-- ==== Kernel2.lean ====
abbrev S65536x1024 : Shape := ⟨2, ![65536, 1024]⟩
abbrev S32x8x2048x128 : Shape := ⟨4, ![32, 8, 2048, 128]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S1x1024 : Shape := ⟨2, ![1, 1024]⟩
abbrev S8x128 : Shape := ⟨2, ![8, 128]⟩
abbrev S128x8 : Shape := ⟨2, ![128, 8]⟩
abbrev S128x8x128 : Shape := ⟨3, ![128, 8, 128]⟩
abbrev S128x1024 : Shape := ⟨2, ![128, 1024]⟩
abbrev S8x128x128 : Shape := ⟨3, ![8, 128, 128]⟩
abbrev S1024x1024 : Shape := ⟨2, ![1024, 1024]⟩
abbrev S512x1024 : Shape := ⟨2, ![512, 1024]⟩
abbrev S1x8x512x128 : Shape := ⟨4, ![1, 8, 512, 128]⟩
abbrev S1x128x128 : Shape := ⟨3, ![1, 128, 128]⟩
abbrev S128x128 : Shape := ⟨2, ![128, 128]⟩
abbrev S1x1x512x128 : Shape := ⟨4, ![1, 1, 512, 128]⟩
abbrev S512x128 : Shape := ⟨2, ![512, 128]⟩
abbrev S512 : Shape := ⟨1, ![512]⟩
abbrev S512x1 : Shape := ⟨2, ![512, 1]⟩

abbrev nBuf : Space → Nat
  | .hbm => 25
  | .vmem => 20
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S65536x1024, .bf16⟩
  | .hbm, ⟨3, _⟩ => ⟨S32x8x2048x128, .bf16⟩
  | .hbm, ⟨4, _⟩ => ⟨S65536x1024, .bf16⟩
  | .hbm, ⟨5, _⟩ => ⟨S65536x1024, .bf16⟩
  | .hbm, ⟨6, _⟩ => ⟨S1x8x128x128, .f32⟩
  | .hbm, ⟨7, _⟩ => ⟨S1x8x128, .f32⟩
  | .hbm, ⟨8, _⟩ => ⟨S1x1024x1024, .f32⟩
  | .hbm, ⟨9, _⟩ => ⟨S1x1024x1024, .f32⟩
  | .hbm, ⟨10, _⟩ => ⟨S1x1024x1024, .f32⟩
  | .hbm, ⟨11, _⟩ => ⟨S1x1024, .f32⟩
  | .hbm, ⟨12, _⟩ => ⟨S8x128, .f32⟩
  | .hbm, ⟨13, _⟩ => ⟨S128x8, .f32⟩
  | .hbm, ⟨14, _⟩ => ⟨S128x8x128, .f32⟩
  | .hbm, ⟨15, _⟩ => ⟨S128x1024, .f32⟩
  | .hbm, ⟨16, _⟩ => ⟨S8x128x128, .f32⟩
  | .hbm, ⟨17, _⟩ => ⟨S8x128x128, .bf16⟩
  | .hbm, ⟨18, _⟩ => ⟨S1024x1024, .f32⟩
  | .hbm, ⟨19, _⟩ => ⟨S1024x1024, .bf16⟩
  | .hbm, ⟨20, _⟩ => ⟨S1024x1024, .f32⟩
  | .hbm, ⟨21, _⟩ => ⟨S1024x1024, .bf16⟩
  | .hbm, ⟨22, _⟩ => ⟨S1024x1024, .f32⟩
  | .hbm, ⟨23, _⟩ => ⟨S1024x1024, .bf16⟩
  | .hbm, ⟨24, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x8x512x128, .bf16⟩
  | .local _ .vmem, ⟨7, _⟩ => ⟨S1x8x512x128, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S8x128x128, .bf16⟩
  | .local _ .vmem, ⟨13, _⟩ => ⟨S128x1024, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference2Ideal.lean ====
abbrev S65536x1024 : Shape := ⟨2, ![65536, 1024]⟩
abbrev S32x8x2048x128 : Shape := ⟨4, ![32, 8, 2048, 128]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S1x1024 : Shape := ⟨2, ![1, 1024]⟩
abbrev S32x16x128x8x128 : Shape := ⟨5, ![32, 16, 128, 8, 128]⟩
abbrev S8x128x128 : Shape := ⟨3, ![8, 128, 128]⟩
abbrev S8x32x16x128x128 : Shape := ⟨5, ![8, 32, 16, 128, 128]⟩
abbrev S8x128 : Shape := ⟨2, ![8, 128]⟩
abbrev S128x8 : Shape := ⟨2, ![128, 8]⟩
abbrev S1x1x128x8x1 : Shape := ⟨5, ![1, 1, 128, 8, 1]⟩
abbrev S32x2048x1024 : Shape := ⟨3, ![32, 2048, 1024]⟩
abbrev S32x2048x8x128 : Shape := ⟨4, ![32, 2048, 8, 128]⟩
abbrev S1024x1024 : Shape := ⟨2, ![1024, 1024]⟩
abbrev S_ : Shape := ⟨0, ![]⟩
abbrev S32x2048 : Shape := ⟨2, ![32, 2048]⟩
abbrev S32x2048x1 : Shape := ⟨3, ![32, 2048, 1]⟩
abbrev S1024 : Shape := ⟨1, ![1024]⟩
abbrev S1x1x1024 : Shape := ⟨3, ![1, 1, 1024]⟩

abbrev nBuf : Space → Nat
  | .hbm => 62
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S65536x1024, .bf16⟩
  | .hbm, ⟨3, _⟩ => ⟨S32x8x2048x128, .bf16⟩
  | .hbm, ⟨4, _⟩ => ⟨S65536x1024, .bf16⟩
  | .hbm, ⟨5, _⟩ => ⟨S65536x1024, .bf16⟩
  | .hbm, ⟨6, _⟩ => ⟨S1x8x128x128, .f32⟩
  | .hbm, ⟨7, _⟩ => ⟨S1x8x128, .f32⟩
  | .hbm, ⟨8, _⟩ => ⟨S1x1024x1024, .f32⟩
  | .hbm, ⟨9, _⟩ => ⟨S1x1024x1024, .f32⟩
  | .hbm, ⟨10, _⟩ => ⟨S1x1024x1024, .f32⟩
  | .hbm, ⟨11, _⟩ => ⟨S1x1024, .f32⟩
  | .hbm, ⟨12, _⟩ => ⟨S65536x1024, .f32⟩
  | .hbm, ⟨13, _⟩ => ⟨S32x16x128x8x128, .f32⟩
  | .hbm, ⟨14, _⟩ => ⟨S8x128x128, .f32⟩
  | .hbm, ⟨15, _⟩ => ⟨S8x32x16x128x128, .f32⟩
  | .hbm, ⟨16, _⟩ => ⟨S32x16x128x8x128, .f32⟩
  | .hbm, ⟨17, _⟩ => ⟨S8x128, .f32⟩
  | .hbm, ⟨18, _⟩ => ⟨S128x8, .f32⟩
  | .hbm, ⟨19, _⟩ => ⟨S1x1x128x8x1, .f32⟩
  | .hbm, ⟨20, _⟩ => ⟨S32x16x128x8x128, .f32⟩
  | .hbm, ⟨21, _⟩ => ⟨S32x16x128x8x128, .f32⟩
  | .hbm, ⟨22, _⟩ => ⟨S65536x1024, .f32⟩
  | .hbm, ⟨23, _⟩ => ⟨S32x2048x1024, .f32⟩
  | .hbm, ⟨24, _⟩ => ⟨S32x2048x1024, .f32⟩
  | .hbm, ⟨25, _⟩ => ⟨S32x2048x1024, .f32⟩
  | .hbm, ⟨26, _⟩ => ⟨S32x8x2048x128, .f32⟩
  | .hbm, ⟨27, _⟩ => ⟨S32x2048x8x128, .f32⟩
  | .hbm, ⟨28, _⟩ => ⟨S32x2048x1024, .f32⟩
  | .hbm, ⟨29, _⟩ => ⟨S65536x1024, .f32⟩
  | .hbm, ⟨30, _⟩ => ⟨S32x2048x1024, .f32⟩
  | .hbm, ⟨31, _⟩ => ⟨S1024x1024, .f32⟩
  | .hbm, ⟨32, _⟩ => ⟨S32x2048x1024, .f32⟩
  | .hbm, ⟨33, _⟩ => ⟨S32x2048x1024, .f32⟩
  | .hbm, ⟨34, _⟩ => ⟨S65536x1024, .f32⟩
  | .hbm, ⟨35, _⟩ => ⟨S32x2048x1024, .f32⟩
  | .hbm, ⟨36, _⟩ => ⟨S1024x1024, .f32⟩
  | .hbm, ⟨37, _⟩ => ⟨S32x2048x1024, .f32⟩
  | .hbm, ⟨38, _⟩ => ⟨S32x2048x1024, .f32⟩
  | .hbm, ⟨39, _⟩ => ⟨S32x2048x1024, .f32⟩
  | .hbm, ⟨40, _⟩ => ⟨S1024x1024, .f32⟩
  | .hbm, ⟨41, _⟩ => ⟨S32x2048x1024, .f32⟩
  | .hbm, ⟨42, _⟩ => ⟨S32x2048x1024, .f32⟩
  | .hbm, ⟨43, _⟩ => ⟨S_, .f32⟩
  | .hbm, ⟨44, _⟩ => ⟨S32x2048, .f32⟩
  | .hbm, ⟨45, _⟩ => ⟨S32x2048x1, .f32⟩
  | .hbm, ⟨46, _⟩ => ⟨S_, .f32⟩
  | .hbm, ⟨47, _⟩ => ⟨S32x2048x1, .f32⟩
  | .hbm, ⟨48, _⟩ => ⟨S32x2048x1, .f32⟩
  | .hbm, ⟨49, _⟩ => ⟨S_, .f32⟩
  | .hbm, ⟨50, _⟩ => ⟨S32x2048x1, .f32⟩
  | .hbm, ⟨51, _⟩ => ⟨S32x2048x1, .f32⟩
  | .hbm, ⟨52, _⟩ => ⟨S32x2048x1, .f32⟩
  | .hbm, ⟨53, _⟩ => ⟨S32x2048x1024, .f32⟩
  | .hbm, ⟨54, _⟩ => ⟨S32x2048x1024, .f32⟩
  | .hbm, ⟨55, _⟩ => ⟨S1024, .f32⟩
  | .hbm, ⟨56, _⟩ => ⟨S1x1x1024, .f32⟩
  | .hbm, ⟨57, _⟩ => ⟨S32x2048x1024, .f32⟩
  | .hbm, ⟨58, _⟩ => ⟨S32x2048x1024, .f32⟩
  | .hbm, ⟨59, _⟩ => ⟨S32x2048x1024, .f32⟩
  | .hbm, ⟨60, _⟩ => ⟨S32x2048x1024, .f32⟩
  | .hbm, ⟨61, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst : Ref sig .tc := ⟨.hbm, 43, rfl⟩
abbrev main_v31 : Ref sig .tc := ⟨.hbm, 44, rfl⟩
abbrev main_v32 : Ref sig .tc := ⟨.hbm, 45, rfl⟩
abbrev main_cst_0 : Ref sig .tc := ⟨.hbm, 46, rfl⟩
abbrev main_v33 : Ref sig .tc := ⟨.hbm, 47, rfl⟩
abbrev main_v34 : Ref sig .tc := ⟨.hbm, 48, rfl⟩
abbrev main_cst_1 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== Kernel3.lean ====
abbrev S65536x1024 : Shape := ⟨2, ![65536, 1024]⟩
abbrev S1x1024 : Shape := ⟨2, ![1, 1024]⟩
abbrev S1x1024x9216 : Shape := ⟨3, ![1, 1024, 9216]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S1x2048x4x32 : Shape := ⟨4, ![1, 2048, 4, 32]⟩
abbrev S2048x128 : Shape := ⟨2, ![2048, 128]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S1024x9216 : Shape := ⟨2, ![1024, 9216]⟩
abbrev S32x8x2048x128 : Shape := ⟨4, ![32, 8, 2048, 128]⟩
abbrev S512x1024 : Shape := ⟨2, ![512, 1024]⟩
abbrev S512x128 : Shape := ⟨2, ![512, 128]⟩
abbrev S1x8x512x128 : Shape := ⟨4, ![1, 8, 512, 128]⟩
abbrev S256x1024 : Shape := ⟨2, ![256, 1024]⟩
abbrev S256 : Shape := ⟨1, ![256]⟩
abbrev S256x1 : Shape := ⟨2, ![256, 1]⟩
abbrev S1024x1024 : Shape := ⟨2, ![1024, 1024]⟩
abbrev S128x1024 : Shape := ⟨2, ![128, 1024]⟩
abbrev S128 : Shape := ⟨1, ![128]⟩
abbrev S128x1 : Shape := ⟨2, ![128, 1]⟩
abbrev S1x1x512x128 : Shape := ⟨4, ![1, 1, 512, 128]⟩

abbrev nBuf : Space → Nat
  | .hbm => 47
  | .vmem => 27
  | .smem => 0
  | _ => 0

abbrev bufTy : (tb : Table) → Fin (tcTables nBuf tb) → BufTy
  | .hbm, ⟨0, _⟩ => ⟨S65536x1024, .f32⟩
  | .hbm, ⟨1, _⟩ => ⟨S1x1024, .f32⟩
  | .hbm, ⟨2, _⟩ => ⟨S1x1024x9216, .f32⟩
  | .hbm, ⟨3, _⟩ => ⟨S1x1024, .f32⟩
  | .hbm, ⟨4, _⟩ => ⟨S1x1024, .f32⟩
  | .hbm, ⟨5, _⟩ => ⟨S2048, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S2048x1, .f32⟩
  | .hbm, ⟨23, _⟩ => ⟨S1x32, .f32⟩
  | .hbm, ⟨24, _⟩ => ⟨S2048x32, .f32⟩
  | .hbm, ⟨25, _⟩ => ⟨S2048x32, .f32⟩
  | .hbm, ⟨26, _⟩ => ⟨S2048x32, .f32⟩
  | .hbm, ⟨27, _⟩ => ⟨S2048x32, .f32⟩
  | .hbm, ⟨28, _⟩ => ⟨S2048x32, .f32⟩
  | .hbm, ⟨29, _⟩ => ⟨S1x2048x1x32, .f32⟩
  | .hbm, ⟨30, _⟩ => ⟨S1x2048x4x32, .f32⟩
  | .hbm, ⟨31, _⟩ => ⟨S2048x128, .f32⟩
  | .hbm, ⟨32, _⟩ => ⟨S2048x32, .f32⟩
  | .hbm, ⟨33, _⟩ => ⟨S2048x64, .f32⟩
  | .hbm, ⟨34, _⟩ => ⟨S1x2048x1x64, .f32⟩
  | .hbm, ⟨35, _⟩ => ⟨S1x2048x2x64, .f32⟩
  | .hbm, ⟨36, _⟩ => ⟨S2048x128, .f32⟩
  | .hbm, ⟨37, _⟩ => ⟨S1024x9216, .f32⟩
  | .hbm, ⟨38, _⟩ => ⟨S1024x9216, .bf16⟩
  | .hbm, ⟨39, _⟩ => ⟨S65536x1024, .bf16⟩
  | .hbm, ⟨40, _⟩ => ⟨S65536x1024, .bf16⟩
  | .hbm, ⟨41, _⟩ => ⟨S32x8x2048x128, .bf16⟩
  | .hbm, ⟨42, _⟩ => ⟨S32x8x2048x128, .bf16⟩
  | .hbm, ⟨43, _⟩ => ⟨S32x8x2048x128, .bf16⟩
  | .hbm, ⟨44, _⟩ => ⟨S32x8x2048x128, .bf16⟩
  | .hbm, ⟨45, _⟩ => ⟨S65536x1024, .bf16⟩
  | .hbm, ⟨46, _⟩ => ⟨S65536x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x9216, .bf16⟩
  | .local _ .vmem, ⟨4, _⟩ => ⟨S1x1024, .f32⟩
  | .local _ .vmem, ⟨5, _⟩ => ⟨S1x1024, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1x8x512x128, .bf16⟩
  | .local _ .vmem, ⟨15, _⟩ => ⟨S1x8x512x128, .bf16⟩
  | .local _ .vmem, ⟨16, _⟩ => ⟨S1x8x512x128, .bf16⟩
  | .local _ .vmem, ⟨17, _⟩ => ⟨S1x8x512x128, .bf16⟩
  | .local _ .vmem, ⟨18, _⟩ => ⟨S1x8x512x128, .bf16⟩
  | .local _ .vmem, ⟨19, _⟩ => ⟨S1x8x512x128, .bf16⟩
  | .local _ .vmem, ⟨20, _⟩ => ⟨S1x8x512x128, .bf16⟩
  | .local _ .vmem, ⟨21, _⟩ => ⟨S1x8x512x128, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29_0 : Ref sig .tc := ⟨.hbm, 39, rfl⟩
abbrev main_v29_1 : Ref sig .tc := ⟨.hbm, 40, rfl⟩
abbrev main_v29_2 : Ref sig .tc := ⟨.hbm, 41, rfl⟩
abbrev main_v29_3 : Ref sig .tc := ⟨.hbm, 42, rfl⟩
abbrev main_v29_4 : Ref sig .tc := ⟨.hbm, 43, rfl⟩
abbrev main_v29_5 : Ref sig .tc := ⟨.hbm, 44, rfl⟩
abbrev main_v29_6 : Ref sig .tc := ⟨.hbm, 45, rfl⟩
abbrev main_v29_7 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_10 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_11 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_12 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x9216 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x8x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x8x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference3Ideal.lean ====
abbrev S65536x1024 : Shape := ⟨2, ![65536, 1024]⟩
abbrev S1x1024 : Shape := ⟨2, ![1, 1024]⟩
abbrev S1x1024x9216 : Shape := ⟨3, ![1, 1024, 9216]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S65536 : Shape := ⟨1, ![65536]⟩
abbrev S65536x1 : Shape := ⟨2, ![65536, 1]⟩
abbrev S1024 : Shape := ⟨1, ![1024]⟩
abbrev S1024x9216 : Shape := ⟨2, ![1024, 9216]⟩
abbrev S65536x9216 : Shape := ⟨2, ![65536, 9216]⟩
abbrev S32x2048x8x2x64 : Shape := ⟨5, ![32, 2048, 8, 2, 64]⟩
abbrev S32x2048x8x2x32 : Shape := ⟨5, ![32, 2048, 8, 2, 32]⟩
abbrev S2048x1x1x32 : Shape := ⟨4, ![2048, 1, 1, 32]⟩
abbrev S1x2048x1x1x32 : Shape := ⟨5, ![1, 2048, 1, 1, 32]⟩
abbrev S32x2048x8x128 : Shape := ⟨4, ![32, 2048, 8, 128]⟩
abbrev S32x8x2048x128 : Shape := ⟨4, ![32, 8, 2048, 128]⟩

abbrev nBuf : Space → Nat
  | .hbm => 182
  | .vmem => 0
  | .smem => 0
  | _ => 0

abbrev hbmTy0_0 (i : Nat) : BufTy := match i % 128 with
  | 0 => ⟨S65536x1024, .f32⟩
  | 1 => ⟨S1x1024, .f32⟩
  | 2 => ⟨S1x1024x9216, .f32⟩
  | 3 => ⟨S1x1024, .f32⟩
  | 4 => ⟨S1x1024, .f32⟩
  | 5 => ⟨S32, .f32⟩
  | 6 => ⟨S_, .f32⟩
  | 7 => ⟨S32, .f32⟩
  | 8 => ⟨S32, .f32⟩
  | 9 => ⟨S_, .f32⟩
  | 10 => ⟨S32, .f32⟩
  | 11 => ⟨S32, .f32⟩
  | 12 => ⟨S_, .f32⟩
  | 13 => ⟨S32, .f32⟩
  | 14 => ⟨S32, .f32⟩
  | 15 => ⟨S_, .f32⟩
  | 16 => ⟨S32, .f32⟩
  | 17 => ⟨S32, .f32⟩
  | 18 => ⟨S_, .f32⟩
  | 19 => ⟨S32, .f32⟩
  | 20 => ⟨S32, .f32⟩
  | 21 => ⟨S2048, .f32⟩
  | 22 => ⟨S2048x1, .f32⟩
  | 23 => ⟨S1x32, .f32⟩
  | 24 => ⟨S2048x32, .f32⟩
  | 25 => ⟨S2048x32, .f32⟩
  | 26 => ⟨S2048x32, .f32⟩
  | 27 => ⟨S2048x32, .f32⟩
  | 28 => ⟨S2048x32, .f32⟩
  | 29 => ⟨S65536x1024, .f32⟩
  | 30 => ⟨S_, .f32⟩
  | 31 => ⟨S65536, .f32⟩
  | 32 => ⟨S65536x1, .f32⟩
  | 33 => ⟨S_, .f32⟩
  | 34 => ⟨S65536x1, .f32⟩
  | 35 => ⟨S65536x1, .f32⟩
  | 36 => ⟨S_, .f32⟩
  | 37 => ⟨S65536x1, .f32⟩
  | 38 => ⟨S65536x1, .f32⟩
  | 39 => ⟨S65536x1, .f32⟩
  | 40 => ⟨S65536x1024, .f32⟩
  | 41 => ⟨S65536x1024, .f32⟩
  | 42 => ⟨S1024, .f32⟩
  | 43 => ⟨S1x1024, .f32⟩
  | 44 => ⟨S65536x1024, .f32⟩
  | 45 => ⟨S65536x1024, .f32⟩
  | 46 => ⟨S1024x9216, .f32⟩
  | 47 => ⟨S65536x9216, .f32⟩
  | 48 => ⟨S65536x1024, .f32⟩
  | 49 => ⟨S65536x1024, .f32⟩
  | 50 => ⟨S65536x1024, .f32⟩
  | 51 => ⟨S65536x1024, .f32⟩
  | 52 => ⟨S65536x1024, .f32⟩
  | 53 => ⟨S65536x1024, .f32⟩
  | 54 => ⟨S65536x1024, .f32⟩
  | 55 => ⟨S65536x1024, .f32⟩
  | 56 => ⟨S65536x1024, .f32⟩
  | 57 => ⟨S_, .f32⟩
  | 58 => ⟨S65536, .f32⟩
  | 59 => ⟨S65536x1, .f32⟩
  | 60 => ⟨S_, .f32⟩
  | 61 => ⟨S65536x1, .f32⟩
  | 62 => ⟨S65536x1, .f32⟩
  | 63 => ⟨S65536x1024, .f32⟩
  | 64 => ⟨S65536x1024, .f32⟩
  | 65 => ⟨S65536x1024, .f32⟩
  | 66 => ⟨S_, .f32⟩
  | 67 => ⟨S65536, .f32⟩
  | 68 => ⟨S65536x1, .f32⟩
  | 69 => ⟨S_, .f32⟩
  | 70 => ⟨S65536x1, .f32⟩
  | 71 => ⟨S65536x1, .f32⟩
  | 72 => ⟨S65536x1024, .f32⟩
  | 73 => ⟨S65536x1024, .f32⟩
  | 74 => ⟨S_, .f32⟩
  | 75 => ⟨S65536x1, .f32⟩
  | 76 => ⟨S65536x1, .f32⟩
  | 77 => ⟨S65536x1, .f32⟩
  | 78 => ⟨S65536x1024, .f32⟩
  | 79 => ⟨S65536x1024, .f32⟩
  | 80 => ⟨S1024, .f32⟩
  | 81 => ⟨S1x1024, .f32⟩
  | 82 => ⟨S65536x1024, .f32⟩
  | 83 => ⟨S65536x1024, .f32⟩
  | 84 => ⟨S1024, .f32⟩
  | 85 => ⟨S1x1024, .f32⟩
  | 86 => ⟨S65536x1024, .f32⟩
  | 87 => ⟨S65536x1024, .f32⟩
  | 88 => ⟨S65536x1024, .f32⟩
  | 89 => ⟨S65536x1024, .f32⟩
  | 90 => ⟨S_, .f32⟩
  | 91 => ⟨S65536x1024, .f32⟩
  | 92 => ⟨S65536x1024, .f32⟩
  | 93 => ⟨S_, .f32⟩
  | 94 => ⟨S65536x1024, .f32⟩
  | 95 => ⟨S65536x1024, .f32⟩
  | 96 => ⟨S65536x1024, .f32⟩
  | 97 => ⟨S65536x1024, .f32⟩
  | 98 => ⟨S65536x1024, .bf16⟩
  | 99 => ⟨S65536x1024, .bf16⟩
  | 100 => ⟨S32x2048x8x2x64, .f32⟩
  | 101 => ⟨S32x2048x8x2x32, .f32⟩
  | 102 => ⟨S32x2048x8x2x32, .f32⟩
  | 103 => ⟨S2048x1x1x32, .f32⟩
  | 104 => ⟨S2048x1x1x32, .f32⟩
  | 105 => ⟨S1x2048x1x1x32, .f32⟩
  | 106 => ⟨S32x2048x8x2x32, .f32⟩
  | 107 => ⟨S32x2048x8x2x32, .f32⟩
  | 108 => ⟨S1x2048x1x1x32, .f32⟩
  | 109 => ⟨S32x2048x8x2x32, .f32⟩
  | 110 => ⟨S32x2048x8x2x32, .f32⟩
  | 111 => ⟨S32x2048x8x2x32, .f32⟩
  | 112 => ⟨S1x2048x1x1x32, .f32⟩
  | 113 => ⟨S32x2048x8x2x32, .f32⟩
  | 114 => ⟨S32x2048x8x2x32, .f32⟩
  | 115 => ⟨S1x2048x1x1x32, .f32⟩
  | 116 => ⟨S32x2048x8x2x32, .f32⟩
  | 117 => ⟨S32x2048x8x2x32, .f32⟩
  | 118 => ⟨S32x2048x8x2x32, .f32⟩
  | 119 => ⟨S32x2048x8x2x64, .f32⟩
  | 120 => ⟨S_, .f32⟩
  | 121 => ⟨S32x2048x8x2x64, .f32⟩
  | 122 => ⟨S32x2048x8x2x64, .f32⟩
  | 123 => ⟨S32x2048x8x128, .f32⟩
  | 124 => ⟨S32x8x2048x128, .f32⟩
  | 125 => ⟨S32x8x2048x128, .bf16⟩
  | 126 => ⟨S32x2048x8x2x64, .f32⟩
  | 127 => ⟨S32x2048x8x2x32, .f32⟩
  | _ => ⟨S65536x1024, .f32⟩

abbrev hbmTy0_1 (i : Nat) : BufTy := match i % 128 with
  | 0 => ⟨S32x2048x8x2x32, .f32⟩
  | 1 => ⟨S2048x1x1x32, .f32⟩
  | 2 => ⟨S2048x1x1x32, .f32⟩
  | 3 => ⟨S1x2048x1x1x32, .f32⟩
  | 4 => ⟨S32x2048x8x2x32, .f32⟩
  | 5 => ⟨S32x2048x8x2x32, .f32⟩
  | 6 => ⟨S1x2048x1x1x32, .f32⟩
  | 7 => ⟨S32x2048x8x2x32, .f32⟩
  | 8 => ⟨S32x2048x8x2x32, .f32⟩
  | 9 => ⟨S32x2048x8x2x32, .f32⟩
  | 10 => ⟨S1x2048x1x1x32, .f32⟩
  | 11 => ⟨S32x2048x8x2x32, .f32⟩
  | 12 => ⟨S32x2048x8x2x32, .f32⟩
  | 13 => ⟨S1x2048x1x1x32, .f32⟩
  | 14 => ⟨S32x2048x8x2x32, .f32⟩
  | 15 => ⟨S32x2048x8x2x32, .f32⟩
  | 16 => ⟨S32x2048x8x2x32, .f32⟩
  | 17 => ⟨S32x2048x8x2x64, .f32⟩
  | 18 => ⟨S32x2048x8x128, .f32⟩
  | 19 => ⟨S32x8x2048x128, .f32⟩
  | 20 => ⟨S32x8x2048x128, .bf16⟩
  | 21 => ⟨S32x2048x8x128, .f32⟩
  | 22 => ⟨S32x8x2048x128, .f32⟩
  | 23 => ⟨S32x8x2048x128, .bf16⟩
  | 24 => ⟨S65536x1024, .f32⟩
  | 25 => ⟨S65536x1024, .f32⟩
  | 26 => ⟨S_, .f32⟩
  | 27 => ⟨S65536x1024, .f32⟩
  | 28 => ⟨S65536x1024, .f32⟩
  | 29 => ⟨S_, .f32⟩
  | 30 => ⟨S65536x1024, .f32⟩
  | 31 => ⟨S65536x1024, .f32⟩
  | 32 => ⟨S65536x1024, .f32⟩
  | 33 => ⟨S32x2048x8x128, .f32⟩
  | 34 => ⟨S32x8x2048x128, .f32⟩
  | 35 => ⟨S32x8x2048x128, .bf16⟩
  | 36 => ⟨S65536x1024, .f32⟩
  | 37 => ⟨S65536x1024, .f32⟩
  | 38 => ⟨S_, .f32⟩
  | 39 => ⟨S65536x1024, .f32⟩
  | 40 => ⟨S65536x1024, .f32⟩
  | 41 => ⟨S_, .f32⟩
  | 42 => ⟨S65536x1024, .f32⟩
  | 43 => ⟨S65536x1024, .f32⟩
  | 44 => ⟨S65536x1024, .bf16⟩
  | 45 => ⟨S65536x1024, .f32⟩
  | 46 => ⟨S65536x1024, .f32⟩
  | 47 => ⟨S_, .f32⟩
  | 48 => ⟨S65536x1024, .f32⟩
  | 49 => ⟨S65536x1024, .f32⟩
  | 50 => ⟨S_, .f32⟩
  | 51 => ⟨S65536x1024, .f32⟩
  | 52 => ⟨S65536x1024, .f32⟩
  | 53 => ⟨S65536x1024, .bf16⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_7 : Ref sig .tc := ⟨.hbm, 57, rfl⟩
abbrev main_v44 : Ref sig .tc := ⟨.hbm, 58, rfl⟩
abbrev main_v45 : Ref sig .tc := ⟨.hbm, 59, rfl⟩
abbrev main_cst_8 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_9 : Ref sig .tc := ⟨.hbm, 66, rfl⟩
abbrev main_v51 : Ref sig .tc := ⟨.hbm, 67, rfl⟩
abbrev main_v52 : Ref sig .tc := ⟨.hbm, 68, rfl⟩
abbrev main_cst_10 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_11 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_call0_v0 : Ref sig .tc := ⟨.hbm, 88, rfl⟩
abbrev main_call0_v1 : Ref sig .tc := ⟨.hbm, 89, rfl⟩
abbrev main_call0_cst : Ref sig .tc := ⟨.hbm, 90, rfl⟩
abbrev main_call0_v2 : Ref sig .tc := ⟨.hbm, 91, rfl⟩
abbrev main_call0_v3 : Ref sig .tc := ⟨.hbm, 92, rfl⟩
abbrev main_call0_cst_0 : Ref sig .tc := ⟨.hbm, 93, rfl⟩
abbrev main_call0_v4 : Ref sig .tc := ⟨.hbm, 94, rfl⟩
abbrev main_call0_v5 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_cst_12 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_call1_v0 : Ref sig .tc := ⟨.hbm, 152, rfl⟩
abbrev main_call1_v1 : Ref sig .tc := ⟨.hbm, 153, rfl⟩
abbrev main_call1_cst : Ref sig .tc := ⟨.hbm, 154, rfl⟩
abbrev main_call1_v2 : Ref sig .tc := ⟨.hbm, 155, rfl⟩
abbrev main_call1_v3 : Ref sig .tc := ⟨.hbm, 156, rfl⟩
abbrev main_call1_cst_0 : Ref sig .tc := ⟨.hbm, 157, rfl⟩
abbrev main_call1_v4 : Ref sig .tc := ⟨.hbm, 158, rfl⟩
abbrev main_call1_v5 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_cst_13 : Ref sig .tc := ⟨.hbm, 166, rfl⟩
abbrev main_v131 : Ref sig .tc := ⟨.hbm, 167, rfl⟩
abbrev main_v132 : Ref sig .tc := ⟨.hbm, 168, rfl⟩
abbrev main_cst_14 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_cst_15 : Ref sig .tc := ⟨.hbm, 175, rfl⟩
abbrev main_v138 : Ref sig .tc := ⟨.hbm, 176, rfl⟩
abbrev main_v139 : Ref sig .tc := ⟨.hbm, 177, rfl⟩
abbrev main_cst_16 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩

abbrev nD : Nat := 1
abbrev τ : Topo := Topo.v7x

variable {F : FTy → Type} [FloatOps F]
-- ==== Proof.Res.lean ====
module

public import proofs.«01_k».proof.Proof.Gen.Kernel.Loops
public import proofs.«01_k».proof.Proof.Gen.Kernel.Launch

/-!
# What one grid point of the attention call holds

The body of the call works on the staging buffers of its operands and on five scratch buffers.  This module names the
resources that the pipelined loop of the body touches.
-/

@[expose] public section

set_option maxRecDepth 16384

noncomputable section

namespace Cert.Proof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- No program variants are in play. -/
abbrev 𝒱₀ : Variants := Variants.none

/-- Core `c` holds the buffer behind `a`, all of it, with contents `f`. -/
abbrev At (c : Dev nD) {s : Shape} {e : EltTy} (a : Memref sig .tc .vmem s e) (f : Buf (Elt F) (a.view.loc (c : Thread nD τ))) : sProp 𝕄 :=
  a.view.loc (c : Thread nD τ) ↦[a.view.set]{fullShare} f

section Held

variable (c : Dev nD)
  (arg7 : Memref sig .tc .vmem S1x4x2048x128 .bf16) (arg8 : Memref sig .tc .vmem S1x4x2048x128 .bf16)
  (arg10 : Memref sig .tc .vmem S1x4x2048x128 .bf16) (arg11 : Memref sig .tc .vmem S1x4x2048x128 .bf16)
  (arg12 : Memref sig .tc .vmem S4x128x2048 .bf16)
  (arg13 : Memref sig .tc .vmem S2048x512 .f32) (arg14 : Memref sig .tc .vmem S2048x512 .f32)
  (arg15 : Memref sig .tc .vmem S2048x512 .bf16) (arg16 : Memref sig .tc .vmem S2048x512 .bf16)

/-- The buffers one step of the pipeline touches: queries, keys, gates, the output block, the transposed values, the two
    score slots and the two weight slots. -/
abbrev Held (f7 : Buf (Elt F) (arg7.view.loc (c : Thread nD τ))) (f8 : Buf (Elt F) (arg8.view.loc (c : Thread nD τ)))
    (f10 : Buf (Elt F) (arg10.view.loc (c : Thread nD τ))) (f12 : Buf (Elt F) (arg12.view.loc (c : Thread nD τ)))
    (f11 : Buf (Elt F) (arg11.view.loc (c : Thread nD τ)))
    (f13 : Buf (Elt F) (arg13.view.loc (c : Thread nD τ))) (f14 : Buf (Elt F) (arg14.view.loc (c : Thread nD τ)))
    (f15 : Buf (Elt F) (arg15.view.loc (c : Thread nD τ))) (f16 : Buf (Elt F) (arg16.view.loc (c : Thread nD τ))) : sProp 𝕄 :=
  iprop(At c arg7 f7 ∗ At c arg8 f8 ∗ At c arg10 f10 ∗ At c arg12 f12 ∗ At c arg11 f11
    ∗ At c arg13 f13 ∗ At c arg14 f14 ∗ At c arg15 f15 ∗ At c arg16 f16)

end Held

end Cert.Proof

end
-- ==== Proof.TripEven.lean ====
module

public import proofs.«01_k».proof.Proof.Res
public import Idealize.ShloMosaic.Lib.Ring
public import Idealize.ShloMosaic.Lib.Affine
public import Idealize.ShloMosaic.Lib.Tactic

@[expose] public section

set_option maxRecDepth 16384

noncomputable section

namespace Cert.Proof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (arg2 : Memref sig .tc .vmem S1x64 .f32) (harg2 : arg2.IsWhole)
  (arg3 : Memref sig .tc .vmem S1x64 .f32) (harg3 : arg3.IsWhole)
  (arg4 : Memref sig .tc .vmem S1x64 .f32) (harg4 : arg4.IsWhole)
  (arg5 : Memref sig .tc .vmem S1x64 .f32) (harg5 : arg5.IsWhole)
  (arg6 : Memref sig .tc .vmem S1x128 .f32) (harg6 : arg6.IsWhole)
  (arg7 : Memref sig .tc .vmem S1x4x2048x128 .bf16) (harg7 : arg7.IsWhole)
  (arg8 : Memref sig .tc .vmem S1x4x2048x128 .bf16) (harg8 : arg8.IsWhole)
  (arg9 : Memref sig .tc .vmem S1x4x2048x128 .bf16) (harg9 : arg9.IsWhole)
  (arg10 : Memref sig .tc .vmem S1x4x2048x128 .bf16) (harg10 : arg10.IsWhole)
  (arg11 : Memref sig .tc .vmem S1x4x2048x128 .bf16) (harg11 : arg11.IsWhole)
  (arg12 : Memref sig .tc .vmem S4x128x2048 .bf16) (harg12 : arg12.IsWhole)
  (arg13 : Memref sig .tc .vmem S2048x512 .f32) (harg13 : arg13.IsWhole)
  (arg14 : Memref sig .tc .vmem S2048x512 .f32) (harg14 : arg14.IsWhole)
  (arg15 : Memref sig .tc .vmem S2048x512 .bf16) (harg15 : arg15.IsWhole)
  (arg16 : Memref sig .tc .vmem S2048x512 .bf16) (harg16 : arg16.IsWhole)
  (v14 : FVec F S1x1 .f32) (v17 : FVec F S1x128 .f32) (v44 : IVec S256x128 1) (v557 : FVec F S8x512 .f32) (v559 : FVec F S1x512 .f32)

set_option backward.proofsInPublic true in
set_option maxHeartbeats 4000000 in
/-- One even trip of the pipelined loop: what it writes into the output block, the first score slot and the second weight
    slot, and the two rows it hands on. -/
@[irreducible] def tripEven (k : Fin k0_t1_loop.trips) (hk : k0_cond1 k = 1#1) (a18 a19 : FVec F S1x512 .f32)
    (f7 : Buf (Elt F) (arg7.view.loc (c : Thread nD τ))) (f8 : Buf (Elt F) (arg8.view.loc (c : Thread nD τ)))
    (f10 : Buf (Elt F) (arg10.view.loc (c : Thread nD τ))) (f12 : Buf (Elt F) (arg12.view.loc (c : Thread nD τ)))
    (f11 : Buf (Elt F) (arg11.view.loc (c : Thread nD τ)))
    (f13 : Buf (Elt F) (arg13.view.loc (c : Thread nD τ))) (f14 : Buf (Elt F) (arg14.view.loc (c : Thread nD τ)))
    (f15 : Buf (Elt F) (arg15.view.loc (c : Thread nD τ))) (f16 : Buf (Elt F) (arg16.view.loc (c : Thread nD τ))) :
    Σ' (L11 : List (View.Piece (Elt F) S1x4x2048x128 .bf16)) (L13 : List (View.Piece (Elt F) S2048x512 .f32))
      (L16 : List (View.Piece (Elt F) S2048x512 .bf16)),
      { r : FVec F S1x512 .f32 × FVec F S1x512 .f32 //
        Held c arg7 arg8 arg10 arg11 arg12 arg13 arg14 arg15 arg16 f7 f8 f10 f12 f11 f13 f14 f15 f16
        ⊢ wp frame (wpE (defs₀ (F := F)) 𝒱₀ (c : Thread nD τ) none) Set.univ
          (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 v14 v17 v44 v557 v559 k (a18, a19))
          (fun r' => iprop(⌜r' = r⌝ ∗ Held c arg7 arg8 arg10 arg11 arg12 arg13 arg14 arg15 arg16 f7 f8 f10 f12
            (arg11.view.writes (Elt F) f11 L11) (arg13.view.writes (Elt F) f13 L13) f14 f15 (arg16.view.writes (Elt F) f16 L16))) } := by
  refine ⟨?_, ?_, ?_, ?_, ?run⟩
  case run =>
    unfold k0_t1_body
    iintro ⟨H7, H8, H10, H12, H11, H13, H14, H15, H16⟩
    sl_exec_parts
    sl_step
    isplitr; · ipureintro; rfl
    sl_close

end Cert.Proof

end
-- ==== Proof.TripOdd.lean ====
module

public import proofs.«01_k».proof.Proof.Res
public import Idealize.ShloMosaic.Lib.Ring
public import Idealize.ShloMosaic.Lib.Affine
public import Idealize.ShloMosaic.Lib.Tactic

@[expose] public section

set_option maxRecDepth 16384

noncomputable section

namespace Cert.Proof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (arg2 : Memref sig .tc .vmem S1x64 .f32) (harg2 : arg2.IsWhole)
  (arg3 : Memref sig .tc .vmem S1x64 .f32) (harg3 : arg3.IsWhole)
  (arg4 : Memref sig .tc .vmem S1x64 .f32) (harg4 : arg4.IsWhole)
  (arg5 : Memref sig .tc .vmem S1x64 .f32) (harg5 : arg5.IsWhole)
  (arg6 : Memref sig .tc .vmem S1x128 .f32) (harg6 : arg6.IsWhole)
  (arg7 : Memref sig .tc .vmem S1x4x2048x128 .bf16) (harg7 : arg7.IsWhole)
  (arg8 : Memref sig .tc .vmem S1x4x2048x128 .bf16) (harg8 : arg8.IsWhole)
  (arg9 : Memref sig .tc .vmem S1x4x2048x128 .bf16) (harg9 : arg9.IsWhole)
  (arg10 : Memref sig .tc .vmem S1x4x2048x128 .bf16) (harg10 : arg10.IsWhole)
  (arg11 : Memref sig .tc .vmem S1x4x2048x128 .bf16) (harg11 : arg11.IsWhole)
  (arg12 : Memref sig .tc .vmem S4x128x2048 .bf16) (harg12 : arg12.IsWhole)
  (arg13 : Memref sig .tc .vmem S2048x512 .f32) (harg13 : arg13.IsWhole)
  (arg14 : Memref sig .tc .vmem S2048x512 .f32) (harg14 : arg14.IsWhole)
  (arg15 : Memref sig .tc .vmem S2048x512 .bf16) (harg15 : arg15.IsWhole)
  (arg16 : Memref sig .tc .vmem S2048x512 .bf16) (harg16 : arg16.IsWhole)
  (v14 : FVec F S1x1 .f32) (v17 : FVec F S1x128 .f32) (v44 : IVec S256x128 1) (v557 : FVec F S8x512 .f32) (v559 : FVec F S1x512 .f32)

set_option backward.proofsInPublic true in
set_option maxHeartbeats 4000000 in
/-- One odd trip of the pipelined loop: what it writes into the output block, the second score slot and the first weight
    slot, and the two rows it hands on. -/
@[irreducible] def tripOdd (k : Fin k0_t1_loop.trips) (hk : ¬ k0_cond1 k = 1#1) (a18 a19 : FVec F S1x512 .f32)
    (f7 : Buf (Elt F) (arg7.view.loc (c : Thread nD τ))) (f8 : Buf (Elt F) (arg8.view.loc (c : Thread nD τ)))
    (f10 : Buf (Elt F) (arg10.view.loc (c : Thread nD τ))) (f12 : Buf (Elt F) (arg12.view.loc (c : Thread nD τ)))
    (f11 : Buf (Elt F) (arg11.view.loc (c : Thread nD τ)))
    (f13 : Buf (Elt F) (arg13.view.loc (c : Thread nD τ))) (f14 : Buf (Elt F) (arg14.view.loc (c : Thread nD τ)))
    (f15 : Buf (Elt F) (arg15.view.loc (c : Thread nD τ))) (f16 : Buf (Elt F) (arg16.view.loc (c : Thread nD τ))) :
    Σ' (L11 : List (View.Piece (Elt F) S1x4x2048x128 .bf16)) (L14 : List (View.Piece (Elt F) S2048x512 .f32))
      (L15 : List (View.Piece (Elt F) S2048x512 .bf16)),
      { r : FVec F S1x512 .f32 × FVec F S1x512 .f32 //
        Held c arg7 arg8 arg10 arg11 arg12 arg13 arg14 arg15 arg16 f7 f8 f10 f12 f11 f13 f14 f15 f16
        ⊢ wp frame (wpE (defs₀ (F := F)) 𝒱₀ (c : Thread nD τ) none) Set.univ
          (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 v14 v17 v44 v557 v559 k (a18, a19))
          (fun r' => iprop(⌜r' = r⌝ ∗ Held c arg7 arg8 arg10 arg11 arg12 arg13 arg14 arg15 arg16 f7 f8 f10 f12
            (arg11.view.writes (Elt F) f11 L11) f13 (arg14.view.writes (Elt F) f14 L14) (arg15.view.writes (Elt F) f15 L15) f16)) } := by
  refine ⟨?_, ?_, ?_, ?_, ?run⟩
  case run =>
    unfold k0_t1_body
    iintro ⟨H7, H8, H10, H12, H11, H13, H14, H15, H16⟩
    sl_exec_parts
    sl_step
    isplitr; · ipureintro; rfl
    sl_close

end Cert.Proof

end
-- ==== Proof.Pipe.lean ====
module

public import proofs.«01_k».proof.Proof.TripEven
public import proofs.«01_k».proof.Proof.TripOdd

/-!
# The pipelined loop

The contents of the buffers before every trip of the pipelined loop, by recursion from the contents at its entry, and the
invariant that holds them.
-/

@[expose] public section

set_option maxRecDepth 16384

noncomputable section

namespace Cert.Proof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (arg2 : Memref sig .tc .vmem S1x64 .f32) (harg2 : arg2.IsWhole)
  (arg3 : Memref sig .tc .vmem S1x64 .f32) (harg3 : arg3.IsWhole)
  (arg4 : Memref sig .tc .vmem S1x64 .f32) (harg4 : arg4.IsWhole)
  (arg5 : Memref sig .tc .vmem S1x64 .f32) (harg5 : arg5.IsWhole)
  (arg6 : Memref sig .tc .vmem S1x128 .f32) (harg6 : arg6.IsWhole)
  (arg7 : Memref sig .tc .vmem S1x4x2048x128 .bf16) (harg7 : arg7.IsWhole)
  (arg8 : Memref sig .tc .vmem S1x4x2048x128 .bf16) (harg8 : arg8.IsWhole)
  (arg9 : Memref sig .tc .vmem S1x4x2048x128 .bf16) (harg9 : arg9.IsWhole)
  (arg10 : Memref sig .tc .vmem S1x4x2048x128 .bf16) (harg10 : arg10.IsWhole)
  (arg11 : Memref sig .tc .vmem S1x4x2048x128 .bf16) (harg11 : arg11.IsWhole)
  (arg12 : Memref sig .tc .vmem S4x128x2048 .bf16) (harg12 : arg12.IsWhole)
  (arg13 : Memref sig .tc .vmem S2048x512 .f32) (harg13 : arg13.IsWhole)
  (arg14 : Memref sig .tc .vmem S2048x512 .f32) (harg14 : arg14.IsWhole)
  (arg15 : Memref sig .tc .vmem S2048x512 .bf16) (harg15 : arg15.IsWhole)
  (arg16 : Memref sig .tc .vmem S2048x512 .bf16) (harg16 : arg16.IsWhole)
  (v14 : FVec F S1x1 .f32) (v17 : FVec F S1x128 .f32) (v44 : IVec S256x128 1) (v557 : FVec F S8x512 .f32) (v559 : FVec F S1x512 .f32)

/-- What the loop changes: the output block, the two score slots, the two weight slots, and the rows it carries. -/
structure PipeState where
  f11 : Buf (Elt F) (arg11.view.loc (c : Thread nD τ))
  f13 : Buf (Elt F) (arg13.view.loc (c : Thread nD τ))
  f14 : Buf (Elt F) (arg14.view.loc (c : Thread nD τ))
  f15 : Buf (Elt F) (arg15.view.loc (c : Thread nD τ))
  f16 : Buf (Elt F) (arg16.view.loc (c : Thread nD τ))
  m : FVec F S1x512 .f32
  l : FVec F S1x512 .f32

variable
  (f7 : Buf (Elt F) (arg7.view.loc (c : Thread nD τ)))
  (f8 : Buf (Elt F) (arg8.view.loc (c : Thread nD τ)))
  (f10 : Buf (Elt F) (arg10.view.loc (c : Thread nD τ)))
  (f12 : Buf (Elt F) (arg12.view.loc (c : Thread nD τ)))

/-- The state after an even trip. -/
def evenNext (k : Fin k0_t1_loop.trips) (hk : k0_cond1 k = 1#1) (s : PipeState (F := F) c arg11 arg13 arg14 arg15 arg16) :
    PipeState (F := F) c arg11 arg13 arg14 arg15 arg16 :=
  let t := tripEven c i arg2 harg2 arg3 harg3 arg4 harg4 arg5 harg5 arg6 harg6 arg7 harg7 arg8 harg8 arg9 harg9 arg10 harg10 arg11 harg11 arg12 harg12 arg13 harg13 arg14 harg14 arg15 harg15 arg16 harg16 v14 v17 v44 v557 v559 k hk s.m s.l f7 f8 f10 f12 s.f11 s.f13 s.f14 s.f15 s.f16
  ⟨arg11.view.writes (Elt F) s.f11 t.1, arg13.view.writes (Elt F) s.f13 t.2.1, s.f14, s.f15,
    arg16.view.writes (Elt F) s.f16 t.2.2.1, t.2.2.2.1.1, t.2.2.2.1.2⟩

/-- The state after an odd trip. -/
def oddNext (k : Fin k0_t1_loop.trips) (hk : ¬ k0_cond1 k = 1#1) (s : PipeState (F := F) c arg11 arg13 arg14 arg15 arg16) :
    PipeState (F := F) c arg11 arg13 arg14 arg15 arg16 :=
  let t := tripOdd c i arg2 harg2 arg3 harg3 arg4 harg4 arg5 harg5 arg6 harg6 arg7 harg7 arg8 harg8 arg9 harg9 arg10 harg10 arg11 harg11 arg12 harg12 arg13 harg13 arg14 harg14 arg15 harg15 arg16 harg16 v14 v17 v44 v557 v559 k hk s.m s.l f7 f8 f10 f12 s.f11 s.f13 s.f14 s.f15 s.f16
  ⟨arg11.view.writes (Elt F) s.f11 t.1, s.f13, arg14.view.writes (Elt F) s.f14 t.2.1,
    arg15.view.writes (Elt F) s.f15 t.2.2.1, s.f16, t.2.2.2.1.1, t.2.2.2.1.2⟩

/-- The state after one trip. -/
def next (k : Fin k0_t1_loop.trips) (s : PipeState (F := F) c arg11 arg13 arg14 arg15 arg16) :
    PipeState (F := F) c arg11 arg13 arg14 arg15 arg16 :=
  if hk : k0_cond1 k = 1#1 then evenNext c i arg2 harg2 arg3 harg3 arg4 harg4 arg5 harg5 arg6 harg6 arg7 harg7 arg8 harg8 arg9 harg9 arg10 harg10 arg11 harg11 arg12 harg12 arg13 harg13 arg14 harg14 arg15 harg15 arg16 harg16 v14 v17 v44 v557 v559 f7 f8 f10 f12 k hk s
  else oddNext c i arg2 harg2 arg3 harg3 arg4 harg4 arg5 harg5 arg6 harg6 arg7 harg7 arg8 harg8 arg9 harg9 arg10 harg10 arg11 harg11 arg12 harg12 arg13 harg13 arg14 harg14 arg15 harg15 arg16 harg16 v14 v17 v44 v557 v559 f7 f8 f10 f12 k hk s

/-- The state before trip `k`. -/
def stAt (s0 : PipeState (F := F) c arg11 arg13 arg14 arg15 arg16) : ℕ → PipeState (F := F) c arg11 arg13 arg14 arg15 arg16
  | 0 => s0
  | k + 1 => if h : k < k0_t1_loop.trips then next c i arg2 harg2 arg3 harg3 arg4 harg4 arg5 harg5 arg6 harg6 arg7 harg7 arg8 harg8 arg9 harg9 arg10 harg10 arg11 harg11 arg12 harg12 arg13 harg13 arg14 harg14 arg15 harg15 arg16 harg16 v14 v17 v44 v557 v559 f7 f8 f10 f12 ⟨k, h⟩ (stAt s0 k) else stAt s0 k

theorem stAt_succ (s0 : PipeState (F := F) c arg11 arg13 arg14 arg15 arg16) (k : Fin k0_t1_loop.trips) :
    stAt c i arg2 harg2 arg3 harg3 arg4 harg4 arg5 harg5 arg6 harg6 arg7 harg7 arg8 harg8 arg9 harg9 arg10 harg10 arg11 harg11 arg12 harg12 arg13 harg13 arg14 harg14 arg15 harg15 arg16 harg16 v14 v17 v44 v557 v559 f7 f8 f10 f12 s0 (k.val + 1)
      = next c i arg2 harg2 arg3 harg3 arg4 harg4 arg5 harg5 arg6 harg6 arg7 harg7 arg8 harg8 arg9 harg9 arg10 harg10 arg11 harg11 arg12 harg12 arg13 harg13 arg14 harg14 arg15 harg15 arg16 harg16 v14 v17 v44 v557 v559 f7 f8 f10 f12 k
          (stAt c i arg2 harg2 arg3 harg3 arg4 harg4 arg5 harg5 arg6 harg6 arg7 harg7 arg8 harg8 arg9 harg9 arg10 harg10 arg11 harg11 arg12 harg12 arg13 harg13 arg14 harg14 arg15 harg15 arg16 harg16 v14 v17 v44 v557 v559 f7 f8 f10 f12 s0 k.val) := by
  rw [stAt, dif_pos k.isLt]

/-- The buffers at a state. -/
abbrev HeldAt (s : PipeState (F := F) c arg11 arg13 arg14 arg15 arg16) : sProp 𝕄 :=
  Held c arg7 arg8 arg10 arg11 arg12 arg13 arg14 arg15 arg16 f7 f8 f10 f12 s.f11 s.f13 s.f14 s.f15 s.f16

/-- One trip takes the buffers from a state to the next. -/
theorem trip_next (k : Fin k0_t1_loop.trips) (s : PipeState (F := F) c arg11 arg13 arg14 arg15 arg16) :
    HeldAt c arg7 arg8 arg10 arg11 arg12 arg13 arg14 arg15 arg16 f7 f8 f10 f12 s
    ⊢ wp frame (wpE (defs₀ (F := F)) 𝒱₀ (c : Thread nD τ) none) Set.univ
      (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 v14 v17 v44 v557 v559 k (s.m, s.l))
      (fun r => iprop(⌜r = ((next c i arg2 harg2 arg3 harg3 arg4 harg4 arg5 harg5 arg6 harg6 arg7 harg7 arg8 harg8 arg9 harg9 arg10 harg10 arg11 harg11 arg12 harg12 arg13 harg13 arg14 harg14 arg15 harg15 arg16 harg16 v14 v17 v44 v557 v559 f7 f8 f10 f12 k s).m,
          (next c i arg2 harg2 arg3 harg3 arg4 harg4 arg5 harg5 arg6 harg6 arg7 harg7 arg8 harg8 arg9 harg9 arg10 harg10 arg11 harg11 arg12 harg12 arg13 harg13 arg14 harg14 arg15 harg15 arg16 harg16 v14 v17 v44 v557 v559 f7 f8 f10 f12 k s).l)⌝
        ∗ HeldAt c arg7 arg8 arg10 arg11 arg12 arg13 arg14 arg15 arg16 f7 f8 f10 f12
          (next c i arg2 harg2 arg3 harg3 arg4 harg4 arg5 harg5 arg6 harg6 arg7 harg7 arg8 harg8 arg9 harg9 arg10 harg10 arg11 harg11 arg12 harg12 arg13 harg13 arg14 harg14 arg15 harg15 arg16 harg16 v14 v17 v44 v557 v559 f7 f8 f10 f12 k s))) := by
  by_cases hk : k0_cond1 k = 1#1
  · rw [next, dif_pos hk]
    unfold evenNext
    generalize tripEven c i arg2 harg2 arg3 harg3 arg4 harg4 arg5 harg5 arg6 harg6 arg7 harg7 arg8 harg8 arg9 harg9 arg10 harg10 arg11 harg11 arg12 harg12 arg13 harg13 arg14 harg14 arg15 harg15 arg16 harg16 v14 v17 v44 v557 v559 k hk s.m s.l f7 f8 f10 f12 s.f11 s.f13 s.f14 s.f15 s.f16 = t
    exact t.2.2.2.2
  · rw [next, dif_neg hk]
    unfold oddNext
    generalize tripOdd c i arg2 harg2 arg3 harg3 arg4 harg4 arg5 harg5 arg6 harg6 arg7 harg7 arg8 harg8 arg9 harg9 arg10 harg10 arg11 harg11 arg12 harg12 arg13 harg13 arg14 harg14 arg15 harg15 arg16 harg16 v14 v17 v44 v557 v559 k hk s.m s.l f7 f8 f10 f12 s.f11 s.f13 s.f14 s.f15 s.f16 = t
    exact t.2.2.2.2

set_option warn.classDefReducibility false in
/-- The loop's invariant: before trip `k` the buffers stand at `stAt k` and the carried rows are that state's. -/
@[sl_loop] def loopInv
  (f11 : Buf (Elt F) (arg11.view.loc (c : Thread nD τ)))
  (f13 : Buf (Elt F) (arg13.view.loc (c : Thread nD τ)))
  (f14 : Buf (Elt F) (arg14.view.loc (c : Thread nD τ)))
  (f15 : Buf (Elt F) (arg15.view.loc (c : Thread nD τ)))
  (f16 : Buf (Elt F) (arg16.view.loc (c : Thread nD τ))) (m0 l0 : FVec F S1x512 .f32) :
    LoopInvTy_k0_t1 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 v14 v17 v44 v557 v559 (m0, l0) where
  inv k acc := iprop(⌜acc = ((stAt c i arg2 harg2 arg3 harg3 arg4 harg4 arg5 harg5 arg6 harg6 arg7 harg7 arg8 harg8 arg9 harg9 arg10 harg10 arg11 harg11 arg12 harg12 arg13 harg13 arg14 harg14 arg15 harg15 arg16 harg16 v14 v17 v44 v557 v559 f7 f8 f10 f12 ⟨f11, f13, f14, f15, f16, m0, l0⟩ k).m,
      (stAt c i arg2 harg2 arg3 harg3 arg4 harg4 arg5 harg5 arg6 harg6 arg7 harg7 arg8 harg8 arg9 harg9 arg10 harg10 arg11 harg11 arg12 harg12 arg13 harg13 arg14 harg14 arg15 harg15 arg16 harg16 v14 v17 v44 v557 v559 f7 f8 f10 f12 ⟨f11, f13, f14, f15, f16, m0, l0⟩ k).l)⌝
    ∗ HeldAt c arg7 arg8 arg10 arg11 arg12 arg13 arg14 arg15 arg16 f7 f8 f10 f12
      (stAt c i arg2 harg2 arg3 harg3 arg4 harg4 arg5 harg5 arg6 harg6 arg7 harg7 arg8 harg8 arg9 harg9 arg10 harg10 arg11 harg11 arg12 harg12 arg13 harg13 arg14 harg14 arg15 harg15 arg16 harg16 v14 v17 v44 v557 v559 f7 f8 f10 f12 ⟨f11, f13, f14, f15, f16, m0, l0⟩ k))
  step k acc := by
    iintro ⟨%h, H⟩
    rw [stAt_succ, h]
    iapply (trip_next c i arg2 harg2 arg3 harg3 arg4 harg4 arg5 harg5 arg6 harg6 arg7 harg7 arg8 harg8 arg9 harg9 arg10 harg10 arg11 harg11 arg12 harg12 arg13 harg13 arg14 harg14 arg15 harg15 arg16 harg16 v14 v17 v44 v557 v559 f7 f8 f10 f12 k _)
    iexact H

end Cert.Proof

end
-- ==== Proof.Spec.lean ====
module

public import proofs.«01_k».proof.Proof.Res
public import Idealize.ShloMosaic.Lib.VecWindow
public import Idealize.ShloMosaic.Lib.ValueIdxCore

/-!
# What one grid point computes, on vectors

The steps of the attention kernel as functions of vectors, with no buffers: the scores of a tile of 256 queries against the
2048 keys of its head (both maps side by side, the keys down the rows), the largest score of each column, the weights, their
sums, and the normalised, gated tile of the output. `outBlock` is the block of the output that one grid point writes.
-/

@[expose] public section

set_option maxRecDepth 16384

noncomputable section

namespace Cert.Proof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-! ## Parts of a block -/

/-- The 256 rows of a block that belong to tile `j`: head `j / 8`, rows from `256 · (j % 8)`. -/
def tileRows (X : Vec F S1x4x2048x128 .bf16) (j : ℕ) : Vec F S1x1x256x128 .bf16 :=
  View.ld (Val := Elt F) (e' := .bf16) X (Rect.unit ![0, min (j / 8) 3, j % 8 * 256, 0] ![1, 1, 256, 128]
    (by intro a; fin_cases a <;> simp <;> omega))

/-- The `c`-th 256 rows of head `h` of a block. -/
def headRows (X : Vec F S1x4x2048x128 .bf16) (h c : ℕ) : Vec F S1x1x256x128 .bf16 :=
  View.ld (Val := Elt F) (e' := .bf16) X (Rect.unit ![0, min h 3, min (256 * c) 1792, 0] ![1, 1, 256, 128]
    (by intro a; fin_cases a <;> simp <;> omega))

/-- Head `h` of a block, whole. -/
def headAll (X : Vec F S1x4x2048x128 .bf16) (h : ℕ) : Vec F S1x1x2048x128 .bf16 :=
  View.ld (Val := Elt F) (e' := .bf16) X (Rect.unit ![0, min h 3, 0, 0] ![1, 1, 2048, 128]
    (by intro a; fin_cases a <;> simp <;> omega))

/-- The `c`-th 64 rows of a 2048 × 512 array. -/
def rows64 (S : Vec F S2048x512 .f32) (c : ℕ) : Vec F S64x512 .f32 :=
  View.ld (Val := Elt F) (e' := .f32) S (Rect.unit ![min (64 * c) 1984, 0] ![64, 512]
    (by intro a; fin_cases a <;> simp))

/-- A 2048 × 512 array from its eight parts of 256 rows. -/
def stack256 {α : Type} (G : ℕ → S256x512.Idx → α) : S2048x512.Idx → α := fun y =>
  G ((y 0).val / 256) (ix2 ⟨(y 0).val % 256, Nat.mod_lt _ (by decide)⟩ ⟨(y 1).val, (y 1).isLt⟩)

/-- A 2048 × 512 array from its thirty-two parts of 64 rows. -/
def stack64 {α : Type} (G : ℕ → S64x512.Idx → α) : S2048x512.Idx → α := fun y =>
  G ((y 0).val / 64) (ix2 ⟨(y 0).val % 64, Nat.mod_lt _ (by decide)⟩ ⟨(y 1).val, (y 1).isLt⟩)

/-! ## The scores of a tile -/

/-- Which of the 128 lanes belong to the first map: the first 64. -/
def laneMask : IVec S256x128 1 := cmpi .slt (iota .tc S256x128 32 [1] iota_S256x128_d1_w32) (broadcast S256x128 64#32)

/-- The queries of a tile twice: once with only the first map's lanes kept, once with only the second's. -/
def twoMaps (msk : IVec S256x128 1) (q : Vec F S1x1x256x128 .bf16) : FVec F S512x128 .bf16 :=
  let x : FVec F S256x128 .bf16 := shapeCast S256x128 q shapeCasts_S1x1x256x128_S256x128
  let z : FVec F S256x128 .bf16 := broadcast S256x128 (Scalar.ofBits .bf16 0x0000#16)
  concatenate S512x128 0 [⟨S256x128, select msk x z⟩, ⟨S256x128, select msk z x⟩] concatenates_S256x128_S256x128_S512x128_d0

/-- The scores of 256 keys against a tile's queries, both maps. -/
def scorePart (msk : IVec S256x128 1) (q kk : Vec F S1x1x256x128 .bf16) : FVec F S256x512 .f32 :=
  matmul dot_S256x128_S512x128_S256x512_1_1_0_0_n_n none (shapeCast S256x128 kk shapeCasts_S1x1x256x128_S256x128 : FVec F S256x128 .bf16)
    (twoMaps msk q) (constant S256x512 .f32 0x00000000#32)

/-- The scores of all keys. -/
def scores (msk : IVec S256x128 1) (q : Vec F S1x1x256x128 .bf16) (K : ℕ → Vec F S1x1x256x128 .bf16) : Vec F S2048x512 .f32 :=
  stack256 fun c => shapeCast S256x512 (scorePart msk q (K c)) shapeCasts_S256x512_S256x512

/-- The largest scores over the first `n` parts, by residue of the row modulo 8. -/
def maxTo (msk : IVec S256x128 1) (q : Vec F S1x1x256x128 .bf16) (K : ℕ → Vec F S1x1x256x128 .bf16) : ℕ → FVec F S8x512 .f32
  | 0 => broadcast S8x512 (Scalar.ofBits .f32 0xFF800000#32)
  | n + 1 => maximumf (maxTo msk q K n) (multiReduction .maximumf [0] S8x512
      (shapeCast S32x8x512 (scorePart msk q (K n)) shapeCasts_S256x512_S32x8x512 : FVec F S32x8x512 .f32)
      0xFF800000#32 reduces_S32x8x512_S8x512 (.inl rfl) rfl)

/-- The largest score of each column. -/
def maxRow (msk : IVec S256x128 1) (q : Vec F S1x1x256x128 .bf16) (K : ℕ → Vec F S1x1x256x128 .bf16) : FVec F S1x512 .f32 :=
  shapeCast S1x512 (multiReduction .maximumf [0] S512 (maxTo msk q K 8) 0xFF800000#32 reduces_S8x512_S512 (.inl rfl) rfl : FVec F S512 .f32)
    shapeCasts_S512_S1x512

/-! ## The weights of a tile -/

/-- The weights of 64 keys: two to the power of the score less the column's largest. -/
def weightPart (m : FVec F S1x512 .f32) (s : Vec F S64x512 .f32) : FVec F S64x512 .f32 :=
  exp2 (subf s (broadcastTo S64x512 m broadcasts_S1x512_S64x512))

/-- The weights of all keys, as they are kept. -/
def weights (m : FVec F S1x512 .f32) (S : Vec F S2048x512 .f32) : Vec F S2048x512 .bf16 :=
  stack64 fun c => shapeCast S64x512 (truncf .bf16 (weightPart m (rows64 S c)) bitsLt_bf16_f32 : FVec F S64x512 .bf16) shapeCasts_S64x512_S64x512

/-- The sums of the weights over the first `n` parts, by residue of the row modulo 8. -/
def sumTo (m : FVec F S1x512 .f32) (S : Vec F S2048x512 .f32) : ℕ → FVec F S8x512 .f32
  | 0 => broadcast S8x512 (Scalar.ofBits .f32 0x00000000#32)
  | n + 1 => addf (sumTo m S n) (multiReduction .add [0] S8x512
      (shapeCast S8x8x512 (weightPart m (rows64 S n)) shapeCasts_S64x512_S8x8x512 : FVec F S8x8x512 .f32)
      0x00000000#32 reduces_S8x8x512_S8x512 (.inl rfl) rfl)

/-- The sum of each column's weights. -/
def sumRow (m : FVec F S1x512 .f32) (S : Vec F S2048x512 .f32) : FVec F S1x512 .f32 :=
  shapeCast S1x512 (multiReduction .add [0] S512 (sumTo m S 32) 0x00000000#32 reduces_S8x512_S512 (.inl rfl) rfl : FVec F S512 .f32)
    shapeCasts_S512_S1x512

/-! ## The output of a tile -/

/-- The values of one head, transposed. -/
def valuesT (v : Vec F S1x1x2048x128 .bf16) : FVec F S1x128x2048 .bf16 :=
  shapeCast S1x128x2048 (transpose S128x2048 [1, 0] (shapeCast S2048x128 v shapeCasts_S1x1x2048x128_S2048x128 : FVec F S2048x128 .bf16)
    transposes_S2048x128_p1_0_S128x2048 : FVec F S128x2048 .bf16) shapeCasts_S128x2048_S1x128x2048

/-- The weighted values, both maps side by side, the lanes down the rows. -/
def weighted (vt : Vec F S1x128x2048 .bf16) (e : Vec F S2048x512 .bf16) : FVec F S128x512 .f32 :=
  matmul dot_S128x2048_S2048x512_S128x512_1_0_0_1_n_n none (shapeCast S128x2048 vt shapeCasts_S1x128x2048_S128x2048 : FVec F S128x2048 .bf16)
    e (constant S128x512 .f32 0x00000000#32)

/-- The difference of the two maps' averages, queries down the rows. -/
def mapDiff (lam : FVec F S1x1 .f32) (l : FVec F S1x512 .f32) (ot : FVec F S128x512 .f32) : FVec F S256x128 .f32 :=
  let r1 : FVec F S1x256 .f32 := divf (broadcast S1x256 (Scalar.ofBits .f32 0x3F800000#32))
    (extractStridedSlice S1x256 ![0, 0] l slices_S1x512_o0_0_S1x256 : FVec F S1x256 .f32)
  let r2 : FVec F S1x256 .f32 := divf (broadcastTo S1x256 lam broadcasts_S1x1_S1x256)
    (extractStridedSlice S1x256 ![0, 256] l slices_S1x512_o0_256_S1x256 : FVec F S1x256 .f32)
  transpose S256x128 [1, 0] (subf
    (mulf (extractStridedSlice S128x256 ![0, 0] ot slices_S128x512_o0_0_S128x256 : FVec F S128x256 .f32) (broadcastTo S128x256 r1 broadcasts_S1x256_S128x256))
    (mulf (extractStridedSlice S128x256 ![0, 256] ot slices_S128x512_o0_256_S128x256 : FVec F S128x256 .f32) (broadcastTo S128x256 r2 broadcasts_S1x256_S128x256)))
    transposes_S128x256_p1_0_S256x128

/-- The root-mean-square normalisation of every row, the scale, the gate and the final rounding. -/
def normGate (g : FVec F S1x128 .f32) (o : FVec F S256x128 .f32) (zb : Vec F S1x1x256x128 .bf16) : FVec F S1x1x256x128 .bf16 :=
  let ms : FVec F S256x1 .f32 := divf (shapeCast S256x1 (multiReduction .add [1] S256 (mulf o o) 0x00000000#32 reduces_S256x128_S256 (.inl rfl) rfl : FVec F S256 .f32)
    shapeCasts_S256_S256x1 : FVec F S256x1 .f32) (broadcast S256x1 (Scalar.ofBits .f32 0x43000000#32))
  let r : FVec F S256x1 .f32 := rsqrt (addf ms (broadcast S256x1 (Scalar.ofBits .f32 0x358637BD#32)))
  let n : FVec F S256x128 .f32 := mulf (mulf o (broadcastTo S256x128 r broadcasts_S256x1_S256x128)) (broadcastTo S256x128 g broadcasts_S1x128_S256x128)
  let w : FVec F S256x128 .f32 := mulf n (extf .f32 (shapeCast S256x128 zb shapeCasts_S1x1x256x128_S256x128 : FVec F S256x128 .bf16) bitsLt_bf16_f32)
  shapeCast S1x1x256x128 (truncf .bf16 w bitsLt_bf16_f32 : FVec F S256x128 .bf16) shapeCasts_S256x128_S1x1x256x128

/-- One tile of the output. -/
def outTile (lam : FVec F S1x1 .f32) (g : FVec F S1x128 .f32) (vt : Vec F S1x128x2048 .bf16) (e : Vec F S2048x512 .bf16)
    (l : FVec F S1x512 .f32) (zb : Vec F S1x1x256x128 .bf16) : FVec F S1x1x256x128 .bf16 :=
  normGate g (mapDiff lam l (weighted vt e)) zb

/-! ## The block of a grid point -/

/-- The weight of the second map, from the four vectors. -/
def lamOf (a b c d : Vec F S1x64 .f32) : FVec F S1x1 .f32 :=
  let e (a b : Vec F S1x64 .f32) : FVec F S1x1 .f32 :=
    exp (shapeCast S1x1 (multiReduction .add [1] S1 (mulf a b) 0x00000000#32 reduces_S1x64_S1 (.inl rfl) rfl : FVec F S1 .f32) shapeCasts_S1_S1x1)
  addf (subf (e a b) (e c d)) (broadcast S1x1 (Scalar.ofBits .f32 0x3E4CCCCD#32))

/-- The scale of the normalised rows. -/
def scaleOf (g : Vec F S1x128 .f32) : FVec F S1x128 .f32 := mulf g (broadcast S1x128 (Scalar.ofBits .f32 0x3F4CCCCD#32))

variable (Q K V Z : Vec F S1x4x2048x128 .bf16)

/-- The scores of tile `j`. -/
def tileScores (j : ℕ) : Vec F S2048x512 .f32 := scores laneMask (tileRows Q j) (headRows K (j / 8))

/-- The largest scores of tile `j`. -/
def tileMax (j : ℕ) : FVec F S1x512 .f32 := maxRow laneMask (tileRows Q j) (headRows K (j / 8))

/-- The weights of tile `j`. -/
def tileWeights (j : ℕ) : Vec F S2048x512 .bf16 := weights (tileMax Q K j) (tileScores Q K j)

/-- The sums of the weights of tile `j`. -/
def tileSum (j : ℕ) : FVec F S1x512 .f32 := sumRow (tileMax Q K j) (tileScores Q K j)

/-- The output of tile `j`. -/
def tileOut (lam : FVec F S1x1 .f32) (g : FVec F S1x128 .f32) (j : ℕ) : FVec F S1x1x256x128 .bf16 :=
  outTile lam g (valuesT (headAll V (j / 8))) (tileWeights Q K j) (tileSum Q K j) (tileRows Z j)

/-- The tile an index of the block lies in. -/
def tileOf (y : S1x4x2048x128.Idx) : ℕ := (y 1).val * 8 + (y 2).val / 256

/-- The index of a block's element within its tile. -/
def inTile (y : S1x4x2048x128.Idx) : S1x1x256x128.Idx :=
  ix4 0 0 ⟨(y 2).val % 256, Nat.mod_lt _ (by decide)⟩ ⟨(y 3).val, (y 3).isLt⟩

/-- The block with a given weight of the second map and a given scale. -/
def blockWith (lam : FVec F S1x1 .f32) (g : FVec F S1x128 .f32) : Vec F S1x4x2048x128 .bf16 := fun y =>
  tileOut Q K V Z lam g (tileOf y) (inTile y)

/-- The block a grid point writes. -/
def outBlock (a b c d : Vec F S1x64 .f32) (g : Vec F S1x128 .f32) : Vec F S1x4x2048x128 .bf16 :=
  blockWith Q K V Z (lamOf a b c d) (scaleOf g)

end Cert.Proof

end
-- ==== Proof.Parts.lean ====
module

public import proofs.«01_k».proof.Proof.Spec

/-!
# The parts of the buffers

Where the loads and stores of the body fall: the offsets that a trip computes in closed form, and the loads at them as parts of
what the buffers hold.
-/

@[expose] public section

set_option maxRecDepth 16384

noncomputable section

namespace Cert.Proof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-! ## Arrays filled part by part -/

theorem stack256_at {α : Type} (G : ℕ → S256x512.Idx → α) (y : S2048x512.Idx) (c : ℕ) (x : S256x512.Idx)
    (h0 : (y 0).val = 256 * c + (x 0).val) (h1 : (y 1).val = (x 1).val) : stack256 G y = G c x := by
  have hx : (x 0).val < 256 := (x 0).isLt
  have hd : (y 0).val / 256 = c := by rw [h0]; omega
  have hm : (y 0).val % 256 = (x 0).val := by rw [h0]; omega
  unfold stack256
  rw [hd]
  congr 1
  refine Eq.trans ?_ (eq_ix2 x).symm
  congr 1
  · exact Fin.ext hm
  · exact Fin.ext h1

theorem stack256_part {α : Type} (G : ℕ → S256x512.Idx → α) (o : ℕ) (ho : 256 * (o / 256) = o)
    (inb : ∀ a, (![o, 0] : Fin 2 → ℕ) a + S256x512.size a ≤ S2048x512.size a) (w : S256x512.Idx → α) (hw : w = G (o / 256))
    (x : S256x512.Idx) : w x = stack256 G ((Rect.unit (s := S2048x512) ![o, 0] S256x512.size inb).emb x) := by
  rw [stack256_at G _ (o / 256) x, hw]
  · show o + 1 * (x 0).val = 256 * (o / 256) + (x 0).val
    rw [ho, Nat.one_mul]
  · show 0 + 1 * (x 1).val = (x 1).val
    rw [Nat.zero_add, Nat.one_mul]

theorem stack64_at {α : Type} (G : ℕ → S64x512.Idx → α) (y : S2048x512.Idx) (c : ℕ) (x : S64x512.Idx)
    (h0 : (y 0).val = 64 * c + (x 0).val) (h1 : (y 1).val = (x 1).val) : stack64 G y = G c x := by
  have hx : (x 0).val < 64 := (x 0).isLt
  have hd : (y 0).val / 64 = c := by rw [h0]; omega
  have hm : (y 0).val % 64 = (x 0).val := by rw [h0]; omega
  unfold stack64
  rw [hd]
  congr 1
  refine Eq.trans ?_ (eq_ix2 x).symm
  congr 1
  · exact Fin.ext hm
  · exact Fin.ext h1

theorem stack64_part {α : Type} (G : ℕ → S64x512.Idx → α) (o : ℕ) (ho : 64 * (o / 64) = o)
    (inb : ∀ a, (![o, 0] : Fin 2 → ℕ) a + S64x512.size a ≤ S2048x512.size a) (w : S64x512.Idx → α) (hw : w = G (o / 64))
    (x : S64x512.Idx) : w x = stack64 G ((Rect.unit (s := S2048x512) ![o, 0] S64x512.size inb).emb x) := by
  rw [stack64_at G _ (o / 64) x, hw]
  · show o + 1 * (x 0).val = 64 * (o / 64) + (x 0).val
    rw [ho, Nat.one_mul]
  · show 0 + 1 * (x 1).val = (x 1).val
    rw [Nat.zero_add, Nat.one_mul]

/-! ## Loads -/

/-- Head `h` of the transposed values. -/
def headT (Y : Vec F S4x128x2048 .bf16) (h : ℕ) : Vec F S1x128x2048 .bf16 :=
  View.ld (Val := Elt F) (e' := .bf16) Y (Rect.unit ![min h 3, 0, 0] ![1, 128, 2048] (by intro a; fin_cases a <;> simp))

section Loads

variable (v : View sig .tc .vmem S1x4x2048x128 .bf16) (f : v.ty.Contents (Elt F)) {off : Fin 4 → ℕ}
  (inb : ∀ a, off a + S1x1x256x128.size a ≤ S1x4x2048x128.size a)

theorem load_tileRows (j : ℕ) (hj : j < 32) (h : off = ![0, j / 8, j % 8 * 256, 0]) :
    v.readAt (Elt F) (Rect.unit (s := S1x4x2048x128) off S1x1x256x128.size inb).toLoadRect f = tileRows (F := F) (v.read (Elt F) f) j := by
  have e : off = ![0, min (j / 8) 3, j % 8 * 256, 0] := by
    rw [h, Nat.min_eq_left (by omega)]
  subst e; rfl

theorem load_headRows (h c : ℕ) (hh : h < 4) (hc : c < 8) (ho : off = ![0, h, 256 * c, 0]) :
    v.readAt (Elt F) (Rect.unit (s := S1x4x2048x128) off S1x1x256x128.size inb).toLoadRect f = headRows (F := F) (v.read (Elt F) f) h c := by
  have e : off = ![0, min h 3, min (256 * c) 1792, 0] := by
    rw [ho, Nat.min_eq_left (by omega), Nat.min_eq_left (by omega)]
  subst e; rfl

end Loads

theorem load_headT (v : View sig .tc .vmem S4x128x2048 .bf16) (f : v.ty.Contents (Elt F)) {off : Fin 3 → ℕ}
    (inb : ∀ a, off a + S1x128x2048.size a ≤ S4x128x2048.size a) (h : ℕ) (hh : h < 4) (ho : off = ![h, 0, 0]) :
    v.readAt (Elt F) (Rect.unit (s := S4x128x2048) off S1x128x2048.size inb).toLoadRect f = headT (F := F) (v.read (Elt F) f) h := by
  have e : off = ![min h 3, 0, 0] := by
    rw [ho, Nat.min_eq_left (by omega)]
  subst e; rfl

/-- A load of a whole 2048 × 512 array. -/
theorem load_whole (e : EltTy) (v : View sig .tc .vmem S2048x512 e) (f : v.ty.Contents (Elt F))
    (inb : ∀ a, (![0, 0] : Fin 2 → ℕ) a + S2048x512.size a ≤ S2048x512.size a) :
    v.readAt (Elt F) (Rect.unit (s := S2048x512) ![0, 0] S2048x512.size inb).toLoadRect f = v.read (Elt F) f := by
  funext x
  show v.read (Elt F) f _ = v.read (Elt F) f x
  congr 1
  funext a
  apply Fin.ext
  show (![0, 0] : Fin 2 → ℕ) a + 1 * (x a).val = (x a).val
  fin_cases a <;> simp

/-- A load of a whole row. -/
theorem load_S1x64 (v : View sig .tc .vmem S1x64 .f32) (f : v.ty.Contents (Elt F))
    (inb : ∀ a, (![0, 0] : Fin 2 → ℕ) a + S1x64.size a ≤ S1x64.size a) :
    v.readAt (Elt F) (Rect.unit (s := S1x64) ![0, 0] S1x64.size inb).toLoadRect f = v.read (Elt F) f := by
  funext x
  show v.read (Elt F) f _ = v.read (Elt F) f x
  congr 1
  funext a
  apply Fin.ext
  show (![0, 0] : Fin 2 → ℕ) a + 1 * (x a).val = (x a).val
  fin_cases a <;> simp

/-- A load of a whole row. -/
theorem load_S1x128 (v : View sig .tc .vmem S1x128 .f32) (f : v.ty.Contents (Elt F))
    (inb : ∀ a, (![0, 0] : Fin 2 → ℕ) a + S1x128.size a ≤ S1x128.size a) :
    v.readAt (Elt F) (Rect.unit (s := S1x128) ![0, 0] S1x128.size inb).toLoadRect f = v.read (Elt F) f := by
  funext x
  show v.read (Elt F) f _ = v.read (Elt F) f x
  congr 1
  funext a
  apply Fin.ext
  show (![0, 0] : Fin 2 → ℕ) a + 1 * (x a).val = (x a).val
  fin_cases a <;> simp

/-! ## The tiles of the output -/

section Tiles

variable (v : View sig .tc .vmem S1x4x2048x128 .bf16) (f : v.ty.Contents (Elt F)) {off : Fin 4 → ℕ}
  (inb : ∀ a, off a + S1x1x256x128.size a ≤ S1x4x2048x128.size a) (w : Vec F S1x1x256x128 .bf16)
  (L : List (View.Piece (Elt F) S1x4x2048x128 .bf16)) (y : S1x4x2048x128.Idx) (k : ℕ)

/-- An element of the tile just written reads what was written. -/
theorem read_tile_hit (h : off = ![0, k / 8, k % 8 * 256, 0]) (hy : tileOf y = k) :
    v.read (Elt F) (v.writes (Elt F) f (⟨Rect.unit (s := S1x4x2048x128) off S1x1x256x128.size inb, w⟩ :: L)) y = w (inTile y) := by
  have h0 : (y 0).val < 1 := (y 0).isLt
  have h2 : (y 2).val < 2048 := (y 2).isLt
  have h1 : (y 1).val < 4 := (y 1).isLt
  unfold tileOf at hy
  have e1 : (y 1).val = k / 8 + 1 * 0 := by omega
  have e2 : (y 2).val = k % 8 * 256 + 1 * ((y 2).val % 256) := by omega
  have e0 : (y 0).val = 0 + 1 * 0 := by omega
  have e3 : (y 3).val = 0 + 1 * (y 3).val := by omega
  have hx : ∀ a : Fin 4, (y a).val = (![0, k / 8, k % 8 * 256, 0] : Fin 4 → ℕ) a + 1 * (inTile y a).val := by
    intro a
    fin_cases a
    · exact e0
    · exact e1
    · exact e2
    · exact e3
  subst h
  exact View.read_writes_cons_hit_of_coords (Val := Elt F) v f
    (Rect.unit (s := S1x4x2048x128) ![0, k / 8, k % 8 * 256, 0] S1x1x256x128.size inb) w L (inTile y) y hx

/-- An element of another tile reads what it read before. -/
theorem read_tile_miss (h : off = ![0, k / 8, k % 8 * 256, 0]) (hy : tileOf y ≠ k) :
    v.read (Elt F) (v.writes (Elt F) f (⟨Rect.unit (s := S1x4x2048x128) off S1x1x256x128.size inb, w⟩ :: L)) y
      = v.read (Elt F) (v.writes (Elt F) f L) y := by
  have h2 : (y 2).val < 2048 := (y 2).isLt
  unfold tileOf at hy
  subst h
  by_cases h1 : (y 1).val = k / 8
  · exact View.read_writes_cons_miss_of_axis (Val := Elt F) v f
      ⟨Rect.unit (s := S1x4x2048x128) ![0, k / 8, k % 8 * 256, 0] S1x1x256x128.size inb, w⟩ L y 2 (k % 8 * 256) 256 rfl rfl rfl (by omega)
  · exact View.read_writes_cons_miss_of_axis (Val := Elt F) v f
      ⟨Rect.unit (s := S1x4x2048x128) ![0, k / 8, k % 8 * 256, 0] S1x1x256x128.size inb, w⟩ L y 1 (k / 8) 1 rfl rfl rfl (by omega)

end Tiles

/-! ## The offsets of a trip -/

theorem trips_lt (k : Fin k0_t1_loop.trips) : k.val < 30 := k.isLt

/-- A trip whose condition holds is an even one. -/
theorem cond_iff : ∀ k : Fin k0_t1_loop.trips, k0_cond1 k = 1#1 ↔ k.val % 2 = 0 := by decide +kernel

theorem off1_eq : ∀ k : Fin k0_t1_loop.trips, k0_off1 k = ![k.val / 8, 0, 0] := by decide +kernel
theorem off2_eq : ∀ k : Fin k0_t1_loop.trips, k0_off2 k = ![0, k.val / 8, k.val % 8 * 256, 0] := by decide +kernel
theorem off3_eq : ∀ k : Fin k0_t1_loop.trips, k0_off3 k = ![0, (k.val + 2) / 8, (k.val + 2) % 8 * 256, 0] := by decide +kernel
theorem off4_eq : ∀ k : Fin k0_t1_loop.trips, k0_off4 k = ![0, (k.val + 2) / 8, 256 * 0, 0] := by decide +kernel
theorem off5_eq : ∀ k : Fin k0_t1_loop.trips, k0_off5 k = ![0, (k.val + 2) / 8, 256 * 1, 0] := by decide +kernel
theorem off6_eq : ∀ k : Fin k0_t1_loop.trips, k0_off6 k = ![0, (k.val + 2) / 8, 256 * 2, 0] := by decide +kernel
theorem off7_eq : ∀ k : Fin k0_t1_loop.trips, k0_off7 k = ![0, (k.val + 2) / 8, 256 * 3, 0] := by decide +kernel
theorem off8_eq : ∀ k : Fin k0_t1_loop.trips, k0_off8 k = ![0, (k.val + 2) / 8, 256 * 4, 0] := by decide +kernel
theorem off9_eq : ∀ k : Fin k0_t1_loop.trips, k0_off9 k = ![0, (k.val + 2) / 8, 256 * 5, 0] := by decide +kernel
theorem off10_eq : ∀ k : Fin k0_t1_loop.trips, k0_off10 k = ![0, (k.val + 2) / 8, 256 * 6, 0] := by decide +kernel
theorem off11_eq : ∀ k : Fin k0_t1_loop.trips, k0_off11 k = ![0, (k.val + 2) / 8, 256 * 7, 0] := by decide +kernel
theorem off12_eq : ∀ k : Fin k0_t1_loop.trips, k0_off12 k = ![k.val / 8, 0, 0] := by decide +kernel
theorem off13_eq : ∀ k : Fin k0_t1_loop.trips, k0_off13 k = ![0, k.val / 8, k.val % 8 * 256, 0] := by decide +kernel
theorem off14_eq : ∀ k : Fin k0_t1_loop.trips, k0_off14 k = ![0, (k.val + 2) / 8, (k.val + 2) % 8 * 256, 0] := by decide +kernel
theorem off15_eq : ∀ k : Fin k0_t1_loop.trips, k0_off15 k = ![0, (k.val + 2) / 8, 256 * 0, 0] := by decide +kernel
theorem off16_eq : ∀ k : Fin k0_t1_loop.trips, k0_off16 k = ![0, (k.val + 2) / 8, 256 * 1, 0] := by decide +kernel
theorem off17_eq : ∀ k : Fin k0_t1_loop.trips, k0_off17 k = ![0, (k.val + 2) / 8, 256 * 2, 0] := by decide +kernel
theorem off18_eq : ∀ k : Fin k0_t1_loop.trips, k0_off18 k = ![0, (k.val + 2) / 8, 256 * 3, 0] := by decide +kernel
theorem off19_eq : ∀ k : Fin k0_t1_loop.trips, k0_off19 k = ![0, (k.val + 2) / 8, 256 * 4, 0] := by decide +kernel
theorem off20_eq : ∀ k : Fin k0_t1_loop.trips, k0_off20 k = ![0, (k.val + 2) / 8, 256 * 5, 0] := by decide +kernel
theorem off21_eq : ∀ k : Fin k0_t1_loop.trips, k0_off21 k = ![0, (k.val + 2) / 8, 256 * 6, 0] := by decide +kernel
theorem off22_eq : ∀ k : Fin k0_t1_loop.trips, k0_off22 k = ![0, (k.val + 2) / 8, 256 * 7, 0] := by decide +kernel

end Cert.Proof

end
-- ==== Proof.EvenVal.lean ====
module

public import proofs.«01_k».proof.Proof.Parts
public import proofs.«01_k».proof.Proof.TripEven
public import Idealize.ShloMosaic.Lib.Tactic.Stretches

/-!
# What an even trip computes

An even trip `k` leaves the scores of tile `k + 2` in slot 0 and carries their largest; it leaves the weights of the tile whose
scores stand in slot 1 and carries their sums; and it writes tile `k` of the output from the other slot's weights.
-/

@[expose] public section

set_option maxRecDepth 16384

noncomputable section

namespace Cert.Proof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UR sig nD τ) ℕ

variable (c : Dev nD) (i : grid0.Coords)
  (arg2 : Memref sig .tc .vmem S1x64 .f32) (harg2 : arg2.IsWhole)
  (arg3 : Memref sig .tc .vmem S1x64 .f32) (harg3 : arg3.IsWhole)
  (arg4 : Memref sig .tc .vmem S1x64 .f32) (harg4 : arg4.IsWhole)
  (arg5 : Memref sig .tc .vmem S1x64 .f32) (harg5 : arg5.IsWhole)
  (arg6 : Memref sig .tc .vmem S1x128 .f32) (harg6 : arg6.IsWhole)
  (arg7 : Memref sig .tc .vmem S1x4x2048x128 .bf16) (harg7 : arg7.IsWhole)
  (arg8 : Memref sig .tc .vmem S1x4x2048x128 .bf16) (harg8 : arg8.IsWhole)
  (arg9 : Memref sig .tc .vmem S1x4x2048x128 .bf16) (harg9 : arg9.IsWhole)
  (arg10 : Memref sig .tc .vmem S1x4x2048x128 .bf16) (harg10 : arg10.IsWhole)
  (arg11 : Memref sig .tc .vmem S1x4x2048x128 .bf16) (harg11 : arg11.IsWhole)
  (arg12 : Memref sig .tc .vmem S4x128x2048 .bf16) (harg12 : arg12.IsWhole)
  (arg13 : Memref sig .tc .vmem S2048x512 .f32) (harg13 : arg13.IsWhole)
  (arg14 : Memref sig .tc .vmem S2048x512 .f32) (harg14 : arg14.IsWhole)
  (arg15 : Memref sig .tc .vmem S2048x512 .bf16) (harg15 : arg15.IsWhole)
  (arg16 : Memref sig .tc .vmem S2048x512 .bf16) (harg16 : arg16.IsWhole)
  (v14 : FVec F S1x1 .f32) (v17 : FVec F S1x128 .f32) (v44 : IVec S256x128 1) (v557 : FVec F S8x512 .f32) (v559 : FVec F S1x512 .f32)
  (k : Fin k0_t1_loop.trips) (hk : k0_cond1 k = 1#1) (a18 a19 : FVec F S1x512 .f32)
  (f7 : Buf (Elt F) (arg7.view.loc (c : Thread nD τ)))
  (f8 : Buf (Elt F) (arg8.view.loc (c : Thread nD τ)))
  (f10 : Buf (Elt F) (arg10.view.loc (c : Thread nD τ)))
  (f12 : Buf (Elt F) (arg12.view.loc (c : Thread nD τ)))
  (f11 : Buf (Elt F) (arg11.view.loc (c : Thread nD τ)))
  (f13 : Buf (Elt F) (arg13.view.loc (c : Thread nD τ)))
  (f14 : Buf (Elt F) (arg14.view.loc (c : Thread nD τ)))
  (f15 : Buf (Elt F) (arg15.view.loc (c : Thread nD τ)))
  (f16 : Buf (Elt F) (arg16.view.loc (c : Thread nD τ)))

/-- The scores of tile `k + 2`. -/
theorem even_scores : arg13.view.read (Elt F) (arg13.view.writes (Elt F) f13 (tripEven c i arg2 harg2 arg3 harg3 arg4 harg4 arg5 harg5 arg6 harg6 arg7 harg7 arg8 harg8 arg9 harg9 arg10 harg10 arg11 harg11 arg12 harg12 arg13 harg13 arg14 harg14 arg15 harg15 arg16 harg16 v14 v17 v44 v557 v559 k hk a18 a19 f7 f8 f10 f12 f11 f13 f14 f15 f16).2.1)
    = scores v44 (tileRows (F := F) (arg7.view.read (Elt F) f7) (k.val + 2))
        (headRows (F := F) (arg8.view.read (Elt F) f8) ((k.val + 2) / 8)) := by
  have hk30 := trips_lt k
  funext y
  unfold tripEven
  sl_open_run
  dsimp only
  rw [scores]
  refine View.read_writes_apply_of_pieces _ _ _ _ ?_ y (View.cover_of_tiled (s := S2048x512) _ S256x512.size rfl y)
  rw [load_tileRows arg7.view f7 _ (k.val + 2) (by omega) (off3_eq k)]
  rw [load_headRows arg8.view f8 _ ((k.val + 2) / 8) 0 (by omega) (by decide) (off4_eq k)]
  rw [load_headRows arg8.view f8 _ ((k.val + 2) / 8) 1 (by omega) (by decide) (off5_eq k)]
  rw [load_headRows arg8.view f8 _ ((k.val + 2) / 8) 2 (by omega) (by decide) (off6_eq k)]
  rw [load_headRows arg8.view f8 _ ((k.val + 2) / 8) 3 (by omega) (by decide) (off7_eq k)]
  rw [load_headRows arg8.view f8 _ ((k.val + 2) / 8) 4 (by omega) (by decide) (off8_eq k)]
  rw [load_headRows arg8.view f8 _ ((k.val + 2) / 8) 5 (by omega) (by decide) (off9_eq k)]
  rw [load_headRows arg8.view f8 _ ((k.val + 2) / 8) 6 (by omega) (by decide) (off10_eq k)]
  rw [load_headRows arg8.view f8 _ ((k.val + 2) / 8) 7 (by omega) (by decide) (off11_eq k)]
  sl_open_pay
  simp only [List.forall_mem_cons]
  refine ⟨?_, ?_, ?_, ?_, ?_, ?_, ?_, ?_, fun p h => absurd h List.not_mem_nil⟩ <;>
    exact fun x => stack256_part _ _ (by rfl) _ _ (by rfl) x

/-- Their largest. -/
theorem even_max : (tripEven c i arg2 harg2 arg3 harg3 arg4 harg4 arg5 harg5 arg6 harg6 arg7 harg7 arg8 harg8 arg9 harg9 arg10 harg10 arg11 harg11 arg12 harg12 arg13 harg13 arg14 harg14 arg15 harg15 arg16 harg16 v14 v17 v44 v557 v559 k hk a18 a19 f7 f8 f10 f12 f11 f13 f14 f15 f16).2.2.2.1.1
    = maxRow v44 (tileRows (F := F) (arg7.view.read (Elt F) f7) (k.val + 2))
        (headRows (F := F) (arg8.view.read (Elt F) f8) ((k.val + 2) / 8)) := by
  have hk30 := trips_lt k
  unfold tripEven
  sl_open_run
  dsimp only
  rw [load_tileRows arg7.view f7 _ (k.val + 2) (by omega) (off3_eq k)]
  rw [load_headRows arg8.view f8 _ ((k.val + 2) / 8) 0 (by omega) (by decide) (off4_eq k)]
  rw [load_headRows arg8.view f8 _ ((k.val + 2) / 8) 1 (by omega) (by decide) (off5_eq k)]
  rw [load_headRows arg8.view f8 _ ((k.val + 2) / 8) 2 (by omega) (by decide) (off6_eq k)]
  rw [load_headRows arg8.view f8 _ ((k.val + 2) / 8) 3 (by omega) (by decide) (off7_eq k)]
  rw [load_headRows arg8.view f8 _ ((k.val + 2) / 8) 4 (by omega) (by decide) (off8_eq k)]
  rw [load_headRows arg8.view f8 _ ((k.val + 2) / 8) 5 (by omega) (by decide) (off9_eq k)]
  rw [load_headRows arg8.view f8 _ ((k.val + 2) / 8) 6 (by omega) (by decide) (off10_eq k)]
  rw [load_headRows arg8.view f8 _ ((k.val + 2) / 8) 7 (by omega) (by decide) (off11_eq k)]
  sl_open_pay
  rfl

/-- The weights of the tile whose scores stand in the other slot. -/
theorem even_weights : arg16.view.read (Elt F) (arg16.view.writes (Elt F) f16 (tripEven c i arg2 harg2 arg3 harg3 arg4 harg4 arg5 harg5 arg6 harg6 arg7 harg7 arg8 harg8 arg9 harg9 arg10 harg10 arg11 harg11 arg12 harg12 arg13 harg13 arg14 harg14 arg15 harg15 arg16 harg16 v14 v17 v44 v557 v559 k hk a18 a19 f7 f8 f10 f12 f11 f13 f14 f15 f16).2.2.1)
    = weights a18 (arg14.view.read (Elt F) f14) := by
  funext y
  unfold tripEven
  sl_open_run
  dsimp only
  rw [weights]
  refine View.read_writes_apply_of_pieces _ _ _ _ ?_ y (View.cover_of_tiled (s := S2048x512) _ S64x512.size rfl y)
  sl_open_pay
  simp only [List.forall_mem_cons]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun p h => absurd h List.not_mem_nil⟩ <;>
    exact fun x => stack64_part _ _ (by rfl) _ _ (by rfl) x

/-- Their sums. -/
theorem even_sum : (tripEven c i arg2 harg2 arg3 harg3 arg4 harg4 arg5 harg5 arg6 harg6 arg7 harg7 arg8 harg8 arg9 harg9 arg10 harg10 arg11 harg11 arg12 harg12 arg13 harg13 arg14 harg14 arg15 harg15 arg16 harg16 v14 v17 v44 v557 v559 k hk a18 a19 f7 f8 f10 f12 f11 f13 f14 f15 f16).2.2.2.1.2 = sumRow a18 (arg14.view.read (Elt F) f14) := by
  unfold tripEven
  sl_open_run
  dsimp only
  sl_open_pay
  rfl

/-- The one piece of the output that the trip writes. -/
theorem even_out : (tripEven c i arg2 harg2 arg3 harg3 arg4 harg4 arg5 harg5 arg6 harg6 arg7 harg7 arg8 harg8 arg9 harg9 arg10 harg10 arg11 harg11 arg12 harg12 arg13 harg13 arg14 harg14 arg15 harg15 arg16 harg16 v14 v17 v44 v557 v559 k hk a18 a19 f7 f8 f10 f12 f11 f13 f14 f15 f16).1
    = [⟨Rect.unit (s := S1x4x2048x128) (k0_off2 k) S1x1x256x128.size (k0_off2_inb k hk),
        outTile v14 v17 (headT (F := F) (arg12.view.read (Elt F) f12) (k.val / 8)) (arg15.view.read (Elt F) f15) a19
          (tileRows (F := F) (arg10.view.read (Elt F) f10) k.val)⟩] := by
  have hk30 := trips_lt k
  unfold tripEven
  sl_open_run
  dsimp only
  rw [load_headT arg12.view f12 _ (k.val / 8) (by omega) (off1_eq k), load_whole _ arg15.view f15,
    load_tileRows arg10.view f10 _ k.val (by omega) (off2_eq k)]
  sl_open_pay
  rfl

end Cert.Proof

end
-- ==== Proof.OddVal.lean ====
module

public import proofs.«01_k».proof.Proof.Parts
public import proofs.«01_k».proof.Proof.TripOdd
public import Idealize.ShloMosaic.Lib.Tactic.Stretches

/-!
# What an odd trip computes

An odd trip `k` leaves the scores of tile `k + 2` in slot 1 and carries their largest; it leaves the weights of the tile whose
scores stand in slot 0 and carries their sums; and it writes tile `k` of the output from the other slot's weights.
-/

@[expose] public section

set_option maxRecDepth 16384

noncomputable section

namespace Cert.Proof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UR sig nD τ) ℕ

variable (c : Dev nD) (i : grid0.Coords)
  (arg2 : Memref sig .tc .vmem S1x64 .f32) (harg2 : arg2.IsWhole)
  (arg3 : Memref sig .tc .vmem S1x64 .f32) (harg3 : arg3.IsWhole)
  (arg4 : Memref sig .tc .vmem S1x64 .f32) (harg4 : arg4.IsWhole)
  (arg5 : Memref sig .tc .vmem S1x64 .f32) (harg5 : arg5.IsWhole)
  (arg6 : Memref sig .tc .vmem S1x128 .f32) (harg6 : arg6.IsWhole)
  (arg7 : Memref sig .tc .vmem S1x4x2048x128 .bf16) (harg7 : arg7.IsWhole)
  (arg8 : Memref sig .tc .vmem S1x4x2048x128 .bf16) (harg8 : arg8.IsWhole)
  (arg9 : Memref sig .tc .vmem S1x4x2048x128 .bf16) (harg9 : arg9.IsWhole)
  (arg10 : Memref sig .tc .vmem S1x4x2048x128 .bf16) (harg10 : arg10.IsWhole)
  (arg11 : Memref sig .tc .vmem S1x4x2048x128 .bf16) (harg11 : arg11.IsWhole)
  (arg12 : Memref sig .tc .vmem S4x128x2048 .bf16) (harg12 : arg12.IsWhole)
  (arg13 : Memref sig .tc .vmem S2048x512 .f32) (harg13 : arg13.IsWhole)
  (arg14 : Memref sig .tc .vmem S2048x512 .f32) (harg14 : arg14.IsWhole)
  (arg15 : Memref sig .tc .vmem S2048x512 .bf16) (harg15 : arg15.IsWhole)
  (arg16 : Memref sig .tc .vmem S2048x512 .bf16) (harg16 : arg16.IsWhole)
  (v14 : FVec F S1x1 .f32) (v17 : FVec F S1x128 .f32) (v44 : IVec S256x128 1) (v557 : FVec F S8x512 .f32) (v559 : FVec F S1x512 .f32)
  (k : Fin k0_t1_loop.trips) (hk : ¬ k0_cond1 k = 1#1) (a18 a19 : FVec F S1x512 .f32)
  (f7 : Buf (Elt F) (arg7.view.loc (c : Thread nD τ)))
  (f8 : Buf (Elt F) (arg8.view.loc (c : Thread nD τ)))
  (f10 : Buf (Elt F) (arg10.view.loc (c : Thread nD τ)))
  (f12 : Buf (Elt F) (arg12.view.loc (c : Thread nD τ)))
  (f11 : Buf (Elt F) (arg11.view.loc (c : Thread nD τ)))
  (f13 : Buf (Elt F) (arg13.view.loc (c : Thread nD τ)))
  (f14 : Buf (Elt F) (arg14.view.loc (c : Thread nD τ)))
  (f15 : Buf (Elt F) (arg15.view.loc (c : Thread nD τ)))
  (f16 : Buf (Elt F) (arg16.view.loc (c : Thread nD τ)))

/-- The scores of tile `k + 2`. -/
theorem odd_scores : arg14.view.read (Elt F) (arg14.view.writes (Elt F) f14 (tripOdd c i arg2 harg2 arg3 harg3 arg4 harg4 arg5 harg5 arg6 harg6 arg7 harg7 arg8 harg8 arg9 harg9 arg10 harg10 arg11 harg11 arg12 harg12 arg13 harg13 arg14 harg14 arg15 harg15 arg16 harg16 v14 v17 v44 v557 v559 k hk a18 a19 f7 f8 f10 f12 f11 f13 f14 f15 f16).2.1)
    = scores v44 (tileRows (F := F) (arg7.view.read (Elt F) f7) (k.val + 2))
        (headRows (F := F) (arg8.view.read (Elt F) f8) ((k.val + 2) / 8)) := by
  have hk30 := trips_lt k
  funext y
  unfold tripOdd
  sl_open_run
  dsimp only
  rw [scores]
  refine View.read_writes_apply_of_pieces _ _ _ _ ?_ y (View.cover_of_tiled (s := S2048x512) _ S256x512.size rfl y)
  rw [load_tileRows arg7.view f7 _ (k.val + 2) (by omega) (off14_eq k)]
  rw [load_headRows arg8.view f8 _ ((k.val + 2) / 8) 0 (by omega) (by decide) (off15_eq k)]
  rw [load_headRows arg8.view f8 _ ((k.val + 2) / 8) 1 (by omega) (by decide) (off16_eq k)]
  rw [load_headRows arg8.view f8 _ ((k.val + 2) / 8) 2 (by omega) (by decide) (off17_eq k)]
  rw [load_headRows arg8.view f8 _ ((k.val + 2) / 8) 3 (by omega) (by decide) (off18_eq k)]
  rw [load_headRows arg8.view f8 _ ((k.val + 2) / 8) 4 (by omega) (by decide) (off19_eq k)]
  rw [load_headRows arg8.view f8 _ ((k.val + 2) / 8) 5 (by omega) (by decide) (off20_eq k)]
  rw [load_headRows arg8.view f8 _ ((k.val + 2) / 8) 6 (by omega) (by decide) (off21_eq k)]
  rw [load_headRows arg8.view f8 _ ((k.val + 2) / 8) 7 (by omega) (by decide) (off22_eq k)]
  sl_open_pay
  simp only [List.forall_mem_cons]
  refine ⟨?_, ?_, ?_, ?_, ?_, ?_, ?_, ?_, fun p h => absurd h List.not_mem_nil⟩ <;>
    exact fun x => stack256_part _ _ (by rfl) _ _ (by rfl) x

/-- Their largest. -/
theorem odd_max : (tripOdd c i arg2 harg2 arg3 harg3 arg4 harg4 arg5 harg5 arg6 harg6 arg7 harg7 arg8 harg8 arg9 harg9 arg10 harg10 arg11 harg11 arg12 harg12 arg13 harg13 arg14 harg14 arg15 harg15 arg16 harg16 v14 v17 v44 v557 v559 k hk a18 a19 f7 f8 f10 f12 f11 f13 f14 f15 f16).2.2.2.1.1
    = maxRow v44 (tileRows (F := F) (arg7.view.read (Elt F) f7) (k.val + 2))
        (headRows (F := F) (arg8.view.read (Elt F) f8) ((k.val + 2) / 8)) := by
  have hk30 := trips_lt k
  unfold tripOdd
  sl_open_run
  dsimp only
  rw [load_tileRows arg7.view f7 _ (k.val + 2) (by omega) (off14_eq k)]
  rw [load_headRows arg8.view f8 _ ((k.val + 2) / 8) 0 (by omega) (by decide) (off15_eq k)]
  rw [load_headRows arg8.view f8 _ ((k.val + 2) / 8) 1 (by omega) (by decide) (off16_eq k)]
  rw [load_headRows arg8.view f8 _ ((k.val + 2) / 8) 2 (by omega) (by decide) (off17_eq k)]
  rw [load_headRows arg8.view f8 _ ((k.val + 2) / 8) 3 (by omega) (by decide) (off18_eq k)]
  rw [load_headRows arg8.view f8 _ ((k.val + 2) / 8) 4 (by omega) (by decide) (off19_eq k)]
  rw [load_headRows arg8.view f8 _ ((k.val + 2) / 8) 5 (by omega) (by decide) (off20_eq k)]
  rw [load_headRows arg8.view f8 _ ((k.val + 2) / 8) 6 (by omega) (by decide) (off21_eq k)]
  rw [load_headRows arg8.view f8 _ ((k.val + 2) / 8) 7 (by omega) (by decide) (off22_eq k)]
  sl_open_pay
  rfl

/-- The weights of the tile whose scores stand in the other slot. -/
theorem odd_weights : arg15.view.read (Elt F) (arg15.view.writes (Elt F) f15 (tripOdd c i arg2 harg2 arg3 harg3 arg4 harg4 arg5 harg5 arg6 harg6 arg7 harg7 arg8 harg8 arg9 harg9 arg10 harg10 arg11 harg11 arg12 harg12 arg13 harg13 arg14 harg14 arg15 harg15 arg16 harg16 v14 v17 v44 v557 v559 k hk a18 a19 f7 f8 f10 f12 f11 f13 f14 f15 f16).2.2.1)
    = weights a18 (arg13.view.read (Elt F) f13) := by
  funext y
  unfold tripOdd
  sl_open_run
  dsimp only
  rw [weights]
  refine View.read_writes_apply_of_pieces _ _ _ _ ?_ y (View.cover_of_tiled (s := S2048x512) _ S64x512.size rfl y)
  sl_open_pay
  simp only [List.forall_mem_cons]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun p h => absurd h List.not_mem_nil⟩ <;>
    exact fun x => stack64_part _ _ (by rfl) _ _ (by rfl) x

/-- Their sums. -/
theorem odd_sum : (tripOdd c i arg2 harg2 arg3 harg3 arg4 harg4 arg5 harg5 arg6 harg6 arg7 harg7 arg8 harg8 arg9 harg9 arg10 harg10 arg11 harg11 arg12 harg12 arg13 harg13 arg14 harg14 arg15 harg15 arg16 harg16 v14 v17 v44 v557 v559 k hk a18 a19 f7 f8 f10 f12 f11 f13 f14 f15 f16).2.2.2.1.2 = sumRow a18 (arg13.view.read (Elt F) f13) := by
  unfold tripOdd
  sl_open_run
  dsimp only
  sl_open_pay
  rfl

/-- The one piece of the output that the trip writes. -/
theorem odd_out : (tripOdd c i arg2 harg2 arg3 harg3 arg4 harg4 arg5 harg5 arg6 harg6 arg7 harg7 arg8 harg8 arg9 harg9 arg10 harg10 arg11 harg11 arg12 harg12 arg13 harg13 arg14 harg14 arg15 harg15 arg16 harg16 v14 v17 v44 v557 v559 k hk a18 a19 f7 f8 f10 f12 f11 f13 f14 f15 f16).1
    = [⟨Rect.unit (s := S1x4x2048x128) (k0_off13 k) S1x1x256x128.size (k0_off13_inb k hk),
        outTile v14 v17 (headT (F := F) (arg12.view.read (Elt F) f12) (k.val / 8)) (arg16.view.read (Elt F) f16) a19
          (tileRows (F := F) (arg10.view.read (Elt F) f10) k.val)⟩] := by
  have hk30 := trips_lt k
  unfold tripOdd
  sl_open_run
  dsimp only
  rw [load_headT arg12.view f12 _ (k.val / 8) (by omega) (off12_eq k), load_whole _ arg16.view f16,
    load_tileRows arg10.view f10 _ k.val (by omega) (off13_eq k)]
  sl_open_pay
  rfl

end Cert.Proof

end
-- ==== Proof.PipeVal.lean ====
module

public import proofs.«01_k».proof.Proof.Pipe
public import proofs.«01_k».proof.Proof.EvenVal
public import proofs.«01_k».proof.Proof.OddVal

/-!
# What the pipelined loop computes

Before trip `k` the scores of tile `k + 1` stand in one slot and the weights of tile `k` in another, the carried rows are the
largest scores of tile `k + 1` and the sums of the weights of tile `k`, and the tiles below `k` of the output are written.
-/

@[expose] public section

set_option maxRecDepth 16384

noncomputable section

namespace Cert.Proof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UR sig nD τ) ℕ

variable (c : Dev nD) (i : grid0.Coords)
  (arg2 : Memref sig .tc .vmem S1x64 .f32) (harg2 : arg2.IsWhole)
  (arg3 : Memref sig .tc .vmem S1x64 .f32) (harg3 : arg3.IsWhole)
  (arg4 : Memref sig .tc .vmem S1x64 .f32) (harg4 : arg4.IsWhole)
  (arg5 : Memref sig .tc .vmem S1x64 .f32) (harg5 : arg5.IsWhole)
  (arg6 : Memref sig .tc .vmem S1x128 .f32) (harg6 : arg6.IsWhole)
  (arg7 : Memref sig .tc .vmem S1x4x2048x128 .bf16) (harg7 : arg7.IsWhole)
  (arg8 : Memref sig .tc .vmem S1x4x2048x128 .bf16) (harg8 : arg8.IsWhole)
  (arg9 : Memref sig .tc .vmem S1x4x2048x128 .bf16) (harg9 : arg9.IsWhole)
  (arg10 : Memref sig .tc .vmem S1x4x2048x128 .bf16) (harg10 : arg10.IsWhole)
  (arg11 : Memref sig .tc .vmem S1x4x2048x128 .bf16) (harg11 : arg11.IsWhole)
  (arg12 : Memref sig .tc .vmem S4x128x2048 .bf16) (harg12 : arg12.IsWhole)
  (arg13 : Memref sig .tc .vmem S2048x512 .f32) (harg13 : arg13.IsWhole)
  (arg14 : Memref sig .tc .vmem S2048x512 .f32) (harg14 : arg14.IsWhole)
  (arg15 : Memref sig .tc .vmem S2048x512 .bf16) (harg15 : arg15.IsWhole)
  (arg16 : Memref sig .tc .vmem S2048x512 .bf16) (harg16 : arg16.IsWhole)
  (v14 : FVec F S1x1 .f32) (v17 : FVec F S1x128 .f32) (v557 : FVec F S8x512 .f32) (v559 : FVec F S1x512 .f32)
  (f7 : Buf (Elt F) (arg7.view.loc (c : Thread nD τ)))
  (f8 : Buf (Elt F) (arg8.view.loc (c : Thread nD τ)))
  (f10 : Buf (Elt F) (arg10.view.loc (c : Thread nD τ)))
  (f12 : Buf (Elt F) (arg12.view.loc (c : Thread nD τ)))
  (Q K V Z : Vec F S1x4x2048x128 .bf16)

/-- What holds before trip `k`. -/
structure Good (k : ℕ) (s : PipeState (F := F) c arg11 arg13 arg14 arg15 arg16) : Prop where
  even : k % 2 = 0 → arg14.view.read (Elt F) s.f14 = tileScores Q K (k + 1) ∧ arg15.view.read (Elt F) s.f15 = tileWeights Q K k
  odd : k % 2 = 1 → arg13.view.read (Elt F) s.f13 = tileScores Q K (k + 1) ∧ arg16.view.read (Elt F) s.f16 = tileWeights Q K k
  max : s.m = tileMax Q K (k + 1)
  sum : s.l = tileSum Q K k
  done : ∀ y, tileOf y < k → arg11.view.read (Elt F) s.f11 y = blockWith Q K V Z v14 v17 y

variable {Q K V Z}
  (hQ : arg7.view.read (Elt F) f7 = Q) (hK : arg8.view.read (Elt F) f8 = K) (hZ : arg10.view.read (Elt F) f10 = Z)
  (hV : ∀ h < 4, headT (F := F) (arg12.view.read (Elt F) f12) h = valuesT (headAll V h))

include hQ hK hZ hV in
/-- An even trip keeps it. -/
theorem good_even (k : Fin k0_t1_loop.trips) (hk : k0_cond1 k = 1#1) (s : PipeState (F := F) c arg11 arg13 arg14 arg15 arg16)
    (h : Good c arg11 arg13 arg14 arg15 arg16 v14 v17 Q K V Z k.val s) :
    Good c arg11 arg13 arg14 arg15 arg16 v14 v17 Q K V Z (k.val + 1) (evenNext c i arg2 harg2 arg3 harg3 arg4 harg4 arg5 harg5 arg6 harg6 arg7 harg7 arg8 harg8 arg9 harg9 arg10 harg10 arg11 harg11 arg12 harg12 arg13 harg13 arg14 harg14 arg15 harg15 arg16 harg16 v14 v17 laneMask v557 v559 f7 f8 f10 f12 k hk s) := by
  have hk30 := trips_lt k
  have hk2 := (cond_iff k).1 hk
  obtain ⟨h14, h15⟩ := h.even hk2
  unfold evenNext
  refine ⟨fun e => absurd e (by omega), fun _ => ⟨?_, ?_⟩, ?_, ?_, fun y hy => ?_⟩
  · dsimp only
    rw [even_scores, hQ, hK]; rfl
  · dsimp only
    rw [even_weights, h14, h.max]; rfl
  · dsimp only
    rw [even_max, hQ, hK]; rfl
  · dsimp only
    rw [even_sum, h14, h.max]; rfl
  · dsimp only
    rw [even_out]
    by_cases e : tileOf y = k.val
    · rw [read_tile_hit arg11.view _ _ _ _ y k.val (off2_eq k) e, hV _ (by omega), h15, h.sum, hZ]
      unfold blockWith
      rw [e]; rfl
    · rw [read_tile_miss arg11.view _ _ _ _ y k.val (off2_eq k) e, View.writes_nil]
      exact h.done y (by omega)

include hQ hK hZ hV in
/-- An odd trip keeps it. -/
theorem good_odd (k : Fin k0_t1_loop.trips) (hk : ¬ k0_cond1 k = 1#1) (s : PipeState (F := F) c arg11 arg13 arg14 arg15 arg16)
    (h : Good c arg11 arg13 arg14 arg15 arg16 v14 v17 Q K V Z k.val s) :
    Good c arg11 arg13 arg14 arg15 arg16 v14 v17 Q K V Z (k.val + 1) (oddNext c i arg2 harg2 arg3 harg3 arg4 harg4 arg5 harg5 arg6 harg6 arg7 harg7 arg8 harg8 arg9 harg9 arg10 harg10 arg11 harg11 arg12 harg12 arg13 harg13 arg14 harg14 arg15 harg15 arg16 harg16 v14 v17 laneMask v557 v559 f7 f8 f10 f12 k hk s) := by
  have hk30 := trips_lt k
  have hk2 : k.val % 2 = 1 := by
    have := mt (cond_iff k).2 hk
    omega
  obtain ⟨h13, h16⟩ := h.odd hk2
  unfold oddNext
  refine ⟨fun _ => ⟨?_, ?_⟩, fun e => absurd e (by omega), ?_, ?_, fun y hy => ?_⟩
  · dsimp only
    rw [odd_scores, hQ, hK]; rfl
  · dsimp only
    rw [odd_weights, h13, h.max]; rfl
  · dsimp only
    rw [odd_max, hQ, hK]; rfl
  · dsimp only
    rw [odd_sum, h13, h.max]; rfl
  · dsimp only
    rw [odd_out]
    by_cases e : tileOf y = k.val
    · rw [read_tile_hit arg11.view _ _ _ _ y k.val (off13_eq k) e, hV _ (by omega), h16, h.sum, hZ]
      unfold blockWith
      rw [e]; rfl
    · rw [read_tile_miss arg11.view _ _ _ _ y k.val (off13_eq k) e, View.writes_nil]
      exact h.done y (by omega)

include hQ hK hZ hV in
/-- It holds before every trip and after the last, if it holds before the first. -/
theorem good_stAt (s0 : PipeState (F := F) c arg11 arg13 arg14 arg15 arg16) (h0 : Good c arg11 arg13 arg14 arg15 arg16 v14 v17 Q K V Z 0 s0) :
    ∀ k : ℕ, k ≤ 30 → Good c arg11 arg13 arg14 arg15 arg16 v14 v17 Q K V Z k (stAt c i arg2 harg2 arg3 harg3 arg4 harg4 arg5 harg5 arg6 harg6 arg7 harg7 arg8 harg8 arg9 harg9 arg10 harg10 arg11 harg11 arg12 harg12 arg13 harg13 arg14 harg14 arg15 harg15 arg16 harg16 v14 v17 laneMask v557 v559 f7 f8 f10 f12 s0 k)
  | 0, _ => h0
  | k + 1, hk => by
    have ih := good_stAt s0 h0 k (by omega)
    have hlt : k < k0_t1_loop.trips := by
      show k < 30
      omega
    have e := stAt_succ c i arg2 harg2 arg3 harg3 arg4 harg4 arg5 harg5 arg6 harg6 arg7 harg7 arg8 harg8 arg9 harg9 arg10 harg10 arg11 harg11 arg12 harg12 arg13 harg13 arg14 harg14 arg15 harg15 arg16 harg16 v14 v17 laneMask v557 v559 f7 f8 f10 f12 s0 ⟨k, hlt⟩
    dsimp only at e
    rw [e, next]
    by_cases hc : k0_cond1 ⟨k, hlt⟩ = 1#1
    · rw [dif_pos hc]
      exact good_even c i arg2 harg2 arg3 harg3 arg4 harg4 arg5 harg5 arg6 harg6 arg7 harg7 arg8 harg8 arg9 harg9 arg10 harg10 arg11 harg11 arg12 harg12 arg13 harg13 arg14 harg14 arg15 harg15 arg16 harg16 v14 v17 v557 v559 f7 f8 f10 f12 hQ hK hZ hV ⟨k, hlt⟩ hc _ ih
    · rw [dif_neg hc]
      exact good_odd c i arg2 harg2 arg3 harg3 arg4 harg4 arg5 harg5 arg6 harg6 arg7 harg7 arg8 harg8 arg9 harg9 arg10 harg10 arg11 harg11 arg12 harg12 arg13 harg13 arg14 harg14 arg15 harg15 arg16 harg16 v14 v17 v557 v559 f7 f8 f10 f12 hQ hK hZ hV ⟨k, hlt⟩ hc _ ih

end Cert.Proof

end
-- ==== Proof.BodyRun.lean ====
module

public import proofs.«01_k».proof.Proof.Pipe
public import Idealize.ShloMosaic.Lib.Ring
public import Idealize.ShloMosaic.Lib.Affine
public import Idealize.ShloMosaic.Lib.Tactic

/-!
# One grid point

The whole body at one grid point, from any contents of its buffers: what the output block holds afterwards.
-/

@[expose] public section

set_option maxRecDepth 16384

noncomputable section

namespace Cert.Proof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (arg2 : Memref sig .tc .vmem S1x64 .f32) (harg2 : arg2.IsWhole)
  (arg3 : Memref sig .tc .vmem S1x64 .f32) (harg3 : arg3.IsWhole)
  (arg4 : Memref sig .tc .vmem S1x64 .f32) (harg4 : arg4.IsWhole)
  (arg5 : Memref sig .tc .vmem S1x64 .f32) (harg5 : arg5.IsWhole)
  (arg6 : Memref sig .tc .vmem S1x128 .f32) (harg6 : arg6.IsWhole)
  (arg7 : Memref sig .tc .vmem S1x4x2048x128 .bf16) (harg7 : arg7.IsWhole)
  (arg8 : Memref sig .tc .vmem S1x4x2048x128 .bf16) (harg8 : arg8.IsWhole)
  (arg9 : Memref sig .tc .vmem S1x4x2048x128 .bf16) (harg9 : arg9.IsWhole)
  (arg10 : Memref sig .tc .vmem S1x4x2048x128 .bf16) (harg10 : arg10.IsWhole)
  (arg11 : Memref sig .tc .vmem S1x4x2048x128 .bf16) (harg11 : arg11.IsWhole)
  (arg12 : Memref sig .tc .vmem S4x128x2048 .bf16) (harg12 : arg12.IsWhole)
  (arg13 : Memref sig .tc .vmem S2048x512 .f32) (harg13 : arg13.IsWhole)
  (arg14 : Memref sig .tc .vmem S2048x512 .f32) (harg14 : arg14.IsWhole)
  (arg15 : Memref sig .tc .vmem S2048x512 .bf16) (harg15 : arg15.IsWhole)
  (arg16 : Memref sig .tc .vmem S2048x512 .bf16) (harg16 : arg16.IsWhole)
  (f2 : Buf (Elt F) (arg2.view.loc (c : Thread nD τ)))
  (f3 : Buf (Elt F) (arg3.view.loc (c : Thread nD τ)))
  (f4 : Buf (Elt F) (arg4.view.loc (c : Thread nD τ)))
  (f5 : Buf (Elt F) (arg5.view.loc (c : Thread nD τ)))
  (f6 : Buf (Elt F) (arg6.view.loc (c : Thread nD τ)))
  (f7 : Buf (Elt F) (arg7.view.loc (c : Thread nD τ)))
  (f8 : Buf (Elt F) (arg8.view.loc (c : Thread nD τ)))
  (f9 : Buf (Elt F) (arg9.view.loc (c : Thread nD τ)))
  (f10 : Buf (Elt F) (arg10.view.loc (c : Thread nD τ)))
  (f11 : Buf (Elt F) (arg11.view.loc (c : Thread nD τ)))
  (f12 : Buf (Elt F) (arg12.view.loc (c : Thread nD τ)))
  (f13 : Buf (Elt F) (arg13.view.loc (c : Thread nD τ)))
  (f14 : Buf (Elt F) (arg14.view.loc (c : Thread nD τ)))
  (f15 : Buf (Elt F) (arg15.view.loc (c : Thread nD τ)))
  (f16 : Buf (Elt F) (arg16.view.loc (c : Thread nD τ)))

attribute [local irreducible] View.writes in
set_option backward.proofsInPublic true in
set_option maxHeartbeats 4000000 in
/-- The body at one grid point: the inputs stay, the output block ends at the contents named here, the scratch buffers end at
    some contents. -/
@[irreducible] def bodyRun :
    { g : Buf (Elt F) (arg11.view.loc (c : Thread nD τ)) //
      iprop(At c arg2 f2 ∗ At c arg3 f3 ∗ At c arg4 f4 ∗ At c arg5 f5 ∗ At c arg6 f6 ∗ At c arg7 f7 ∗ At c arg8 f8 ∗ At c arg9 f9 ∗ At c arg10 f10 ∗ At c arg11 f11 ∗ At c arg12 f12 ∗ At c arg13 f13 ∗ At c arg14 f14 ∗ At c arg15 f15 ∗ At c arg16 f16)
      ⊢ wp frame (wpE (defs₀ (F := F)) 𝒱₀ (c : Thread nD τ) none) Set.univ
        (cc0_diff_attn i arg2 harg2 arg3 harg3 arg4 harg4 arg5 harg5 arg6 harg6 arg7 harg7 arg8 harg8 arg9 harg9 arg10 harg10 arg11 harg11 arg12 harg12 arg13 harg13 arg14 harg14 arg15 harg15 arg16 harg16)
        (fun _ => iprop(At c arg2 f2 ∗ At c arg3 f3 ∗ At c arg4 f4 ∗ At c arg5 f5 ∗ At c arg6 f6 ∗ At c arg7 f7 ∗ At c arg8 f8 ∗ At c arg9 f9 ∗ At c arg10 f10 ∗ At c arg11 g
          ∗ (∃ f, At c arg12 f) ∗ (∃ f, At c arg13 f) ∗ (∃ f, At c arg14 f) ∗ (∃ f, At c arg15 f) ∗ (∃ f, At c arg16 f))) } := by
  refine ⟨?_, ?run⟩
  case run =>
    unfold cc0_diff_attn
    iintro ⟨H2, H3, H4, H5, H6, H7, H8, H9, H10, H11, H12, H13, H14, H15, H16⟩
    sl_exec_parts
    sl_step
    sl_close

end Cert.Proof

end
-- ==== Proof.StartVal.lean ====
module

public import proofs.«01_k».proof.Proof.PipeVal
public import proofs.«01_k».proof.Proof.BodyRun

/-!
# What stands in the buffers when the loop begins

Before the loop the values of every head are transposed, tiles 0 and 1 are scored and the weights of tile 0 are taken.
-/

@[expose] public section

set_option maxRecDepth 16384

noncomputable section

namespace Cert.Proof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UR sig nD τ) ℕ

variable (c : Dev nD) (i : grid0.Coords)
  (arg2 : Memref sig .tc .vmem S1x64 .f32) (harg2 : arg2.IsWhole)
  (arg3 : Memref sig .tc .vmem S1x64 .f32) (harg3 : arg3.IsWhole)
  (arg4 : Memref sig .tc .vmem S1x64 .f32) (harg4 : arg4.IsWhole)
  (arg5 : Memref sig .tc .vmem S1x64 .f32) (harg5 : arg5.IsWhole)
  (arg6 : Memref sig .tc .vmem S1x128 .f32) (harg6 : arg6.IsWhole)
  (arg7 : Memref sig .tc .vmem S1x4x2048x128 .bf16) (harg7 : arg7.IsWhole)
  (arg8 : Memref sig .tc .vmem S1x4x2048x128 .bf16) (harg8 : arg8.IsWhole)
  (arg9 : Memref sig .tc .vmem S1x4x2048x128 .bf16) (harg9 : arg9.IsWhole)
  (arg10 : Memref sig .tc .vmem S1x4x2048x128 .bf16) (harg10 : arg10.IsWhole)
  (arg11 : Memref sig .tc .vmem S1x4x2048x128 .bf16) (harg11 : arg11.IsWhole)
  (arg12 : Memref sig .tc .vmem S4x128x2048 .bf16) (harg12 : arg12.IsWhole)
  (arg13 : Memref sig .tc .vmem S2048x512 .f32) (harg13 : arg13.IsWhole)
  (arg14 : Memref sig .tc .vmem S2048x512 .f32) (harg14 : arg14.IsWhole)
  (arg15 : Memref sig .tc .vmem S2048x512 .bf16) (harg15 : arg15.IsWhole)
  (arg16 : Memref sig .tc .vmem S2048x512 .bf16) (harg16 : arg16.IsWhole)
    (f2 : Buf (Elt F) (arg2.view.loc (c : Thread nD τ)))
  (f3 : Buf (Elt F) (arg3.view.loc (c : Thread nD τ)))
  (f4 : Buf (Elt F) (arg4.view.loc (c : Thread nD τ)))
  (f5 : Buf (Elt F) (arg5.view.loc (c : Thread nD τ)))
  (f6 : Buf (Elt F) (arg6.view.loc (c : Thread nD τ)))
  (f7 : Buf (Elt F) (arg7.view.loc (c : Thread nD τ)))
  (f8 : Buf (Elt F) (arg8.view.loc (c : Thread nD τ)))
  (f9 : Buf (Elt F) (arg9.view.loc (c : Thread nD τ)))
  (f10 : Buf (Elt F) (arg10.view.loc (c : Thread nD τ)))
  (f11 : Buf (Elt F) (arg11.view.loc (c : Thread nD τ)))
  (f12 : Buf (Elt F) (arg12.view.loc (c : Thread nD τ)))
  (f13 : Buf (Elt F) (arg13.view.loc (c : Thread nD τ)))
  (f14 : Buf (Elt F) (arg14.view.loc (c : Thread nD τ)))
  (f15 : Buf (Elt F) (arg15.view.loc (c : Thread nD τ)))
  (f16 : Buf (Elt F) (arg16.view.loc (c : Thread nD τ)))

/-- The weight of the second map. -/
theorem start_lam : bodyRun.sl.r c arg2 arg3 arg4 arg5 f2 f3 f4 f5 = lamOf (F := F) (arg2.view.read (Elt F) f2) (arg3.view.read (Elt F) f3) (arg4.view.read (Elt F) f4) (arg5.view.read (Elt F) f5) := by
  sl_open_run
  rw [load_S1x64 arg2.view f2, load_S1x64 arg3.view f3, load_S1x64 arg4.view f4, load_S1x64 arg5.view f5]
  sl_open_pay
  rfl

/-- The scale. -/
theorem start_scale : bodyRun.sl.r_1 c arg6 f6 = scaleOf (F := F) (arg6.view.read (Elt F) f6) := by
  sl_open_run
  rw [load_S1x128 arg6.view f6]
  sl_open_pay
  rfl

/-- The values of every head, transposed. -/
def allT (V : Vec F S1x4x2048x128 .bf16) : Vec F S4x128x2048 .bf16 := fun y =>
  valuesT (headAll V (y 0).val) (ix3 0 ⟨(y 1).val, (y 1).isLt⟩ ⟨(y 2).val, (y 2).isLt⟩)

theorem allT_part (V : Vec F S1x4x2048x128 .bf16) (h : ℕ)
    (inb : ∀ a, (![h, 0, 0] : Fin 3 → ℕ) a + S1x128x2048.size a ≤ S4x128x2048.size a) (x : S1x128x2048.Idx) :
    valuesT (headAll V h) x = allT V ((Rect.unit (s := S4x128x2048) ![h, 0, 0] S1x128x2048.size inb).emb x) := by
  have h0 : (x 0).val < 1 := (x 0).isLt
  have e : (((Rect.unit (s := S4x128x2048) ![h, 0, 0] S1x128x2048.size inb).emb x) 0).val = h := by
    show h + 1 * (x 0).val = h
    omega
  unfold allT
  rw [e]
  congr 1
  refine (eq_ix3 x).trans ?_
  congr 1
  · exact Fin.ext (by show (x 0).val = 0; omega)
  · exact Fin.ext (by show (x 1).val = 0 + 1 * (x 1).val; omega)
  · exact Fin.ext (by show (x 2).val = 0 + 1 * (x 2).val; omega)

theorem start_values : arg12.view.read (Elt F) (arg12.view.writes (Elt F) arg12.view.junk (bodyRun.sl.H12_4 c arg9 f9))
    = allT (F := F) (arg9.view.read (Elt F) f9) := by
  funext y
  sl_open_run
  refine View.read_writes_apply_of_pieces _ _ _ _ ?_ y (View.cover_of_tiled (s := S4x128x2048) _ S1x128x2048.size rfl y)
  sl_open_pay
  simp only [List.forall_mem_cons]
  refine ⟨?_, ?_, ?_, ?_, fun p h => absurd h List.not_mem_nil⟩
  · exact fun x => allT_part (F := F) (arg9.view.read (Elt F) f9) 3 _ x
  · exact fun x => allT_part (F := F) (arg9.view.read (Elt F) f9) 2 _ x
  · exact fun x => allT_part (F := F) (arg9.view.read (Elt F) f9) 1 _ x
  · exact fun x => allT_part (F := F) (arg9.view.read (Elt F) f9) 0 _ x

theorem headT_allT (V : Vec F S1x4x2048x128 .bf16) (h : ℕ) (hh : h < 4) : headT (allT V) h = valuesT (headAll V h) := by
  have e : min h 3 = h := Nat.min_eq_left (by omega)
  funext x
  refine (allT_part V (min h 3) (by intro a; fin_cases a <;> simp) x).symm.trans ?_
  rw [e]

/-- The scores of tile 0. -/
theorem start_scores0 : arg13.view.read (Elt F) (arg13.view.writes (Elt F) arg13.view.junk (bodyRun.sl.H13_8 c arg7 arg8 f7 f8))
    = tileScores (F := F) (arg7.view.read (Elt F) f7) (arg8.view.read (Elt F) f8) 0 := by
  funext y
  sl_open_run
  rw [tileScores, scores]
  refine View.read_writes_apply_of_pieces _ _ _ _ ?_ y (View.cover_of_tiled (s := S2048x512) _ S256x512.size rfl y)
  sl_open_pay
  simp only [List.forall_mem_cons]
  refine ⟨?_, ?_, ?_, ?_, ?_, ?_, ?_, ?_, fun p h => absurd h List.not_mem_nil⟩ <;>
    exact fun x => stack256_part _ _ (by rfl) _ _ (by rfl) x

/-- The scores of tile 1. -/
theorem start_scores1 : arg14.view.read (Elt F) (arg14.view.writes (Elt F) arg14.view.junk (bodyRun.sl.H14_8 c arg7 arg8 f7 f8))
    = tileScores (F := F) (arg7.view.read (Elt F) f7) (arg8.view.read (Elt F) f8) 1 := by
  funext y
  sl_open_run
  rw [tileScores, scores]
  refine View.read_writes_apply_of_pieces _ _ _ _ ?_ y (View.cover_of_tiled (s := S2048x512) _ S256x512.size rfl y)
  sl_open_pay
  simp only [List.forall_mem_cons]
  refine ⟨?_, ?_, ?_, ?_, ?_, ?_, ?_, ?_, fun p h => absurd h List.not_mem_nil⟩ <;>
    exact fun x => stack256_part _ _ (by rfl) _ _ (by rfl) x

/-- The largest scores of tile 0. -/
theorem start_max0 : bodyRun.sl.r_9 c arg7 arg8 f7 f8 = tileMax (F := F) (arg7.view.read (Elt F) f7) (arg8.view.read (Elt F) f8) 0 := by
  sl_open_run
  sl_open_pay
  rfl

/-- The largest scores of tile 1. -/
theorem start_max1 : bodyRun.sl.r_43 c arg7 arg8 f7 f8 = tileMax (F := F) (arg7.view.read (Elt F) f7) (arg8.view.read (Elt F) f8) 1 := by
  sl_open_run
  sl_open_pay
  rfl

theorem start_read (r : LoadRect S2048x512) : arg13.view.readCov (Val := Elt F) (bodyRun.sl.H13_8 c arg7 arg8 f7 f8) r
    = fun x => tileScores (F := F) (arg7.view.read (Elt F) f7) (arg8.view.read (Elt F) f8) 0 (r.idx x) :=
  congrArg (fun (S : Vec F S2048x512 .f32) => fun x => S (r.idx x)) (start_scores0 c arg7 arg8 arg13 f7 f8)

/-- The weights of tile 0. -/
theorem start_weights : arg15.view.read (Elt F) (arg15.view.writes (Elt F) arg15.view.junk (bodyRun.sl.H15_32 c arg7 arg8 arg13 f7 f8))
    = tileWeights (F := F) (arg7.view.read (Elt F) f7) (arg8.view.read (Elt F) f8) 0 := by
  have hr := start_read c arg7 arg8 arg13 f7 f8
  have hm := start_max0 c arg7 arg8 f7 f8
  funext y
  revert hr hm
  sl_open_run
  intro hr hm
  simp only [hr, hm]
  rw [tileWeights, weights]
  refine View.read_writes_apply_of_pieces _ _ _ _ ?_ y (View.cover_of_tiled (s := S2048x512) _ S64x512.size rfl y)
  sl_open_pay
  simp only [List.forall_mem_cons]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun p h => absurd h List.not_mem_nil⟩ <;>
    exact fun x => stack64_part _ _ (by rfl) _ _ (by rfl) x

/-- Their sums. -/
theorem start_sum : k0_pay357 (bodyRun.sl.r_42 c arg7 arg8 arg13 f7 f8) = tileSum (F := F) (arg7.view.read (Elt F) f7) (arg8.view.read (Elt F) f8) 0 := by
  have hr := start_read c arg7 arg8 arg13 f7 f8
  have hm := start_max0 c arg7 arg8 f7 f8
  revert hr hm
  sl_open_run
  intro hr hm
  simp only [hr, hm]
  sl_open_pay
  rfl

end Cert.Proof

end
-- ==== Proof.BodyVal.lean ====
module

public import proofs.«01_k».proof.Proof.StartVal

/-!
# What the body writes

The output block after one grid point is `outBlock` of the blocks of its inputs, whatever the buffers held before.
-/

@[expose] public section

set_option maxRecDepth 16384

noncomputable section

namespace Cert.Proof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UR sig nD τ) ℕ

variable (c : Dev nD) (i : grid0.Coords)
  (arg2 : Memref sig .tc .vmem S1x64 .f32) (harg2 : arg2.IsWhole)
  (arg3 : Memref sig .tc .vmem S1x64 .f32) (harg3 : arg3.IsWhole)
  (arg4 : Memref sig .tc .vmem S1x64 .f32) (harg4 : arg4.IsWhole)
  (arg5 : Memref sig .tc .vmem S1x64 .f32) (harg5 : arg5.IsWhole)
  (arg6 : Memref sig .tc .vmem S1x128 .f32) (harg6 : arg6.IsWhole)
  (arg7 : Memref sig .tc .vmem S1x4x2048x128 .bf16) (harg7 : arg7.IsWhole)
  (arg8 : Memref sig .tc .vmem S1x4x2048x128 .bf16) (harg8 : arg8.IsWhole)
  (arg9 : Memref sig .tc .vmem S1x4x2048x128 .bf16) (harg9 : arg9.IsWhole)
  (arg10 : Memref sig .tc .vmem S1x4x2048x128 .bf16) (harg10 : arg10.IsWhole)
  (arg11 : Memref sig .tc .vmem S1x4x2048x128 .bf16) (harg11 : arg11.IsWhole)
  (arg12 : Memref sig .tc .vmem S4x128x2048 .bf16) (harg12 : arg12.IsWhole)
  (arg13 : Memref sig .tc .vmem S2048x512 .f32) (harg13 : arg13.IsWhole)
  (arg14 : Memref sig .tc .vmem S2048x512 .f32) (harg14 : arg14.IsWhole)
  (arg15 : Memref sig .tc .vmem S2048x512 .bf16) (harg15 : arg15.IsWhole)
  (arg16 : Memref sig .tc .vmem S2048x512 .bf16) (harg16 : arg16.IsWhole)
    (f2 : Buf (Elt F) (arg2.view.loc (c : Thread nD τ)))
  (f3 : Buf (Elt F) (arg3.view.loc (c : Thread nD τ)))
  (f4 : Buf (Elt F) (arg4.view.loc (c : Thread nD τ)))
  (f5 : Buf (Elt F) (arg5.view.loc (c : Thread nD τ)))
  (f6 : Buf (Elt F) (arg6.view.loc (c : Thread nD τ)))
  (f7 : Buf (Elt F) (arg7.view.loc (c : Thread nD τ)))
  (f8 : Buf (Elt F) (arg8.view.loc (c : Thread nD τ)))
  (f9 : Buf (Elt F) (arg9.view.loc (c : Thread nD τ)))
  (f10 : Buf (Elt F) (arg10.view.loc (c : Thread nD τ)))
  (f11 : Buf (Elt F) (arg11.view.loc (c : Thread nD τ)))
  (f12 : Buf (Elt F) (arg12.view.loc (c : Thread nD τ)))
  (f13 : Buf (Elt F) (arg13.view.loc (c : Thread nD τ)))
  (f14 : Buf (Elt F) (arg14.view.loc (c : Thread nD τ)))
  (f15 : Buf (Elt F) (arg15.view.loc (c : Thread nD τ)))
  (f16 : Buf (Elt F) (arg16.view.loc (c : Thread nD τ)))

/-- What the loop leaves. -/
def endState : PipeState (F := F) c arg11 arg13 arg14 arg15 arg16 :=
  (stAt c i arg2 harg2 arg3 harg3 arg4 harg4 arg5 harg5 arg6 harg6 arg7 harg7 arg8 harg8 arg9 harg9 arg10 harg10 arg11 harg11 arg12 harg12 arg13 harg13 arg14 harg14 arg15 harg15 arg16 harg16 (bodyRun.sl.r c arg2 arg3 arg4 arg5 f2 f3 f4 f5) (bodyRun.sl.r_1 c arg6 f6) k0_pay229
          (bodyRun.sl.r_42 c arg7 arg8 arg13 f7 f8) (bodyRun.sl.r_43 c arg7 arg8 f7 f8) f7 f8 f10
          (arg12.view.writes (Elt F) arg12.view.junk (bodyRun.sl.H12_4 c arg9 f9)) ⟨f11, arg13.view.writes (Elt F) arg13.view.junk (bodyRun.sl.H13_8 c arg7 arg8 f7 f8),
      arg14.view.writes (Elt F) arg14.view.junk (bodyRun.sl.H14_8 c arg7 arg8 f7 f8),
      arg15.view.writes (Elt F) arg15.view.junk (bodyRun.sl.H15_32 c arg7 arg8 arg13 f7 f8), f16,
      bodyRun.sl.r_43 c arg7 arg8 f7 f8, k0_pay357 (bodyRun.sl.r_42 c arg7 arg8 arg13 f7 f8)⟩ (Scf.trips (2#32) (Scalar.addi 2#32 30#32) 1#32))

theorem start_mask : (k0_pay229 : IVec S256x128 1) = laneMask := rfl

attribute [local irreducible] stAt in
/-- What the slots and the carried rows hold when the loop ends. -/
theorem loop_end : Good c arg11 arg13 arg14 arg15 arg16 (lamOf (F := F) (arg2.view.read (Elt F) f2) (arg3.view.read (Elt F) f3) (arg4.view.read (Elt F) f4) (arg5.view.read (Elt F) f5)) (scaleOf (F := F) (arg6.view.read (Elt F) f6)) (arg7.view.read (Elt F) f7) (arg8.view.read (Elt F) f8) (arg9.view.read (Elt F) f9) (arg10.view.read (Elt F) f10) 30
    (endState c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f9 f10 f11 f16) := by
  unfold endState
  rw [show Scf.trips (2#32) (Scalar.addi 2#32 30#32) 1#32 = 30 from by decide +kernel, start_mask, start_lam, start_scale]
  have hv : ∀ h < 4, headT (F := F) (arg12.view.read (Elt F) (arg12.view.writes (Elt F) arg12.view.junk (bodyRun.sl.H12_4 c arg9 f9))) h
      = valuesT (headAll (arg9.view.read (Elt F) f9) h) := fun h hh => by
    rw [start_values]
    exact headT_allT _ h hh
  have h0 : Good c arg11 arg13 arg14 arg15 arg16 (lamOf (F := F) (arg2.view.read (Elt F) f2) (arg3.view.read (Elt F) f3) (arg4.view.read (Elt F) f4) (arg5.view.read (Elt F) f5)) (scaleOf (F := F) (arg6.view.read (Elt F) f6)) (arg7.view.read (Elt F) f7) (arg8.view.read (Elt F) f8) (arg9.view.read (Elt F) f9) (arg10.view.read (Elt F) f10) 0
      ⟨f11, arg13.view.writes (Elt F) arg13.view.junk (bodyRun.sl.H13_8 c arg7 arg8 f7 f8),
      arg14.view.writes (Elt F) arg14.view.junk (bodyRun.sl.H14_8 c arg7 arg8 f7 f8),
      arg15.view.writes (Elt F) arg15.view.junk (bodyRun.sl.H15_32 c arg7 arg8 arg13 f7 f8), f16,
      bodyRun.sl.r_43 c arg7 arg8 f7 f8, k0_pay357 (bodyRun.sl.r_42 c arg7 arg8 arg13 f7 f8)⟩ := by
    refine Good.mk (fun _ => ⟨?_, ?_⟩) (fun e => absurd e (by decide)) ?_ ?_ (fun y hy => absurd hy (Nat.not_lt_zero _))
    · dsimp only
      rw [Nat.zero_add]
      exact start_scores1 c arg7 arg8 arg14 f7 f8
    · dsimp only
      exact start_weights c arg7 arg8 arg13 arg15 f7 f8
    · dsimp only
      rw [Nat.zero_add]
      exact start_max1 c arg7 arg8 f7 f8
    · dsimp only
      exact start_sum c arg7 arg8 arg13 f7 f8
  have hg := good_stAt c i arg2 harg2 arg3 harg3 arg4 harg4 arg5 harg5 arg6 harg6 arg7 harg7 arg8 harg8 arg9 harg9 arg10 harg10 arg11 harg11 arg12 harg12 arg13 harg13 arg14 harg14 arg15 harg15 arg16 harg16 (lamOf (F := F) (arg2.view.read (Elt F) f2) (arg3.view.read (Elt F) f3) (arg4.view.read (Elt F) f4) (arg5.view.read (Elt F) f5)) (scaleOf (F := F) (arg6.view.read (Elt F) f6)) (bodyRun.sl.r_42 c arg7 arg8 arg13 f7 f8) (bodyRun.sl.r_43 c arg7 arg8 f7 f8) f7 f8 f10
    (arg12.view.writes (Elt F) arg12.view.junk (bodyRun.sl.H12_4 c arg9 f9)) rfl rfl rfl hv ⟨f11, arg13.view.writes (Elt F) arg13.view.junk (bodyRun.sl.H13_8 c arg7 arg8 f7 f8),
      arg14.view.writes (Elt F) arg14.view.junk (bodyRun.sl.H14_8 c arg7 arg8 f7 f8),
      arg15.view.writes (Elt F) arg15.view.junk (bodyRun.sl.H15_32 c arg7 arg8 arg13 f7 f8), f16,
      bodyRun.sl.r_43 c arg7 arg8 f7 f8, k0_pay357 (bodyRun.sl.r_42 c arg7 arg8 arg13 f7 f8)⟩ h0 30 (le_refl _)
  exact hg

/-- A load of the transposed values. -/
theorem values_read (r : LoadRect S4x128x2048) : arg12.view.readCov (Val := Elt F) (bodyRun.sl.H12_4 c arg9 f9) r
    = fun x => allT (F := F) (arg9.view.read (Elt F) f9) (r.idx x) :=
  congrArg (fun (S : Vec F S4x128x2048 .bf16) => fun x => S (r.idx x)) (start_values c arg9 arg12 f9)

/-- The weights of the last tile. -/
theorem last_weights : arg16.view.read (Elt F) (arg16.view.writes (Elt F) arg16.view.junk (bodyRun.sl.H16_32 c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f9 f10 f11 f16))
    = weights (endState c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f9 f10 f11 f16).m (arg14.view.read (Elt F) (endState c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f9 f10 f11 f16).f14) := by
  funext y
  unfold endState
  sl_open_run
  generalize stAt (F := F) _ _ _ _ _ _ _ _ _ _ _ _ _ _ _ _ _ _ _ _ _ _ _ _ _ _ _ _ _ _ _ _ _ _ _ _ _ _ _ _ _ _ _ = s
  rw [weights]
  refine View.read_writes_apply_of_pieces _ _ _ _ ?_ y (View.cover_of_tiled (s := S2048x512) _ S64x512.size rfl y)
  sl_open_pay
  simp only [List.forall_mem_cons]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun p h => absurd h List.not_mem_nil⟩ <;>
    exact fun x => stack64_part _ _ (by rfl) _ _ (by rfl) x

/-- A load of them whole. -/
theorem last_read (inb : ∀ a, (![0, 0] : Fin 2 → ℕ) a + S2048x512.size a ≤ S2048x512.size a) :
    arg16.view.readCov (Val := Elt F) (bodyRun.sl.H16_32 c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f9 f10 f11 f16) (Rect.unit (s := S2048x512) ![0, 0] S2048x512.size inb).toLoadRect
    = weights (endState c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f9 f10 f11 f16).m (arg14.view.read (Elt F) (endState c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f9 f10 f11 f16).f14) :=
  (load_whole _ arg16.view _ inb).trans (last_weights c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f9 f10 f11 f16)

/-- Tile 30 of the output. -/
theorem tile30 : bodyRun.sl.H11_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f9 f10 f11 f16
    = [⟨Rect.unit (s := S1x4x2048x128) ![0, 3, 1536, 0] S1x1x256x128.size inb_S1x4x2048x128_S1x1x256x128_0_3_1536_0,
        outTile (lamOf (F := F) (arg2.view.read (Elt F) f2) (arg3.view.read (Elt F) f3) (arg4.view.read (Elt F) f4) (arg5.view.read (Elt F) f5)) (scaleOf (F := F) (arg6.view.read (Elt F) f6)) (headT (allT (F := F) (arg9.view.read (Elt F) f9)) 3) (arg15.view.read (Elt F) (endState c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f9 f10 f11 f16).f15) (endState c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f9 f10 f11 f16).l (tileRows (F := F) (arg10.view.read (Elt F) f10) 30)⟩] := by
  have hlam := start_lam c arg2 arg3 arg4 arg5 f2 f3 f4 f5
  have hsc := start_scale c arg6 f6
  have hv := values_read c arg9 arg12 f9
  unfold endState
  revert hlam hsc hv
  sl_open_run
  generalize stAt (F := F) _ _ _ _ _ _ _ _ _ _ _ _ _ _ _ _ _ _ _ _ _ _ _ _ _ _ _ _ _ _ _ _ _ _ _ _ _ _ _ _ _ _ _ = s
  intro hlam hsc hv
  simp only [hlam, hsc, hv]
  rw [load_whole _ arg15.view s.f15]
  sl_open_pay
  rfl

/-- Tile 31 of the output. -/
theorem tile31 : bodyRun.sl.v994 c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f9 f10 f11 f16
    = outTile (lamOf (F := F) (arg2.view.read (Elt F) f2) (arg3.view.read (Elt F) f3) (arg4.view.read (Elt F) f4) (arg5.view.read (Elt F) f5)) (scaleOf (F := F) (arg6.view.read (Elt F) f6)) (headT (allT (F := F) (arg9.view.read (Elt F) f9)) 3) (weights (endState c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f9 f10 f11 f16).m (arg14.view.read (Elt F) (endState c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f9 f10 f11 f16).f14))
        (sumRow (endState c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f9 f10 f11 f16).m (arg14.view.read (Elt F) (endState c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f9 f10 f11 f16).f14)) (tileRows (F := F) (arg10.view.read (Elt F) f10) 31) := by
  have hlam := start_lam c arg2 arg3 arg4 arg5 f2 f3 f4 f5
  have hsc := start_scale c arg6 f6
  have hv := values_read c arg9 arg12 f9
  have he := last_read c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f9 f10 f11 f16
  revert hlam hsc hv he
  unfold endState
  sl_open_run
  generalize stAt (F := F) _ _ _ _ _ _ _ _ _ _ _ _ _ _ _ _ _ _ _ _ _ _ _ _ _ _ _ _ _ _ _ _ _ _ _ _ _ _ _ _ _ _ _ = s
  intro hlam hsc hv he
  simp only [hlam, hsc, hv, he]
  sl_open_pay
  rfl

/-- The output block after one grid point. -/
theorem body_value : arg11.view.read (Elt F) (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f9 f10 f11 f12 f13 f14 f15 f16).1
    = outBlock (F := F) (arg7.view.read (Elt F) f7) (arg8.view.read (Elt F) f8) (arg9.view.read (Elt F) f9) (arg10.view.read (Elt F) f10) (arg2.view.read (Elt F) f2) (arg3.view.read (Elt F) f3) (arg4.view.read (Elt F) f4) (arg5.view.read (Elt F) f5) (arg6.view.read (Elt F) f6) := by
  have hg := loop_end c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f9 f10 f11 f16
  obtain ⟨h14, h15⟩ := hg.even rfl
  have h30 := tile30 c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f9 f10 f11 f16
  have h31 := tile31 c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f9 f10 f11 f16
  rw [h14, hg.max, headT_allT _ 3 (by decide)] at h31
  rw [h15, hg.sum, headT_allT _ 3 (by decide)] at h30
  have hd := hg.done
  funext y
  have hy : tileOf y < 32 := by
    have h1 : (y 1).val < 4 := (y 1).isLt
    have h2 : (y 2).val < 2048 := (y 2).isLt
    unfold tileOf
    omega
  unfold bodyRun
  dsimp only
  rw [h31, h30]
  unfold endState at hd
  show arg11.view.read (Elt F) (arg11.view.writes (Elt F) _ (⟨Rect.unit (s := S1x4x2048x128) ![0, 3, 1792, 0] S1x1x256x128.size inb_S1x4x2048x128_S1x1x256x128_0_3_1792_0, _⟩ :: _)) y = _
  by_cases e : tileOf y = 31
  · rw [read_tile_hit arg11.view _ _ _ _ y 31 rfl e]
    unfold outBlock blockWith
    rw [e]; rfl
  · rw [read_tile_miss arg11.view _ _ _ _ y 31 rfl e]
    by_cases e' : tileOf y = 30
    · rw [read_tile_hit arg11.view _ _ _ _ y 30 rfl e']
      unfold outBlock blockWith
      rw [e']; rfl
    · rw [read_tile_miss arg11.view _ _ _ _ y 30 rfl e', View.writes_nil]
      exact hd y (by omega)

end Cert.Proof

end
-- ==== Proof.Triple.lean ====
module

public import proofs.«01_k».proof.Proof.BodyVal

/-!
# One grid point, as a triple

From whole staging buffers that hold the operands' blocks, the body keeps them and leaves the output block.
-/

@[expose] public section

set_option maxRecDepth 16384

noncomputable section

namespace Cert.Proof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (arg2 : Memref sig .tc .vmem S1x64 .f32) (harg2 : arg2.IsWhole)
  (arg3 : Memref sig .tc .vmem S1x64 .f32) (harg3 : arg3.IsWhole)
  (arg4 : Memref sig .tc .vmem S1x64 .f32) (harg4 : arg4.IsWhole)
  (arg5 : Memref sig .tc .vmem S1x64 .f32) (harg5 : arg5.IsWhole)
  (arg6 : Memref sig .tc .vmem S1x128 .f32) (harg6 : arg6.IsWhole)
  (arg7 : Memref sig .tc .vmem S1x4x2048x128 .bf16) (harg7 : arg7.IsWhole)
  (arg8 : Memref sig .tc .vmem S1x4x2048x128 .bf16) (harg8 : arg8.IsWhole)
  (arg9 : Memref sig .tc .vmem S1x4x2048x128 .bf16) (harg9 : arg9.IsWhole)
  (arg10 : Memref sig .tc .vmem S1x4x2048x128 .bf16) (harg10 : arg10.IsWhole)
  (arg11 : Memref sig .tc .vmem S1x4x2048x128 .bf16) (harg11 : arg11.IsWhole)
  (arg12 : Memref sig .tc .vmem S4x128x2048 .bf16) (harg12 : arg12.IsWhole)
  (arg13 : Memref sig .tc .vmem S2048x512 .f32) (harg13 : arg13.IsWhole)
  (arg14 : Memref sig .tc .vmem S2048x512 .f32) (harg14 : arg14.IsWhole)
  (arg15 : Memref sig .tc .vmem S2048x512 .bf16) (harg15 : arg15.IsWhole)
  (arg16 : Memref sig .tc .vmem S2048x512 .bf16) (harg16 : arg16.IsWhole)
  (x2 : Vec F S1x64 .f32)
  (x3 : Vec F S1x64 .f32)
  (x4 : Vec F S1x64 .f32)
  (x5 : Vec F S1x64 .f32)
  (x6 : Vec F S1x128 .f32)
  (x7 : Vec F S1x4x2048x128 .bf16)
  (x8 : Vec F S1x4x2048x128 .bf16)
  (x9 : Vec F S1x4x2048x128 .bf16)
  (x10 : Vec F S1x4x2048x128 .bf16)

/-- The body at one grid point: the operands' blocks stay, the output buffer ends at `outBlock` of them, and the scratch
    buffers end at some contents. -/
theorem body_triple (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10
      ∗ (∃ d, owns (c : Thread nD τ) arg11 fullShare d) ∗ (∃ f, At c arg12 f) ∗ (∃ f, At c arg13 f) ∗ (∃ f, At c arg14 f) ∗ (∃ f, At c arg15 f) ∗ (∃ f, At c arg16 f)
      ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10
          ∗ owns (c : Thread nD τ) arg11 fullShare (outBlock (F := F) x7 x8 x9 x10 x2 x3 x4 x5 x6)
          ∗ (∃ f, At c arg12 f) ∗ (∃ f, At c arg13 f) ∗ (∃ f, At c arg14 f) ∗ (∃ f, At c arg15 f) ∗ (∃ f, At c arg16 f)) -∗ K ⟨⟩))
      ⊢ wp frame (wpE (defs₀ (F := F)) 𝒱₀ (c : Thread nD τ) none) Set.univ
        (cc0_diff_attn i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, H12⟩, ⟨%f13, H13⟩, ⟨%f14, H14⟩, ⟨%f15, H15⟩, ⟨%f16, H16⟩, Hk⟩
  obtain rfl := hf2
  obtain rfl := hf3
  obtain rfl := hf4
  obtain rfl := hf5
  obtain rfl := hf6
  obtain rfl := hf7
  obtain rfl := hf8
  obtain rfl := hf9
  obtain rfl := hf10
  have hv := body_value c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f9 f10 f11 f12 f13 f14 f15 f16
  have hrun := (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f9 f10 f11 f12 f13 f14 f15 f16).2
  revert hv hrun
  generalize (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f9 f10 f11 f12 f13 f14 f15 f16).1 = g
  intro hv hrun
  rw [← hv]
  iapply wp_wand_r
  isplitr [Hk]
  · iapply hrun
    iframe
  · iintro %u ⟨H2, H3, H4, H5, H6, H7, H8, H9, H10, H11, H12, H13, H14, H15, H16⟩
    iapply Hk
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists f10; isplitr; · ipureintro; rfl
      iexact H10
    isplitl [H11]
    · iexists g; isplitr; · ipureintro; rfl
      iexact H11
    iframe

end Cert.Proof

end
-- ==== Proof.Run.lean ====
module

public import proofs.«01_k».proof.Proof.Triple
public import proofs.«01_k».proof.Proof.Gen.Kernel.Frame
public import Idealize.ShloMosaic.Lib.Pipeline.Value

/-!
# The run of the attention call

The launch over the whole grid: every point keeps the operands' blocks and writes its output block.
-/

@[expose] public section

set_option maxRecDepth 16384

noncomputable section

namespace Cert.Proof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ΦA)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output block of grid point `t`, from the blocks of the operands there. -/
def outAt (c : Dev nD) (t : Fin cfg0.N) : Vec F S1x4x2048x128 .bf16 :=
  outBlock (F := F) (iblk m c 5 t) (iblk m c 6 t) (iblk m c 7 t) (iblk m c 8 t) (iblk m c 0 t) (iblk m c 1 t) (iblk m c 2 t) (iblk m c 3 t) (iblk m c 4 t)

/-- What the launch is told: the arrays as they are found, and after each point the operands' blocks as they were and the
    output block at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = outAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- Holding a buffer through a memref of the whole of it is holding the buffer. -/
theorem whole_at (c : Dev nD) {s : Shape} {e : EltTy} (a : Memref sig .tc .vmem s e) (h : a.view.set = Finset.univ) :
    (iprop(∃ f, At c a f) : sProp 𝕄) = iprop(∃ f : Buf (Elt F) (a.view.loc (c : Thread nD τ)), a.view.loc (c : Thread nD τ) ↦{fullShare} f) := by
  unfold At
  rw [h]

/-- The five scratch buffers. -/
theorem scratch_eq (c : Dev nD) :
    (Pipeline.scopedRest (Ix := Unit) (Name := ℕ) (U := UR sig nD τ) (Lvl := ℕ) (Val := Elt F) spec0 c : sProp 𝕄)
      = iprop((∃ f, At c (Memref.whole cc0_scratch0) f) ∗ (∃ f, At c (Memref.whole cc0_scratch1) f) ∗ (∃ f, At c (Memref.whole cc0_scratch2) f) ∗ (∃ f, At c (Memref.whole cc0_scratch3) f) ∗ (∃ f, At c (Memref.whole cc0_scratch4) f)) := by
  rw [whole_at c (Memref.whole cc0_scratch0) (View.set_whole _), whole_at c (Memref.whole cc0_scratch1) (View.set_whole _), whole_at c (Memref.whole cc0_scratch2) (View.set_whole _), whole_at c (Memref.whole cc0_scratch3) (View.set_whole _), whole_at c (Memref.whole cc0_scratch4) (View.set_whole _)]
  exact scopedRest0_eq c

/-- The body's part of the launch. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl, after0_0, after0_1, after0_2, after0_3, after0_4, after0_5, after0_6, after0_7, after0_8, after0_9]
  unfold outAt
  rw [show (dats m 0 c).Φ t.castSucc = Pipeline.ΦA spec0 c from rfl]
  unfold Pipeline.ΦA
  rw [scratch_eq]
  iintro ⟨⟨⟨S0, S1, S2, S3, S4⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_triple c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [S0]; · iexact S0
  isplitl [S1]; · iexact S1
  isplitl [S2]; · iexact S2
  isplitl [S3]; · iexact S3
  isplitl [S4]; · iexact S4
  iintro ⟨H0, H1, H2, H3, H4, H5, H6, H7, H8, H9, S0, S1, S2, S3, S4⟩
  isplitl [S0 S1 S2 S3 S4 Hr]
  · isplitr [Hr]
    · isplitl [S0]; · iexact S0
      isplitl [S1]; · iexact S1
      isplitl [S2]; · iexact S2
      isplitl [S3]; · iexact S3
      iexact S4
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option backward.isDefEq.respectTransparency.types false in
/-- Every fair execution of the call ends, with every array at what the launch says and every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

end Cert.Proof

end
-- ==== Proof.Same.lean ====
module

public import proofs.«01_k».proof.Proof.Gen.Kernel
public import proofs.«01_k».proof.Proof.Gen.KernelIdeal

/-!
# The two printed programs are one

The kernel and the kernel with ideal floats are printed as two programs with the same text.  Here they are shown equal, so
that a run of the first is a run of the second, at any floats.
-/

@[expose] public section

noncomputable section

namespace Cert.Proof

open Idealize.ShloMosaic Idealize.ShloMosaic.TcCoe Idealize.SL.Sem

variable {F : FTy → Type} [FloatOps F]

/-- The two kernel bodies are equal. -/
theorem same_kernel [h1 : Cert.Kernel.Facts] [h2 : Cert.KernelIdeal.Facts] :
    @Cert.KernelIdeal.cc0_diff_attn F _ h2 = @Cert.Kernel.cc0_diff_attn F _ h1 := rfl

/-- So are the tables of kernel bodies, -/
theorem same_bodies : (Cert.KernelIdeal.defs₀ (F := F)) = Cert.Kernel.defs₀ (F := F) := by
  unfold Cert.KernelIdeal.defs₀ Cert.Kernel.defs₀
  rw [same_kernel]
  refine congrArg Defs.onTc ?_
  funext l x
  match l, x with
  | ⟨0, _⟩, (t, s) => rfl
  | ⟨_ + 1, h⟩, _ => exact absurd h (Nat.not_lt.2 (Nat.le_add_left _ _))

/-- and the tables of everything that is called. -/
theorem same_defs : HEq (Cert.KernelIdeal.defs (F := F)) (Cert.Kernel.defs (F := F)) := by
  unfold Cert.KernelIdeal.defs Cert.Kernel.defs
  rw [same_bodies]
  rfl

/-- A statement about every run of the kernel is one about every run of its ideal print. -/
theorem run_of_same (s) (P)
    (h : θ_run Cert.Kernel.defs (onTc (τ := Cert.Kernel.τ) (Cert.Kernel.main (F := F))) s P) :
    θ_run Cert.KernelIdeal.defs (onTc (τ := Cert.KernelIdeal.τ) (Cert.KernelIdeal.main (F := F))) s P := by
  have e : Cert.KernelIdeal.defs (F := F) = Cert.Kernel.defs (F := F) := eq_of_heq same_defs
  rw [e]
  exact h

end Cert.Proof

end
-- ==== Proof.Soft.lean ====
module

public import Idealize.ShloMosaic.PureOps.Ideal
public import Idealize.ShloMosaic.PureOps.Ideal.Laws
public import Idealize.ShloMosaic.Lib.IdealHost

/-!
# Softmax on real numbers, inside the extended reals

Facts about finite sums, largest elements and exponentials, with no program in them. A softmax does not depend on the number
subtracted from its exponents, and a power of two is an exponential of the exponent times `log 2`: so the weights `2 ^ (s - m)`
over their sum and the exponentials of `s · log 2` less any other number over their sum are the same numbers.
-/

@[expose] public section

noncomputable section

namespace Cert.Proof

open Idealize.ShloMosaic

/-- An extended real that is a real number. -/
def IsReal (x : EReal) : Prop := ∃ r : ℝ, x = (r : EReal)

/-- A sum of real numbers, taken in the extended reals, is the sum taken in the reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of real numbers is a real number. -/
theorem isReal_sum_mul {ι : Type} [Fintype ι] (f g : ι → EReal) (hf : ∀ i, IsReal (f i)) (hg : ∀ i, IsReal (g i)) :
    IsReal (∑ i, f i * g i) := by
  choose a ha using hf
  choose b hb using hg
  refine ⟨∑ i, a i * b i, ?_⟩
  rw [coe_sum]
  exact Finset.sum_congr rfl fun i _ => by rw [ha, hb, EReal.coe_mul]

/-- The larger of two real numbers is a real number. -/
theorem isReal_max {x y : EReal} (hx : IsReal x) (hy : IsReal y) : IsReal (max x y) := by
  rcases max_choice x y with h | h <;> rw [h] <;> assumption

/-- The largest of a non-empty family of real numbers is a real number. -/
theorem isReal_fold_max {ι : Type} [Fintype ι] [Nonempty ι] (f : ι → EReal) (hf : ∀ i, IsReal (f i)) :
    IsReal (Finset.univ.fold max ⊥ f) := by
  classical
  have h : ∀ s : Finset ι, s = ∅ ∨ IsReal (s.fold max ⊥ f) := by
    intro s
    induction s using Finset.induction_on with
    | empty => exact .inl rfl
    | insert a s ha ih =>
      right
      rw [Finset.fold_insert ha]
      rcases ih with rfl | ih
      · simpa using hf a
      · exact isReal_max (hf a) ih
  exact (h Finset.univ).resolve_left Finset.univ_nonempty.ne_empty

/-- The largest of two extended reals of which the first is `-∞`. -/
theorem isReal_bot_max {x : EReal} (hx : IsReal x) : IsReal (max ⊥ x) := by simpa using hx

/-- The softmax of a family of real numbers. -/
def soft {n : ℕ} (a : Fin n → ℝ) (k : Fin n) : ℝ := Real.exp (a k) / ∑ j, Real.exp (a j)

/-- A softmax does not change when one number is subtracted from every exponent. -/
theorem soft_shift {n : ℕ} (a : Fin n → ℝ) (M : ℝ) (k : Fin n) :
    Real.exp (a k - M) / ∑ j, Real.exp (a j - M) = soft a k := by
  unfold soft
  simp only [Real.exp_sub, ← Finset.sum_div]
  exact div_div_div_cancel_right₀ (Real.exp_pos M).ne' _ _

/-- The sum of exponentials over a non-empty range is positive. -/
theorem sum_exp_pos {n : ℕ} [NeZero n] (a : Fin n → ℝ) : 0 < ∑ j, Real.exp (a j) :=
  Finset.sum_pos (fun j _ => Real.exp_pos _) Finset.univ_nonempty

/-- A power of two is the exponential of the exponent times `log 2`. -/
theorem rpow_two (x : ℝ) : Real.rpow 2 x = Real.exp (x * Real.log 2) := by
  rw [show Real.rpow 2 x = (2 : ℝ) ^ x from rfl, Real.rpow_def_of_pos two_pos, mul_comm]

/-- One exponential over the sum of all of them, the largest exponent subtracted, is the softmax. -/
theorem div_exp {n : ℕ} [NeZero n] (a : Fin n → ℝ) (M : EReal) (hM : IsReal M) (k : Fin n) :
    Ideal.div (Ideal.exp ((a k : EReal) - M)) (∑ j, Ideal.exp ((a j : EReal) - M)) = ((soft a k : ℝ) : EReal) := by
  obtain ⟨M, rfl⟩ := hM
  have h : ∀ j, Ideal.exp ((a j : EReal) - (M : EReal)) = ((Real.exp (a j - M) : ℝ) : EReal) := fun j => by
    rw [← EReal.coe_sub, Ideal.exp_coe]
  simp only [h]
  rw [← coe_sum, Ideal.div_coe (sum_exp_pos fun j => a j - M).ne', ← EReal.coe_mul, ← soft_shift a M k, mul_one_div]

/-- The weighted average of `v` with the weights `2 ^ (s - m)`, formed as the weighted sum times `c` over the sum of the
    weights, is `c` times the average under the softmax of `s · log 2`. -/
theorem average {n : ℕ} [NeZero n] (s v : Fin n → ℝ) (m : EReal) (hm : IsReal m) (c : ℝ) :
    (∑ k, (v k : EReal) * Ideal.exp2 ((s k : EReal) - m)) * Ideal.div (c : EReal) (∑ k, Ideal.exp2 ((s k : EReal) - m))
      = ((c * ∑ k, soft (fun j => s j * Real.log 2) k * v k : ℝ) : EReal) := by
  obtain ⟨m, rfl⟩ := hm
  have h : ∀ k, Ideal.exp2 ((s k : EReal) - (m : EReal)) = ((Real.exp (s k * Real.log 2 - m * Real.log 2) : ℝ) : EReal) := fun k => by
    rw [← EReal.coe_sub, Ideal.exp2_coe, rpow_two, sub_mul]
  simp only [h, ← EReal.coe_mul]
  rw [← coe_sum, ← coe_sum, Ideal.div_coe (sum_exp_pos fun k => s k * Real.log 2 - m * Real.log 2).ne', ← EReal.coe_mul, ← EReal.coe_mul]
  refine congrArg _ ?_
  simp only [← soft_shift (fun j => s j * Real.log 2) (m * Real.log 2)]
  rw [Finset.mul_sum, Finset.sum_mul]
  refine Finset.sum_congr rfl fun k _ => ?_
  ring

/-- The difference of two averages is the average under the difference of the weights. -/
theorem sub_average {n : ℕ} (p q v : Fin n → ℝ) (c : ℝ) :
    ((1 * ∑ k, p k * v k : ℝ) : EReal) - ((c * ∑ k, q k * v k : ℝ) : EReal)
      = ∑ k, ((p k : EReal) - (c : EReal) * (q k : EReal)) * (v k : EReal) := by
  simp only [← EReal.coe_mul, ← EReal.coe_sub]
  rw [← coe_sum]
  refine congrArg _ ?_
  rw [one_mul, Finset.mul_sum, ← Finset.sum_sub_distrib]
  refine Finset.sum_congr rfl fun k _ => ?_
  ring

/-- A sum over `8 n` consecutive numbers, by groups of eight. -/
theorem sum_by_eight (f : ℕ → EReal) (n : ℕ) :
    ∑ k ∈ Finset.range (n * 8), f k = ∑ x : Fin 8, ∑ t ∈ Finset.range n, f (t * 8 + x) := by
  induction n with
  | zero => simp
  | succ n ih =>
    rw [Nat.succ_mul, Finset.sum_range_add, ih]
    simp only [Finset.sum_range_succ (n := n), Finset.sum_add_distrib]
    rw [Finset.sum_range (n := 8)]

/-- A sum over 2048 numbers, by parts of 64 and, within a part, by residues modulo 8. -/
theorem sum_by_parts (f : ℕ → EReal) :
    ∑ x : Fin 8, ∑ t ∈ Finset.range 32, ∑ y : Fin 8, f (64 * t + (y.val * 8 + x.val)) = ∑ k : Fin 2048, f k.val := by
  have h : ∀ n, ∑ k ∈ Finset.range (n * 64), f k = ∑ t ∈ Finset.range n, ∑ i ∈ Finset.range (8 * 8), f (64 * t + i) := by
    intro n
    induction n with
    | zero => simp
    | succ n ih => rw [Nat.succ_mul, Finset.sum_range_add, ih, Finset.sum_range_succ (fun t => ∑ i ∈ Finset.range (8 * 8), f (64 * t + i)) n, mul_comm n 64]
  rw [← Finset.sum_range, show (2048 : ℕ) = 32 * 64 from rfl, h, Finset.sum_comm]
  refine Finset.sum_congr rfl fun t _ => ?_
  rw [sum_by_eight (fun i => f (64 * t + i)) 8]
  refine Finset.sum_congr rfl fun x _ => ?_
  rw [Finset.sum_range]

end Cert.Proof

end
-- ==== Proof.Finite.lean ====
module

public import proofs.«01_k».proof.Defs
public import proofs.«01_k».proof.Proof.Gen.Pre_finite
public import proofs.«01_k».proof.Proof.Soft
public import Idealize.ShloMosaic.Lib.Pointwise

/-!
# The precondition, read

The precondition says of an array that the conjunction over its elements of `|x| < ∞` holds.  Here it is read as: every
element is a real number.
-/

@[expose] public section

set_option maxRecDepth 16384

noncomputable section

namespace Cert.Proof.Finite

open Cert.Pre_finite Cert.Pre_finite.Gen
open Idealize.ShloMosaic Idealize.ShloMosaic.TcCoe

theorem bits_top : Ideal.ofBits .f32 0x7F800000#32 = ⊤ := by
  simp [Ideal.ofBits, Ideal.ieee]

/-- A number of absolute value below `∞` is real. -/
theorem real_of_abs (x : EReal) (h : max x (-x) < ⊤) : IsReal x := by
  induction x with
  | bot => simp at h
  | top => simp at h
  | coe x => exact ⟨x, rfl⟩

theorem and_one (a b : BitVec 1) (h : a &&& b = 1#1) : a = 1#1 ∧ b = 1#1 := by
  revert a b; decide

/-- If the conjunction over some elements holds, it holds of each. -/
theorem fold_and {ι : Type} (f : ι → BitVec 1) (b : BitVec 1) (s : Finset ι) (h : s.fold IntOp.andi b f = 1#1) :
    ∀ i ∈ s, f i = 1#1 := by
  classical
  induction s using Finset.induction_on with
  | empty => simp
  | insert a s ha ih =>
    rw [Finset.fold_insert ha] at h
    obtain ⟨h1, h2⟩ := and_one _ _ h
    intro i hi
    rcases Finset.mem_insert.1 hi with rfl | hi
    · exact h1
    · exact ih h2 i hi

/-- If the conjunction over all elements of an array holds, it holds of each. -/
theorem reduce_and {s u : Shape} {ax : List (Fin s.rank)} (x : IVec s 1) (v : IVec u 1) (h : s.ReducesTo ax ⟨0, ![]⟩) (hu : 0 < u.numel)
    (e : Host.reduce IntOp.andi x v h hu ix0 = 1#1) (i : s.Idx) : x i = 1#1 := by
  rw [Host.reduce_eq_fold] at e
  refine fold_and _ _ _ e i ?_
  simp
  exact Subsingleton.elim _ _

/-- So an array whose every absolute value is below `∞` is real everywhere. -/
theorem all_real {s u : Shape} {ax : List (Fin s.rank)} (x : FVec Ideal s .f32) (v : IVec u 1) (h : s.ReducesTo ax ⟨0, ![]⟩) (hu : 0 < u.numel)
    (bc : (⟨0, ![]⟩ : Shape).BroadcastsInDim s ![])
    (e : Host.reduce IntOp.andi (cmpf .olt (Host.absf x) (broadcastInDim s ![] bc (constant (F := Ideal) (⟨0, ![]⟩ : Shape) .f32 0x7F800000#32))) v h hu ix0 = 1#1)
    (i : s.Idx) : IsReal (x i) := by
  have e1 := reduce_and _ _ _ _ e i
  have e2 : BitVec.ofBool (decide (max (x i) (-x i) < Ideal.ofBits .f32 0x7F800000#32)) = 1#1 := e1
  apply real_of_abs
  rw [← bits_top]
  by_contra hn
  rw [decide_eq_false hn] at e2
  exact absurd e2 (by decide)

/-- The precondition's reading: the four vectors, the queries, the keys and the values are real everywhere. -/
theorem read (a b c d : FVec Ideal S1x64 .f32) (g : FVec Ideal S1x128 .f32) (q k v z : FVec Ideal S32x8x2048x128 .bf16)
    (h : fn (F := Ideal) a b c d g q k v z = fun _ => 1#1) :
    (∀ i, IsReal (a i)) ∧ (∀ i, IsReal (b i)) ∧ (∀ i, IsReal (c i)) ∧ (∀ i, IsReal (d i))
      ∧ (∀ i, IsReal (q i)) ∧ (∀ i, IsReal (k i)) ∧ (∀ i, IsReal (v i)) := by
  have e := congrFun h ix0
  unfold fn fn_part1 fn_part2 at e
  obtain ⟨e, hv⟩ := and_one _ _ e
  obtain ⟨e, hk⟩ := and_one _ _ e
  obtain ⟨e, hq⟩ := and_one _ _ e
  obtain ⟨e, hd⟩ := and_one _ _ e
  obtain ⟨e, hc⟩ := and_one _ _ e
  obtain ⟨ha, hb⟩ := and_one _ _ e
  exact ⟨all_real _ _ _ _ _ ha, all_real _ _ _ _ _ hb, all_real _ _ _ _ _ hc, all_real _ _ _ _ _ hd,
    all_real _ _ _ _ _ hq, all_real _ _ _ _ _ hk, all_real _ _ _ _ _ hv⟩

end Cert.Proof.Finite

end
-- ==== Proof.Whole.lean ====
module

public import proofs.«01_k».proof.Proof.Run

/-!
# The output array

The blocks of the operands at a grid point, as parts of the arrays, and the output array that the blocks written at the
grid points make up together.
-/

@[expose] public section

set_option maxRecDepth 16384

noncomputable section

namespace Cert.Proof

open Cert.Kernel Cert.Kernel.Gen
open Idealize.ShloMosaic Idealize.ShloMosaic.TcCoe
open Idealize.ShloMosaic.ValueIdx

variable {F : FTy → Type} [FloatOps F]

variable (m : (ℓ : Loc nD τ sig) → Buf (Elt F) ℓ) (c : Dev nD)

/-- The block of grid point `t` of an array: batch entry `t / 2`, heads from `4 · (t % 2)`. -/
def part {α : Type} (X : S32x8x2048x128.Idx → α) (t : ℕ) : S1x4x2048x128.Idx → α := fun y =>
  X (ix4 ⟨min (t / 2) 31, by omega⟩ ⟨t % 2 * 4 + (y 1).val, by have : (y 1).val < 4 := (y 1).isLt; show _ < 8; omega⟩
    ⟨(y 2).val, (y 2).isLt⟩ ⟨(y 3).val, (y 3).isLt⟩)

/-- Where each of the five windows over the large arrays puts a point's block. -/
theorem index_of (t : Fin grid0.N) :
    ![win0_5.index t 0, win0_5.index t 1, win0_5.index t 2, win0_5.index t 3] = ![min (t.val / 2) 31, t.val % 2, 0, 0]
    ∧ ![win0_6.index t 0, win0_6.index t 1, win0_6.index t 2, win0_6.index t 3] = ![min (t.val / 2) 31, t.val % 2, 0, 0]
    ∧ ![win0_7.index t 0, win0_7.index t 1, win0_7.index t 2, win0_7.index t 3] = ![min (t.val / 2) 31, t.val % 2, 0, 0]
    ∧ ![win0_8.index t 0, win0_8.index t 1, win0_8.index t 2, win0_8.index t 3] = ![min (t.val / 2) 31, t.val % 2, 0, 0]
    ∧ ![win0_9.index t 0, win0_9.index t 1, win0_9.index t 2, win0_9.index t 3] = ![min (t.val / 2) 31, t.val % 2, 0, 0] := by
  revert t
  decide +kernel

/-- An operand's block, given where its window puts it: an index of the block placed in the array. -/
theorem emb_part (y : S1x4x2048x128.Idx) (t : ℕ) (o : Fin 4 → ℕ) (i : S32x8x2048x128.Idx)
    (h : ![o 0, o 1, o 2, o 3] = ![min (t / 2) 31, t % 2, 0, 0])
    (e : ∀ a, (i a).val = o a * S1x4x2048x128.size a + 1 * (y a).val) :
    i = ix4 ⟨min (t / 2) 31, by omega⟩ ⟨t % 2 * 4 + (y 1).val, by have : (y 1).val < 4 := (y 1).isLt; show _ < 8; omega⟩
      ⟨(y 2).val, (y 2).isLt⟩ ⟨(y 3).val, (y 3).isLt⟩ := by
  have e0 := congrFun h 0
  have e1 := congrFun h 1
  have e2 := congrFun h 2
  have e3 := congrFun h 3
  simp at e0 e1 e2 e3
  have y0 : (y 0).val < 1 := (y 0).isLt
  funext a
  apply Fin.ext
  rw [e]
  match a with
  | ⟨0, _⟩ => show o 0 * 1 + 1 * (y 0).val = min (t / 2) 31; omega
  | ⟨1, _⟩ => show o 1 * 4 + 1 * (y 1).val = t % 2 * 4 + (y 1).val; rw [e1]; omega
  | ⟨2, _⟩ => show o 2 * 2048 + 1 * (y 2).val = (y 2).val; rw [e2]; omega
  | ⟨3, _⟩ => show o 3 * 128 + 1 * (y 3).val = (y 3).val; rw [e3]; omega

theorem iblk_5 (t : Fin cfg0.N) : iblk m c 5 t = part (m ((c : Thread nD τ).loc main_arg5)) t.val := by
  obtain ⟨h, -, -, -, -⟩ := index_of t
  exact funext fun y => congrArg (m ((c : Thread nD τ).loc main_arg5)) (emb_part y t.val (win0_5.index t) _ h fun _ => rfl)

theorem iblk_6 (t : Fin cfg0.N) : iblk m c 6 t = part (m ((c : Thread nD τ).loc main_arg6)) t.val := by
  obtain ⟨-, h, -, -, -⟩ := index_of t
  exact funext fun y => congrArg (m ((c : Thread nD τ).loc main_arg6)) (emb_part y t.val (win0_6.index t) _ h fun _ => rfl)

theorem iblk_7 (t : Fin cfg0.N) : iblk m c 7 t = part (m ((c : Thread nD τ).loc main_arg7)) t.val := by
  obtain ⟨-, -, h, -, -⟩ := index_of t
  exact funext fun y => congrArg (m ((c : Thread nD τ).loc main_arg7)) (emb_part y t.val (win0_7.index t) _ h fun _ => rfl)

theorem iblk_8 (t : Fin cfg0.N) : iblk m c 8 t = part (m ((c : Thread nD τ).loc main_arg8)) t.val := by
  obtain ⟨-, -, -, h, -⟩ := index_of t
  exact funext fun y => congrArg (m ((c : Thread nD τ).loc main_arg8)) (emb_part y t.val (win0_8.index t) _ h fun _ => rfl)

/-- A block that starts at the array's first index and is as large as the array leaves every index in place. -/
theorem emb_all {s : Shape} (y i : s.Idx) (o : Fin s.rank → ℕ) (h : ∀ a, o a = 0)
    (e : ∀ a, (i a).val = o a * s.size a + 1 * (y a).val) : i = y :=
  funext fun a => Fin.ext (by rw [e, h]; omega)

theorem zero2 (a : Fin 2) : (![0, 0] : Fin 2 → ℕ) a = 0 := by fin_cases a <;> rfl

theorem iblk_0 (t : Fin cfg0.N) : iblk m c 0 t = m ((c : Thread nD τ).loc main_arg0) :=
  funext fun y => congrArg (m ((c : Thread nD τ).loc main_arg0)) (emb_all y _ ![0, 0] zero2 fun _ => rfl)

theorem iblk_1 (t : Fin cfg0.N) : iblk m c 1 t = m ((c : Thread nD τ).loc main_arg1) :=
  funext fun y => congrArg (m ((c : Thread nD τ).loc main_arg1)) (emb_all y _ ![0, 0] zero2 fun _ => rfl)

theorem iblk_2 (t : Fin cfg0.N) : iblk m c 2 t = m ((c : Thread nD τ).loc main_arg2) :=
  funext fun y => congrArg (m ((c : Thread nD τ).loc main_arg2)) (emb_all y _ ![0, 0] zero2 fun _ => rfl)

theorem iblk_3 (t : Fin cfg0.N) : iblk m c 3 t = m ((c : Thread nD τ).loc main_arg3) :=
  funext fun y => congrArg (m ((c : Thread nD τ).loc main_arg3)) (emb_all y _ ![0, 0] zero2 fun _ => rfl)

theorem iblk_4 (t : Fin cfg0.N) : iblk m c 4 t = m ((c : Thread nD τ).loc main_arg4) :=
  funext fun y => congrArg (m ((c : Thread nD τ).loc main_arg4)) (emb_all y _ ![0, 0] zero2 fun _ => rfl)

/-- The output array: every element from the block of the grid point it belongs to. -/
def whole (Q K V Z : Vec F S32x8x2048x128 .bf16) (a b c d : Vec F S1x64 .f32) (g : Vec F S1x128 .f32) : Vec F S32x8x2048x128 .bf16 := fun i =>
  let t := (i 0).val * 2 + (i 1).val / 4
  outBlock (F := F) (part Q t) (part K t) (part V t) (part Z t) a b c d g
    (ix4 0 ⟨(i 1).val % 4, Nat.mod_lt _ (by decide)⟩ ⟨(i 2).val, (i 2).isLt⟩ ⟨(i 3).val, (i 3).isLt⟩)

/-- The output array at the launch's arguments. -/
def outWhole : Vec F S32x8x2048x128 .bf16 :=
  whole (F := F) (m ((c : Thread nD τ).loc main_arg5)) (m ((c : Thread nD τ).loc main_arg6)) (m ((c : Thread nD τ).loc main_arg7))
    (m ((c : Thread nD τ).loc main_arg8)) (m ((c : Thread nD τ).loc main_arg0)) (m ((c : Thread nD τ).loc main_arg1))
    (m ((c : Thread nD τ).loc main_arg2)) (m ((c : Thread nD τ).loc main_arg3)) (m ((c : Thread nD τ).loc main_arg4))

/-- The output array's part at a grid point is the block computed there. -/
theorem part_whole (Q K V Z : Vec F S32x8x2048x128 .bf16) (a b c d : Vec F S1x64 .f32) (g : Vec F S1x128 .f32) (t : ℕ) (ht : t < 64) :
    part (whole Q K V Z a b c d g) t = outBlock (F := F) (part Q t) (part K t) (part V t) (part Z t) a b c d g := by
  funext y
  have y0 : (y 0).val < 1 := (y 0).isLt
  have y1 : (y 1).val < 4 := (y 1).isLt
  have et : min (t / 2) 31 * 2 + (t % 2 * 4 + (y 1).val) / 4 = t := by omega
  have ey : (ix4 0 ⟨(t % 2 * 4 + (y 1).val) % 4, Nat.mod_lt _ (by decide)⟩ ⟨(y 2).val, (y 2).isLt⟩ ⟨(y 3).val, (y 3).isLt⟩ : S1x4x2048x128.Idx) = y := by
    funext a
    apply Fin.ext
    match a with
    | ⟨0, _⟩ => show 0 = (y 0).val; omega
    | ⟨1, _⟩ => show (t % 2 * 4 + (y 1).val) % 4 = (y 1).val; omega
    | ⟨2, _⟩ => rfl
    | ⟨3, _⟩ => rfl
  show outBlock (F := F) (part Q (min (t / 2) 31 * 2 + (t % 2 * 4 + (y 1).val) / 4)) (part K (min (t / 2) 31 * 2 + (t % 2 * 4 + (y 1).val) / 4))
    (part V (min (t / 2) 31 * 2 + (t % 2 * 4 + (y 1).val) / 4)) (part Z (min (t / 2) 31 * 2 + (t % 2 * 4 + (y 1).val) / 4)) a b c d g
    (ix4 0 ⟨(t % 2 * 4 + (y 1).val) % 4, Nat.mod_lt _ (by decide)⟩ ⟨(y 2).val, (y 2).isLt⟩ ⟨(y 3).val, (y 3).isLt⟩) = _
  rw [et, ey]

/-- What a grid point writes back is its part of the output array. -/
theorem flushed_eq (t : Fin cfg0.N) :
    (dats m 0 c).flushed 9 t = (win0_9.blk t).view.read (Elt F) (outWhole m c) := by
  show (cfg0.win 9).cut (grid0.coords t) ((dats m 0 c).after 9 t) = _
  rw [after0_9]
  obtain ⟨-, -, -, -, h⟩ := index_of t
  have e : (win0_9.blk t).view.read (Elt F) (outWhole m c) = part (outWhole m c) t.val :=
    funext fun y => congrArg (outWhole m c) (emb_part y t.val (win0_9.index t) _ h fun _ => rfl)
  rw [e]
  unfold outWhole outAt
  rw [part_whole _ _ _ _ _ _ _ _ _ _ (by have := t.isLt; have hN : cfg0.N = 64 := N_0; omega)]
  rw [iblk_0, iblk_1, iblk_2, iblk_3, iblk_4, iblk_5, iblk_6, iblk_7, iblk_8]
  rfl

/-- Which grid point's block an index of the output array lies in. -/
theorem mem_blk (t : Fin cfg0.N) (i : S32x8x2048x128.Idx) (h : t.val = (i 0).val * 2 + (i 1).val / 4) :
    i ∈ ((cfg0.win 9).blk t).view.set := by
  show i ∈ ((View.whole main_v0).slice (win0_9.rect t)).set
  rw [View.set_slice_whole, Rect.mem_set_unit]
  obtain ⟨-, -, -, -, e⟩ := index_of t
  have e0 := congrFun e 0
  have e1 := congrFun e 1
  have e2 := congrFun e 2
  have e3 := congrFun e 3
  simp at e0 e1 e2 e3
  have h0 : (i 0).val < 32 := (i 0).isLt
  have h1 : (i 1).val < 8 := (i 1).isLt
  have h2 : (i 2).val < 2048 := (i 2).isLt
  have h3 : (i 3).val < 128 := (i 3).isLt
  intro a
  match a with
  | ⟨0, _⟩ => show win0_9.index t 0 * 1 ≤ (i 0).val ∧ (i 0).val < win0_9.index t 0 * 1 + 1; omega
  | ⟨1, _⟩ => show win0_9.index t 1 * 4 ≤ (i 1).val ∧ (i 1).val < win0_9.index t 1 * 4 + 4; omega
  | ⟨2, _⟩ => show win0_9.index t 2 * 2048 ≤ (i 2).val ∧ (i 2).val < win0_9.index t 2 * 2048 + 2048; omega
  | ⟨3, _⟩ => show win0_9.index t 3 * 128 ≤ (i 3).val ∧ (i 3).val < win0_9.index t 3 * 128 + 128; omega

/-- Every index of the output array is written. -/
theorem cover (i : S32x8x2048x128.Idx) : ∃ t : Fin cfg0.N, (cfg0.win 9).flush t = true ∧ i ∈ ((cfg0.win 9).blk t).view.set := by
  have h0 : (i 0).val < 32 := (i 0).isLt
  have h1 : (i 1).val < 8 := (i 1).isLt
  have hN : cfg0.N = 64 := N_0
  exact ⟨⟨(i 0).val * 2 + (i 1).val / 4, by omega⟩, flush0_9 _, mem_blk _ i rfl⟩

/-- After the last grid point the output array holds `outWhole`. -/
theorem final : (dats m 0 c).arrAt 9 cfg0.N = outWhole m c :=
  (dats m 0 c).arrAt_eq_of_cover 9 (outWhole m c) (fun t _ => flushed_eq m c t) cover

end Cert.Proof

end
-- ==== Proof.TileIx.lean ====
module

public import proofs.«01_k».proof.Proof.Spec
public import proofs.«01_k».proof.Proof.Soft
public import Idealize.ShloMosaic.Lib.Pointwise

/-!
# The steps of one tile, read at an index over the extended reals

Each theorem reads one of the vector steps of a tile at an index, as a formula over the elements of its operands.
-/

@[expose] public section

set_option maxRecDepth 16384

noncomputable section

namespace Cert.Proof

open Cert.Kernel Cert.Kernel.Gen
open Idealize.ShloMosaic

/-- The pattern the maxima start from is `-∞`. -/
theorem bits_bot : Ideal.ofBits .f32 0xFF800000#32 = ⊥ := by
  simp [Ideal.ofBits, Ideal.ieee]

/-- The first 64 lanes are the first map's. -/
theorem lane_lo (d : Fin 64) (x y : EReal) : Scalar.select (IntOp.cmpi .slt (BitVec.ofNat 32 d.val) 64#32) x y = x := by
  rw [show IntOp.cmpi .slt (BitVec.ofNat 32 d.val) 64#32 = 1#1 by revert d; decide]
  rfl

/-- The last 64 lanes are not. -/
theorem lane_hi (d : Fin 64) (x y : EReal) : Scalar.select (IntOp.cmpi .slt (BitVec.ofNat 32 (64 + d.val)) 64#32) x y = y := by
  rw [show IntOp.cmpi .slt (BitVec.ofNat 32 (64 + d.val)) 64#32 = 0#1 by revert d; decide]
  rfl

/-- A query against a key for the first map: the product over the first 64 lanes. -/
theorem scorePart_lo (q kk : Vec Ideal S1x1x256x128 .bf16) (i : Fin 256) (c : Fin 256) :
    scorePart (F := Ideal) laneMask q kk (ix2 i ⟨c.val, by omega⟩)
      = ∑ d : Fin 64, q (ix4 0 0 c ⟨d.val, by omega⟩) * kk (ix4 0 0 i ⟨d.val, by omega⟩) := by
  pointwise [scorePart, twoMaps, laneMask]
  rw [Fin.sum_univ_two_halves 64 64 rfl]
  simp only [lane_lo, lane_hi, Finset.sum_const_zero, add_zero]
  exact Finset.sum_congr rfl fun d _ => mul_comm _ _

/-- A query against a key for the second map: the product over the last 64 lanes. -/
theorem scorePart_hi (q kk : Vec Ideal S1x1x256x128 .bf16) (i : Fin 256) (c : Fin 256) :
    scorePart (F := Ideal) laneMask q kk (ix2 i ⟨256 + c.val, by omega⟩)
      = ∑ d : Fin 64, q (ix4 0 0 c ⟨64 + d.val, by omega⟩) * kk (ix4 0 0 i ⟨64 + d.val, by omega⟩) := by
  pointwise [scorePart, twoMaps, laneMask]
  rw [Fin.sum_univ_two_halves 64 64 rfl]
  simp only [lane_lo, lane_hi, Finset.sum_const_zero, zero_add]
  exact Finset.sum_congr rfl fun d _ => mul_comm _ _

theorem maxTo_ix (msk : IVec S256x128 1) (q : Vec Ideal S1x1x256x128 .bf16) (K : ℕ → Vec Ideal S1x1x256x128 .bf16) (n : ℕ) (i : Fin 8) (c : Fin 512) :
    maxTo (F := Ideal) msk q K (n + 1) (ix2 i c) = max (maxTo msk q K n (ix2 i c))
      (Finset.univ.fold max ⊥ fun x : Fin 32 => scorePart msk q (K n) (ix2 ⟨x.val * 8 + i.val, by omega⟩ c)) := by
  rw [← bits_bot]
  pointwise [maxTo]

theorem maxTo_zero (msk : IVec S256x128 1) (q : Vec Ideal S1x1x256x128 .bf16) (K : ℕ → Vec Ideal S1x1x256x128 .bf16) (i : Fin 8) (c : Fin 512) :
    maxTo (F := Ideal) msk q K 0 (ix2 i c) = ⊥ := by
  rw [← bits_bot]
  pointwise [maxTo]

theorem maxRow_ix (msk : IVec S256x128 1) (q : Vec Ideal S1x1x256x128 .bf16) (K : ℕ → Vec Ideal S1x1x256x128 .bf16) (c : Fin 512) :
    maxRow (F := Ideal) msk q K (ix2 0 c) = Finset.univ.fold max ⊥ fun x : Fin 8 => maxTo msk q K 8 (ix2 x c) := by
  rw [← bits_bot]
  pointwise [maxRow]

theorem weightPart_ix (m : FVec Ideal S1x512 .f32) (s : Vec Ideal S64x512 .f32) (i : Fin 64) (c : Fin 512) :
    weightPart (F := Ideal) m s (ix2 i c) = Ideal.exp2 (s (ix2 i c) - m (ix2 0 c)) := by
  pointwise [weightPart]
  rfl

theorem rows64_ix (S : Vec Ideal S2048x512 .f32) (t : ℕ) (i : Fin 64) (c : Fin 512) :
    rows64 (F := Ideal) S t (ix2 i c) = S (ix2 ⟨min (64 * t) 1984 + i.val, by omega⟩ c) := by
  pointwise [rows64]

theorem sumTo_ix (m : FVec Ideal S1x512 .f32) (S : Vec Ideal S2048x512 .f32) (n : ℕ) (i : Fin 8) (c : Fin 512) :
    sumTo (F := Ideal) m S (n + 1) (ix2 i c)
      = sumTo m S n (ix2 i c) + ∑ x : Fin 8, weightPart m (rows64 S n) (ix2 ⟨x.val * 8 + i.val, by omega⟩ c) := by
  pointwise [sumTo]

theorem sumTo_zero (m : FVec Ideal S1x512 .f32) (S : Vec Ideal S2048x512 .f32) (i : Fin 8) (c : Fin 512) :
    sumTo (F := Ideal) m S 0 (ix2 i c) = 0 := by
  pointwise [sumTo]

theorem sumRow_ix (m : FVec Ideal S1x512 .f32) (S : Vec Ideal S2048x512 .f32) (c : Fin 512) :
    sumRow (F := Ideal) m S (ix2 0 c) = ∑ x : Fin 8, sumTo m S 32 (ix2 x c) := by
  pointwise [sumRow]

theorem weighted_ix (v : Vec Ideal S1x1x2048x128 .bf16) (e : Vec Ideal S2048x512 .bf16) (i : Fin 128) (c : Fin 512) :
    weighted (F := Ideal) (valuesT v) e (ix2 i c) = ∑ k : Fin 2048, v (ix4 0 0 k i) * e (ix2 k c) := by
  pointwise [weighted, valuesT]

theorem mapDiff_ix (lam : FVec Ideal S1x1 .f32) (l : FVec Ideal S1x512 .f32) (ot : FVec Ideal S128x512 .f32) (i : Fin 256) (c : Fin 128) :
    mapDiff (F := Ideal) lam l ot (ix2 i c)
      = ot (ix2 c ⟨i.val, by omega⟩) * Ideal.div 1 (l (ix2 0 ⟨i.val, by omega⟩))
        - ot (ix2 c ⟨256 + i.val, by omega⟩) * Ideal.div (lam (ix2 0 0)) (l (ix2 0 ⟨256 + i.val, by omega⟩)) := by
  pointwise [mapDiff]

theorem normGate_ix (g : FVec Ideal S1x128 .f32) (o : FVec Ideal S256x128 .f32) (zb : Vec Ideal S1x1x256x128 .bf16) (i : Fin 256) (c : Fin 128) :
    normGate (F := Ideal) g o zb (ix4 0 0 i c)
      = o (ix2 i c) * Ideal.rsqrt (Ideal.div (∑ x : Fin 128, o (ix2 i x) * o (ix2 i x)) (Ideal.ofBits .f32 0x43000000#32)
          + Ideal.ofBits .f32 0x358637BD#32) * g (ix2 0 c) * zb (ix4 0 0 i c) := by
  pointwise [normGate]

theorem lamOf_ix (a b c d : Vec Ideal S1x64 .f32) :
    lamOf (F := Ideal) a b c d (ix2 0 0)
      = Ideal.exp (∑ x : Fin 64, a (ix2 0 x) * b (ix2 0 x)) - Ideal.exp (∑ x : Fin 64, c (ix2 0 x) * d (ix2 0 x))
        + Ideal.ofBits .f32 0x3E4CCCCD#32 := by
  pointwise [lamOf]

theorem scaleOf_ix (g : Vec Ideal S1x128 .f32) (c : Fin 128) :
    scaleOf (F := Ideal) g (ix2 0 c) = g (ix2 0 c) * Ideal.ofBits .f32 0x3F4CCCCD#32 := by
  pointwise [scaleOf]

theorem tileRows_ix (X : Vec Ideal S1x4x2048x128 .bf16) (j : ℕ) (i : Fin 256) (d : Fin 128) :
    tileRows (F := Ideal) X j (ix4 0 0 i d) = X (ix4 0 ⟨min (j / 8) 3, by omega⟩ ⟨j % 8 * 256 + i.val, by omega⟩ d) := by
  pointwise [tileRows]

theorem headRows_ix (X : Vec Ideal S1x4x2048x128 .bf16) (h t : ℕ) (i : Fin 256) (d : Fin 128) :
    headRows (F := Ideal) X h t (ix4 0 0 i d) = X (ix4 0 ⟨min h 3, by omega⟩ ⟨min (256 * t) 1792 + i.val, by omega⟩ d) := by
  pointwise [headRows]

theorem headAll_ix (X : Vec Ideal S1x4x2048x128 .bf16) (h : ℕ) (k : Fin 2048) (d : Fin 128) :
    headAll (F := Ideal) X h (ix4 0 0 k d) = X (ix4 0 ⟨min h 3, by omega⟩ k d) := by
  pointwise [headAll]

theorem scores_ix (msk : IVec S256x128 1) (q : Vec Ideal S1x1x256x128 .bf16) (K : ℕ → Vec Ideal S1x1x256x128 .bf16) (k : Fin 2048) (c : Fin 512) :
    scores (F := Ideal) msk q K (ix2 k c) = scorePart msk q (K (k.val / 256)) (ix2 ⟨k.val % 256, Nat.mod_lt _ (by decide)⟩ c) := by
  unfold scores stack256
  rw [← ix2_eq_valueIdx]
  pointwise

theorem weights_ix (m : FVec Ideal S1x512 .f32) (S : Vec Ideal S2048x512 .f32) (k : Fin 2048) (c : Fin 512) :
    weights (F := Ideal) m S (ix2 k c) = weightPart m (rows64 S (k.val / 64)) (ix2 ⟨k.val % 64, Nat.mod_lt _ (by decide)⟩ c) := by
  unfold weights stack64
  rw [← ix2_eq_valueIdx]
  pointwise

end Cert.Proof

end
-- ==== Proof.TileRow.lean ====
module

public import proofs.«01_k».proof.Proof.TileIx

/-!
# A row of a tile, over real numbers

The kernel's row of a tile before the normalisation, at real queries, keys, values and second-map weight, is the average of
the values under the difference of two softmaxes.
-/

@[expose] public section

set_option maxRecDepth 16384

noncomputable section

namespace Cert.Proof

open Cert.Kernel Cert.Kernel.Gen
open Idealize.ShloMosaic

/-- The largest scores of the first parts, one part at least, are real numbers when the scores are. -/
theorem maxTo_real (msk : IVec S256x128 1) (q : Vec Ideal S1x1x256x128 .bf16) (K : ℕ → Vec Ideal S1x1x256x128 .bf16) (c : Fin 512)
    (hs : ∀ n i, IsReal (scorePart (F := Ideal) msk q (K n) (ix2 i c))) (n : ℕ) (i : Fin 8) :
    IsReal (maxTo (F := Ideal) msk q K (n + 1) (ix2 i c)) := by
  induction n with
  | zero =>
    rw [maxTo_ix, maxTo_zero]
    exact isReal_bot_max (isReal_fold_max _ fun x => hs _ _)
  | succ n ih =>
    rw [maxTo_ix]
    exact isReal_max ih (isReal_fold_max _ fun x => hs _ _)

/-- The largest score of a column is a real number when the scores are. -/
theorem maxRow_real (msk : IVec S256x128 1) (q : Vec Ideal S1x1x256x128 .bf16) (K : ℕ → Vec Ideal S1x1x256x128 .bf16) (c : Fin 512)
    (hs : ∀ n i, IsReal (scorePart (F := Ideal) msk q (K n) (ix2 i c))) : IsReal (maxRow (F := Ideal) msk q K (ix2 0 c)) := by
  rw [maxRow_ix]
  exact isReal_fold_max _ fun x => maxTo_real msk q K c hs 7 x

/-- The weight of a key: two to the power of its score less the column's largest. -/
theorem weights_key (m : FVec Ideal S1x512 .f32) (S : Vec Ideal S2048x512 .f32) (k : Fin 2048) (c : Fin 512) :
    weights (F := Ideal) m S (ix2 k c) = Ideal.exp2 (S (ix2 k c) - m (ix2 0 c)) := by
  rw [weights_ix, weightPart_ix, rows64_ix]
  congr 4
  apply Fin.ext
  show min (64 * (k.val / 64)) 1984 + k.val % 64 = k.val
  omega

/-- The sum of a column's weights, part by part, is their sum over all keys. -/
theorem sumRow_keys (m : FVec Ideal S1x512 .f32) (S : Vec Ideal S2048x512 .f32) (c : Fin 512) :
    sumRow (F := Ideal) m S (ix2 0 c) = ∑ k : Fin 2048, Ideal.exp2 (S (ix2 k c) - m (ix2 0 c)) := by
  let f : ℕ → EReal := fun k => Ideal.exp2 (S (ix2 ⟨min k 2047, by omega⟩ c) - m (ix2 0 c))
  have h : ∀ n ≤ 32, ∀ i : Fin 8, sumTo (F := Ideal) m S n (ix2 i c)
      = ∑ t ∈ Finset.range n, ∑ y : Fin 8, f (64 * t + (y.val * 8 + i.val)) := by
    intro n
    induction n with
    | zero => intro _ i; rw [sumTo_zero]; simp
    | succ n ih =>
      intro hn i
      rw [sumTo_ix, ih (by omega), Finset.sum_range_succ]
      refine congrArg _ (Finset.sum_congr rfl fun y _ => ?_)
      rw [weightPart_ix, rows64_ix]
      show _ = Ideal.exp2 _
      congr 4
      apply Fin.ext
      show min (64 * n) 1984 + (y.val * 8 + i.val) = min (64 * n + (y.val * 8 + i.val)) 2047
      omega
  rw [sumRow_ix]
  simp only [h 32 le_rfl]
  rw [sum_by_parts f]
  refine Finset.sum_congr rfl fun k _ => ?_
  show Ideal.exp2 _ = _
  congr 4
  apply Fin.ext
  show min k.val 2047 = k.val
  omega

variable (Q K V : Vec Ideal S1x4x2048x128 .bf16)

/-- The part of the queries and keys of tile `T`: a score under the first map. -/
theorem tileScores_lo (T : ℕ) (hT : T < 32) (i : Fin 256) (k : Fin 2048) :
    tileScores (F := Ideal) Q K T (ix2 k ⟨i.val, by omega⟩)
      = ∑ d : Fin 64, Q (ix4 0 ⟨T / 8, by omega⟩ ⟨T % 8 * 256 + i.val, by omega⟩ ⟨d.val, by omega⟩)
          * K (ix4 0 ⟨T / 8, by omega⟩ k ⟨d.val, by omega⟩) := by
  unfold tileScores
  rw [scores_ix, scorePart_lo]
  refine Finset.sum_congr rfl fun d _ => ?_
  rw [tileRows_ix, headRows_ix]
  congr 3
  · apply Fin.ext; show min (T / 8) 3 = T / 8; omega
  · apply Fin.ext; show min (T / 8) 3 = T / 8; omega
  · apply Fin.ext; show min (256 * (k.val / 256)) 1792 + k.val % 256 = k.val; omega

/-- The same under the second map. -/
theorem tileScores_hi (T : ℕ) (hT : T < 32) (i : Fin 256) (k : Fin 2048) :
    tileScores (F := Ideal) Q K T (ix2 k ⟨256 + i.val, by omega⟩)
      = ∑ d : Fin 64, Q (ix4 0 ⟨T / 8, by omega⟩ ⟨T % 8 * 256 + i.val, by omega⟩ ⟨64 + d.val, by omega⟩)
          * K (ix4 0 ⟨T / 8, by omega⟩ k ⟨64 + d.val, by omega⟩) := by
  unfold tileScores
  rw [scores_ix, scorePart_hi]
  refine Finset.sum_congr rfl fun d _ => ?_
  rw [tileRows_ix, headRows_ix]
  congr 3
  · apply Fin.ext; show min (T / 8) 3 = T / 8; omega
  · apply Fin.ext; show min (T / 8) 3 = T / 8; omega
  · apply Fin.ext; show min (256 * (k.val / 256)) 1792 + k.val % 256 = k.val; omega

/-- The largest scores of a tile are real numbers when the queries and keys are. -/
theorem tileMax_real (hQ : ∀ i, IsReal (Q i)) (hK : ∀ i, IsReal (K i)) (T : ℕ) (c : Fin 512) :
    IsReal (tileMax (F := Ideal) Q K T (ix2 0 c)) := by
  refine maxRow_real _ _ _ c fun n i => ?_
  rcases Nat.lt_or_ge c.val 256 with hc | hc
  · have e : c = ⟨(⟨c.val, hc⟩ : Fin 256).val, by omega⟩ := rfl
    rw [e, scorePart_lo]
    refine isReal_sum_mul _ _ (fun d => ?_) fun d => ?_
    · rw [tileRows_ix]; exact hQ _
    · rw [headRows_ix]; exact hK _
  · have e : c = ⟨256 + (⟨c.val - 256, by omega⟩ : Fin 256).val, by omega⟩ := Fin.ext (by show c.val = 256 + (c.val - 256); omega)
    rw [e, scorePart_hi]
    refine isReal_sum_mul _ _ (fun d => ?_) fun d => ?_
    · rw [tileRows_ix]; exact hQ _
    · rw [headRows_ix]; exact hK _

/-- A row of tile `T` before the normalisation. `s₁` and `s₂` are the row's scores under the two maps, `w` a lane of the
    values. -/
theorem tile_avg (hQ : ∀ i, IsReal (Q i)) (hK : ∀ i, IsReal (K i)) (lamv : FVec Ideal S1x1 .f32) (lam : ℝ)
    (hl : lamv (ix2 0 0) = (lam : EReal)) (T : ℕ) (hT : T < 32) (i : Fin 256) (e : Fin 128) (s₁ s₂ w : Fin 2048 → ℝ)
    (h₁ : ∀ k, ∑ d : Fin 64, Q (ix4 0 ⟨T / 8, by omega⟩ ⟨T % 8 * 256 + i.val, by omega⟩ ⟨d.val, by omega⟩)
          * K (ix4 0 ⟨T / 8, by omega⟩ k ⟨d.val, by omega⟩) = (s₁ k : EReal))
    (h₂ : ∀ k, ∑ d : Fin 64, Q (ix4 0 ⟨T / 8, by omega⟩ ⟨T % 8 * 256 + i.val, by omega⟩ ⟨64 + d.val, by omega⟩)
          * K (ix4 0 ⟨T / 8, by omega⟩ k ⟨64 + d.val, by omega⟩) = (s₂ k : EReal))
    (hw : ∀ k, V (ix4 0 ⟨T / 8, by omega⟩ k e) = (w k : EReal)) :
    mapDiff (F := Ideal) lamv (tileSum Q K T) (weighted (valuesT (headAll V (T / 8))) (tileWeights Q K T)) (ix2 i e)
      = ∑ j, (((soft (fun j => s₁ j * Real.log 2) j : ℝ) : EReal) - (lam : EReal) * ((soft (fun j => s₂ j * Real.log 2) j : ℝ) : EReal))
          * (w j : EReal) := by
  have hv : ∀ k, headAll (F := Ideal) V (T / 8) (ix4 0 0 k e) = (w k : EReal) := fun k => by
    rw [headAll_ix, ← hw]
    congr 2
    apply Fin.ext; show min (T / 8) 3 = T / 8; omega
  rw [mapDiff_ix, weighted_ix, weighted_ix, hl]
  unfold tileSum tileWeights
  simp only [weights_key, sumRow_keys, hv]
  simp only [tileScores_lo Q K T hT, tileScores_hi Q K T hT, h₁, h₂]
  rw [← sub_average, ← average s₁ w _ (tileMax_real Q K hQ hK T _) 1, ← average s₂ w _ (tileMax_real Q K hQ hK T _) lam, EReal.coe_one]

end Cert.Proof

end
-- ==== Proof.RefIx.lean ====
module

public import proofs.«01_k».proof.Proof.Gen.ReferenceIdeal.Run
public import Idealize.ShloMosaic.Lib.Pointwise
public import Idealize.ShloMosaic.PureOps.Ideal.Laws
public import Idealize.ShloMosaic.Lib.IdealHost

/-!
# The reference's result in steps, and read at an index

The reference's result is one composed term. Here it is cut into named steps (the scores of one map, their softmax, the
difference of the two maps, its product with the values, and the normalised and gated result), and each step is read at an
index over the extended reals.
-/

@[expose] public section

set_option maxRecDepth 16384

noncomputable section

namespace Cert.Proof.Ref

open Cert.ReferenceIdeal Cert.ReferenceIdeal.Gen
open Idealize.ShloMosaic

/-- The scores of the map whose 64 lanes of the queries and keys are `q` and `k`, in natural units. -/
def refScores (q k : FVec Ideal S32x8x2048x64 .f32) : FVec Ideal S32x8x2048x2048 .f32 :=
  mulf (Host.dotGeneral dot_S32x8x2048x64_S32x8x2048x64_S32x8x2048x2048_3_3_2_2_01_01 none q k)
    (broadcastInDim S32x8x2048x2048 ![] bcast_S_S32x8x2048x2048 (Host.log (constant S_ .f32 0x40000000#32)))

/-- A row vector spread over the keys. -/
def overKeys (x : FVec Ideal S32x8x2048 .f32) : FVec Ideal S32x8x2048x2048 .f32 :=
  broadcastInDim S32x8x2048x2048 ![0, 1, 2, 3] bcast_S32x8x2048x1_S32x8x2048x2048_0_1_2_3
    (broadcastInDim S32x8x2048x1 ![0, 1, 2] bcast_S32x8x2048_S32x8x2048x1_0_1_2 x)

/-- The largest score of each query. -/
def refMax (s : FVec Ideal S32x8x2048x2048 .f32) : FVec Ideal S32x8x2048 .f32 :=
  maximumf (broadcastInDim S32x8x2048 ![] bcast_S_S32x8x2048 (constant S_ .f32 0xFF800000#32))
    (Host.reduce FloatOps.maximumf s (constant S_ .f32 0xFF800000#32) reducesTo_S32x8x2048x2048_S32x8x2048_d3 h_S_)

/-- The exponentials of the scores less their largest. -/
def refExp (s : FVec Ideal S32x8x2048x2048 .f32) : FVec Ideal S32x8x2048x2048 .f32 :=
  Host.exp (subf s (overKeys (refMax s)))

/-- The softmax over the keys. -/
def refSoftmax (s : FVec Ideal S32x8x2048x2048 .f32) : FVec Ideal S32x8x2048x2048 .f32 :=
  Host.divf (refExp s) (overKeys (Host.reduceAdd (refExp s) (constant S_ .f32 0x00000000#32) reducesTo_S32x8x2048x2048_S32x8x2048_d3 h_S_))

/-- The exponential of the product of two vectors. -/
def refPair (a b : FVec Ideal S1x64 .f32) : FVec Ideal S_ .f32 :=
  Host.exp (Host.reduceAdd (mulf a b) (constant S_ .f32 0x00000000#32) reducesTo_S1x64_S_d0_1 h_S_)

/-- The weight of the second map. -/
def refLam (a b c d : FVec Ideal S1x64 .f32) : FVec Ideal S_ .f32 :=
  addf (subf (refPair a b) (refPair c d)) (constant S_ .f32 0x3E4CCCCD#32)

/-- The difference of the two maps. -/
def refAttn (lam : FVec Ideal S_ .f32) (p1 p2 : FVec Ideal S32x8x2048x2048 .f32) : FVec Ideal S32x8x2048x2048 .f32 :=
  subf p1 (mulf (broadcastInDim S32x8x2048x2048 ![] bcast_S_S32x8x2048x2048 lam) p2)

/-- The difference of the two maps applied to the values. -/
def refApply (a : FVec Ideal S32x8x2048x2048 .f32) (v : FVec Ideal S32x8x2048x128 .f32) : FVec Ideal S32x8x2048x128 .f32 :=
  Host.dotGeneral dot_S32x8x2048x2048_S32x8x2048x128_S32x8x2048x128_3_2_2_3_01_01 none a v

/-- The reciprocal root mean square of every row. -/
def refRms (o : FVec Ideal S32x8x2048x128 .f32) : FVec Ideal S32x8x2048x1 .f32 :=
  Host.rsqrt (addf (Host.divf
    (broadcastInDim S32x8x2048x1 ![0, 1, 2] bcast_S32x8x2048_S32x8x2048x1_0_1_2
      (Host.reduceAdd (mulf o o) (constant S_ .f32 0x00000000#32) reducesTo_S32x8x2048x128_S32x8x2048_d3 h_S_))
    (broadcastInDim S32x8x2048x1 ![] bcast_S_S32x8x2048x1 (constant S_ .f32 0x43000000#32)))
    (broadcastInDim S32x8x2048x1 ![] bcast_S_S32x8x2048x1 (constant S_ .f32 0x358637BD#32)))

/-- The normalised, scaled and gated rows. -/
def refGate (o : FVec Ideal S32x8x2048x128 .f32) (g : FVec Ideal S1x128 .f32) (z : FVec Ideal S32x8x2048x128 .f32) :
    FVec Ideal S32x8x2048x128 .bf16 :=
  truncf .bf16 (mulf (mulf (mulf
    (mulf o (broadcastInDim S32x8x2048x128 ![0, 1, 2, 3] bcast_S32x8x2048x1_S32x8x2048x128_0_1_2_3 (refRms o)))
    (broadcastInDim S32x8x2048x128 ![0, 1, 2, 3] bcast_S1x1x1x128_S32x8x2048x128_0_1_2_3
      (broadcastInDim S1x1x1x128 ![3] bcast_S128_S1x1x1x128_3 (shapeCast S128 g shapeCasts_S1x128_S128))))
    (broadcastInDim S32x8x2048x128 ![] bcast_S_S32x8x2048x128 (constant S_ .f32 0x3F4CCCCD#32))) z) bitsLt_bf16_f32

/-- The 64 lanes of the first map. -/
def lanes1 (x : FVec Ideal S32x8x2048x128 .bf16) : FVec Ideal S32x8x2048x64 .f32 :=
  extractStridedSlice S32x8x2048x64 ![0, 0, 0, 0] (extf .f32 x bitsLt_bf16_f32) slices_S32x8x2048x128_S32x8x2048x64_0_0_0_0

/-- The 64 lanes of the second map. -/
def lanes2 (x : FVec Ideal S32x8x2048x128 .bf16) : FVec Ideal S32x8x2048x64 .f32 :=
  extractStridedSlice S32x8x2048x64 ![0, 0, 0, 64] (extf .f32 x bitsLt_bf16_f32) slices_S32x8x2048x128_S32x8x2048x64_0_0_0_64

/-- The reference's rows before the normalisation. -/
def refRows (a b c d : FVec Ideal S1x64 .f32) (q k v : FVec Ideal S32x8x2048x128 .bf16) : FVec Ideal S32x8x2048x128 .f32 :=
  refApply (refAttn (refLam a b c d) (refSoftmax (refScores (lanes1 q) (lanes1 k))) (refSoftmax (refScores (lanes2 q) (lanes2 k))))
    (extf .f32 v bitsLt_bf16_f32)

/-- The reference's result. -/
def refOut (a b c d : FVec Ideal S1x64 .f32) (g : FVec Ideal S1x128 .f32) (q k v z : FVec Ideal S32x8x2048x128 .bf16) :
    FVec Ideal S32x8x2048x128 .bf16 :=
  refGate (refRows a b c d q k v) g (extf .f32 z bitsLt_bf16_f32)

theorem res_eq (m : (ℓ : Loc nD τ sig) → Buf (Elt Ideal) ℓ) (c : Dev nD) :
    Value.res_main_v66 m c = refOut (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) := by
  unfold Value.res_main_v66
  rfl

end Cert.Proof.Ref

end
-- ==== Proof.RefRow.lean ====
module

public import proofs.«01_k».proof.Proof.RefIx
public import proofs.«01_k».proof.Proof.Soft
public import Idealize.ShloMosaic.Lib.Pointwise

/-!
# The reference at an index

Each step of the reference read at an index over the extended reals, and then a row of it, before the normalisation, as an
average of the values under the difference of two softmaxes.
-/

@[expose] public section

set_option maxRecDepth 16384

noncomputable section

namespace Cert.Proof.Ref

open Cert.ReferenceIdeal Cert.ReferenceIdeal.Gen
open Idealize.ShloMosaic

/-- The natural logarithm of the constant two. -/
theorem log_two : Ideal.log (Ideal.ofBits .f32 0x40000000#32) = ((Real.log 2 : ℝ) : EReal) := by
  have h : Ideal.ofBits .f32 0x40000000#32 = ((2 : ℝ) : EReal) := by
    simp [Ideal.ofBits, Ideal.ieee, ← EReal.coe_mul]
    norm_num
  rw [h, Ideal.log_coe, if_neg (by norm_num)]

theorem refScores_ix (q k : FVec Ideal S32x8x2048x64 .f32) (b : Fin 32) (h : Fin 8) (i j : Fin 2048) :
    refScores q k (ix4 b h i j) = (∑ d : Fin 64, q (ix4 b h i d) * k (ix4 b h j d)) * ((Real.log 2 : ℝ) : EReal) := by
  rw [← log_two]
  pointwise [refScores]

/-- A host reduction to the largest element along one axis, of real numbers, is a real number. -/
theorem hostMax_real {s t u : Shape} {a : Fin s.rank} (x : FVec Ideal s .f32) (init : FVec Ideal u .f32) (h' : s.ReducesTo [a] t)
    (h : s.Reduces [a] t) (hu : 0 < u.numel) (j : t.Idx) (hn : 0 < s.size a) (hx : ∀ i, IsReal (x i))
    (hi : ∀ i, init i = (⊥ : EReal)) : IsReal (Host.reduce (FloatOps.maximumf (F := Ideal) (φ := .f32)) x init h' hu j) := by
  haveI : Nonempty (Fin (s.size a)) := ⟨⟨0, hn⟩⟩
  have e := Host.reduce_eq_fold_single (max : EReal → EReal → EReal) x init h' h hu j
  rw [hi] at e
  have r := isReal_fold_max (x ∘ h.lift j) fun k => hx _
  rw [← e] at r
  exact r

/-- The larger of `-∞` everywhere and a real number. -/
theorem botMax_real {t : Shape} (bc : (⟨0, ![]⟩ : Shape).BroadcastsInDim t ![]) (y : FVec Ideal (⟨0, ![]⟩ : Shape) .f32)
    (x : FVec Ideal t .f32) (j : t.Idx) (hy : ∀ i, y i = (⊥ : EReal)) (hx : IsReal (x j)) :
    IsReal (maximumf (broadcastInDim t ![] bc y) x j) := by
  have e : maximumf (broadcastInDim t ![] bc y) x j = max (broadcastInDim t ![] bc y j) (x j) := rfl
  rw [e, show broadcastInDim t ![] bc y j = ⊥ from hy _]
  exact isReal_bot_max hx

theorem bits_bot : Ideal.ofBits .f32 0xFF800000#32 = ⊥ := by
  simp [Ideal.ofBits, Ideal.ieee]

theorem const_bot (i : S_.Idx) : constant (F := Ideal) S_ .f32 0xFF800000#32 i = (⊥ : EReal) := bits_bot

theorem reduces_keys : S32x8x2048x2048.Reduces [3] S32x8x2048 := by decide

theorem keys_pos : 0 < S32x8x2048x2048.size 3 := by decide

/-- The host's largest of real scores is a real number. -/
theorem hostMax_scores (s : FVec Ideal S32x8x2048x2048 .f32) (hs : ∀ i, IsReal (s i)) (j : S32x8x2048.Idx) :
    IsReal (Host.reduce (FloatOps.maximumf (F := Ideal) (φ := .f32)) s (constant (F := Ideal) S_ .f32 0xFF800000#32) reducesTo_S32x8x2048x2048_S32x8x2048_d3 h_S_ j) :=
  hostMax_real s _ _ reduces_keys _ j keys_pos hs const_bot

/-- The largest of real scores is a real number. -/
theorem refMax_real (s : FVec Ideal S32x8x2048x2048 .f32) (hs : ∀ i, IsReal (s i)) (j : S32x8x2048.Idx) : IsReal (refMax s j) := by
  unfold refMax
  exact botMax_real _ _ _ j const_bot (hostMax_scores s hs j)

theorem refExp_ix (s : FVec Ideal S32x8x2048x2048 .f32) (b : Fin 32) (h : Fin 8) (i j : Fin 2048) :
    refExp s (ix4 b h i j) = Ideal.exp (s (ix4 b h i j) - refMax s (ix3 b h i)) := by
  pointwise [refExp, overKeys]

theorem refSoftmax_ix (s : FVec Ideal S32x8x2048x2048 .f32) (b : Fin 32) (h : Fin 8) (i j : Fin 2048) :
    refSoftmax s (ix4 b h i j) = Ideal.div (refExp s (ix4 b h i j)) (∑ x : Fin 2048, refExp s (ix4 b h i x)) := by
  pointwise [refSoftmax, overKeys]

/-- The reference's softmax of real scores. -/
theorem refSoftmax_real (s : FVec Ideal S32x8x2048x2048 .f32) (hs : ∀ i, IsReal (s i)) (b : Fin 32) (h : Fin 8) (i j : Fin 2048)
    (a : Fin 2048 → ℝ) (ha : ∀ k, s (ix4 b h i k) = (a k : EReal)) : refSoftmax s (ix4 b h i j) = ((soft a j : ℝ) : EReal) := by
  rw [refSoftmax_ix]
  simp only [refExp_ix, ha]
  exact div_exp a _ (refMax_real s hs _) j

theorem refLam_ix (a b c d : FVec Ideal S1x64 .f32) :
    refLam a b c d ix0
      = Ideal.exp (∑ x : Fin 64, a (ix2 0 x) * b (ix2 0 x)) - Ideal.exp (∑ x : Fin 64, c (ix2 0 x) * d (ix2 0 x))
        + Ideal.ofBits .f32 0x3E4CCCCD#32 := by
  pointwise [refLam, refPair]
  simp only [Fin.sum_univ_one]

theorem refRows_ix (a b c d : FVec Ideal S1x64 .f32) (q k v : FVec Ideal S32x8x2048x128 .bf16) (B : Fin 32) (h : Fin 8) (i : Fin 2048) (e : Fin 128) :
    refRows a b c d q k v (ix4 B h i e)
      = ∑ x : Fin 2048, (refSoftmax (refScores (lanes1 q) (lanes1 k)) (ix4 B h i x)
          - refLam a b c d ix0 * refSoftmax (refScores (lanes2 q) (lanes2 k)) (ix4 B h i x)) * v (ix4 B h x e) := by
  pointwise [refRows, refApply, refAttn]

theorem refGate_ix (o : FVec Ideal S32x8x2048x128 .f32) (g : FVec Ideal S1x128 .f32) (z : FVec Ideal S32x8x2048x128 .f32) (B : Fin 32) (h : Fin 8) (i : Fin 2048) (e : Fin 128) :
    refGate o g z (ix4 B h i e)
      = o (ix4 B h i e) * Ideal.rsqrt (Ideal.div (∑ x : Fin 128, o (ix4 B h i x) * o (ix4 B h i x)) (Ideal.ofBits .f32 0x43000000#32)
          + Ideal.ofBits .f32 0x358637BD#32) * g (ix2 0 e) * Ideal.ofBits .f32 0x3F4CCCCD#32 * z (ix4 B h i e) := by
  pointwise [refGate, refRms]

theorem lanes1_ix (x : FVec Ideal S32x8x2048x128 .bf16) (b : Fin 32) (h : Fin 8) (i : Fin 2048) (d : Fin 64) :
    lanes1 x (ix4 b h i d) = x (ix4 b h i ⟨d.val, by omega⟩) := by
  pointwise [lanes1]

theorem lanes2_ix (x : FVec Ideal S32x8x2048x128 .bf16) (b : Fin 32) (h : Fin 8) (i : Fin 2048) (d : Fin 64) :
    lanes2 x (ix4 b h i d) = x (ix4 b h i ⟨64 + d.val, by omega⟩) := by
  pointwise [lanes2]

/-- Scores of real queries and keys are real numbers. -/
theorem refScores_real (q k : FVec Ideal S32x8x2048x64 .f32) (hq : ∀ i, IsReal (q i)) (hk : ∀ i, IsReal (k i)) (i : S32x8x2048x2048.Idx) :
    IsReal (refScores q k i) := by
  idx_vars i
  rw [refScores_ix]
  obtain ⟨r, hr⟩ := isReal_sum_mul (fun d : Fin 64 => q (ix4 _ _ _ d)) (fun d => k (ix4 _ _ _ d)) (fun d => hq _) (fun d => hk _)
  exact ⟨r * Real.log 2, by rw [hr, EReal.coe_mul]⟩

/-- A row of the reference before the normalisation, at real queries, keys, values and second-map weight: the average of the
    values under the difference of the two softmaxes. `s₁` and `s₂` are the row's scores under the two maps. -/
theorem refRows_avg (a b c d : FVec Ideal S1x64 .f32) (q k v : FVec Ideal S32x8x2048x128 .bf16) (lam : ℝ)
    (hl : refLam a b c d ix0 = (lam : EReal)) (hq : ∀ i, IsReal (q i)) (hk : ∀ i, IsReal (k i)) (B : Fin 32) (h : Fin 8)
    (i : Fin 2048) (e : Fin 128) (s₁ s₂ w : Fin 2048 → ℝ)
    (h₁ : ∀ j, ∑ d : Fin 64, q (ix4 B h i ⟨d.val, by omega⟩) * k (ix4 B h j ⟨d.val, by omega⟩) = (s₁ j : EReal))
    (h₂ : ∀ j, ∑ d : Fin 64, q (ix4 B h i ⟨64 + d.val, by omega⟩) * k (ix4 B h j ⟨64 + d.val, by omega⟩) = (s₂ j : EReal))
    (hw : ∀ j, v (ix4 B h j e) = (w j : EReal)) :
    refRows a b c d q k v (ix4 B h i e)
      = ∑ j, (((soft (fun j => s₁ j * Real.log 2) j : ℝ) : EReal) - (lam : EReal) * ((soft (fun j => s₂ j * Real.log 2) j : ℝ) : EReal))
          * (w j : EReal) := by
  have r₁ : ∀ i, IsReal (refScores (lanes1 q) (lanes1 k) i) := refScores_real _ _
    (fun i => by idx_vars i; rw [lanes1_ix]; exact hq _) (fun i => by idx_vars i; rw [lanes1_ix]; exact hk _)
  have r₂ : ∀ i, IsReal (refScores (lanes2 q) (lanes2 k) i) := refScores_real _ _
    (fun i => by idx_vars i; rw [lanes2_ix]; exact hq _) (fun i => by idx_vars i; rw [lanes2_ix]; exact hk _)
  have e₁ : ∀ j, refScores (lanes1 q) (lanes1 k) (ix4 B h i j) = ((s₁ j * Real.log 2 : ℝ) : EReal) := fun j => by
    rw [refScores_ix]; simp only [lanes1_ix]; rw [h₁, EReal.coe_mul]
  have e₂ : ∀ j, refScores (lanes2 q) (lanes2 k) (ix4 B h i j) = ((s₂ j * Real.log 2 : ℝ) : EReal) := fun j => by
    rw [refScores_ix]; simp only [lanes2_ix]; rw [h₂, EReal.coe_mul]
  rw [refRows_ix, hl]
  refine Finset.sum_congr rfl fun j _ => ?_
  rw [refSoftmax_real _ r₁ B h i j _ e₁, refSoftmax_real _ r₂ B h i j _ e₂, hw]

end Cert.Proof.Ref

end
-- ==== Proof.Value.lean ====
module

public import proofs.«01_k».proof.Proof.Whole
public import proofs.«01_k».proof.Proof.TileRow
public import proofs.«01_k».proof.Proof.RefRow

/-!
# The kernel's output is the reference's

At real queries, keys, values and vectors, the output array of the kernel is the reference's result, element by element:
before the normalisation both hold the same average of the values, and what follows is the same in both.
-/

@[expose] public section

set_option maxRecDepth 16384

noncomputable section

namespace Cert.Proof

open Cert.Kernel Cert.Kernel.Gen
open Idealize.ShloMosaic

/-- The kernel's weight of the second map is the reference's, -/
theorem lam_same (a b c d : Vec Ideal S1x64 .f32) : lamOf (F := Ideal) a b c d (ix2 0 0) = Ref.refLam a b c d ix0 := by
  rw [lamOf_ix, Ref.refLam_ix]

/-- and a real number when the vectors are real. -/
theorem lam_real (a b c d : Vec Ideal S1x64 .f32) (ha : ∀ i, IsReal (a i)) (hb : ∀ i, IsReal (b i)) (hc : ∀ i, IsReal (c i))
    (hd : ∀ i, IsReal (d i)) : IsReal (Ref.refLam a b c d ix0) := by
  obtain ⟨x, hx⟩ := isReal_sum_mul (fun x : Fin 64 => a (ix2 0 x)) (fun x => b (ix2 0 x)) (fun _ => ha _) (fun _ => hb _)
  obtain ⟨y, hy⟩ := isReal_sum_mul (fun x : Fin 64 => c (ix2 0 x)) (fun x => d (ix2 0 x)) (fun _ => hc _) (fun _ => hd _)
  obtain ⟨k, hk⟩ : IsReal (Ideal.ofBits .f32 0x3E4CCCCD#32) := by
    simp [Ideal.ofBits, Ideal.ieee, ← EReal.coe_mul]
    exact ⟨_, rfl⟩
  rw [Ref.refLam_ix, hx, hy, hk, Ideal.exp_coe, Ideal.exp_coe]
  exact ⟨Real.exp x - Real.exp y + k, by rw [EReal.coe_add, EReal.coe_sub]⟩

variable (Q K V Z : Vec Ideal S32x8x2048x128 .bf16) (a b c d : Vec Ideal S1x64 .f32) (g : Vec Ideal S1x128 .f32)

/-- A block of an array at an index. -/
theorem part_ix (X : Vec Ideal S32x8x2048x128 .bf16) (t : ℕ) (h : Fin 4) (i : Fin 2048) (e : Fin 128) (B : Fin 32) (H : Fin 8)
    (hB : B.val = min (t / 2) 31) (hH : H.val = t % 2 * 4 + h.val) : part X t (ix4 0 h i e) = X (ix4 B H i e) := by
  rw [ix4_eq_valueIdx, ix4_eq_valueIdx]
  unfold part
  congr 2
  · exact Fin.ext hB.symm
  · exact Fin.ext hH.symm

theorem part_real (X : Vec Ideal S32x8x2048x128 .bf16) (t : ℕ) (h : ∀ i, IsReal (X i)) : ∀ i, IsReal (part X t i) := fun _ => h _

/-- A row of the kernel's output before the normalisation is a row of the reference's. -/
theorem row_same (hQ : ∀ i, IsReal (Q i)) (hK : ∀ i, IsReal (K i)) (hV : ∀ i, IsReal (V i)) (hl : IsReal (Ref.refLam a b c d ix0))
    (B : Fin 32) (H : Fin 8) (i : Fin 2048) (e : Fin 128) (t T : ℕ) (r : Fin 256) (ht : t = B.val * 2 + H.val / 4)
    (hT : T = H.val % 4 * 8 + i.val / 256) (hr : r.val = i.val % 256) :
    mapDiff (F := Ideal) (lamOf a b c d) (tileSum (part Q t) (part K t) T)
        (weighted (valuesT (headAll (part V t) (T / 8))) (tileWeights (part Q t) (part K t) T)) (ix2 r e)
      = Ref.refRows a b c d Q K V (ix4 B H i e) := by
  have hH : H.val < 8 := H.isLt
  have hB : B.val < 32 := B.isLt
  have hi : i.val < 2048 := i.isLt
  obtain ⟨lam, hl⟩ := hl
  have s₁ : ∀ j : Fin 2048, IsReal (∑ d : Fin 64, Q (ix4 B H i ⟨d.val, by omega⟩) * K (ix4 B H j ⟨d.val, by omega⟩)) := fun j =>
    isReal_sum_mul _ _ (fun _ => hQ _) (fun _ => hK _)
  have s₂ : ∀ j : Fin 2048, IsReal (∑ d : Fin 64, Q (ix4 B H i ⟨64 + d.val, by omega⟩) * K (ix4 B H j ⟨64 + d.val, by omega⟩)) := fun j =>
    isReal_sum_mul _ _ (fun _ => hQ _) (fun _ => hK _)
  have sw : ∀ j : Fin 2048, IsReal (V (ix4 B H j e)) := fun j => hV _
  choose s₁ h₁ using s₁
  choose s₂ h₂ using s₂
  choose w hw using sw
  have p : ∀ (X : Vec Ideal S32x8x2048x128 .bf16) (j : Fin 2048) (x : Fin 128), part X t (ix4 0 ⟨T / 8, by omega⟩ j x) = X (ix4 B H j x) :=
    fun X j x => part_ix X t _ j x B H (by omega) (by show H.val = t % 2 * 4 + T / 8; omega)
  have er : (⟨T % 8 * 256 + r.val, by omega⟩ : Fin 2048) = i := Fin.ext (by show T % 8 * 256 + r.val = i.val; omega)
  rw [Ref.refRows_avg a b c d Q K V lam hl hQ hK B H i e s₁ s₂ w h₁ h₂ hw]
  refine tile_avg (part Q t) (part K t) (part V t) (part_real Q t hQ) (part_real K t hK) _ lam ((lam_same a b c d).trans hl) T (by omega) r e
    s₁ s₂ w (fun k => ?_) (fun k => ?_) (fun k => ?_)
  · rw [← h₁, er]; simp only [p]
  · rw [← h₂, er]; simp only [p]
  · rw [← hw, p]

/-- The output array of the kernel is the reference's result, at an index, -/
theorem whole_same_ix (hQ : ∀ i, IsReal (Q i)) (hK : ∀ i, IsReal (K i)) (hV : ∀ i, IsReal (V i)) (ha : ∀ i, IsReal (a i))
    (hb : ∀ i, IsReal (b i)) (hc : ∀ i, IsReal (c i)) (hd : ∀ i, IsReal (d i)) (B : Fin 32) (H : Fin 8) (i : Fin 2048) (e : Fin 128) :
    whole (F := Ideal) Q K V Z a b c d g (ix4 B H i e) = Ref.refOut a b c d g Q K V Z (ix4 B H i e) := by
  have hH : H.val < 8 := H.isLt
  have hB : B.val < 32 := B.isLt
  have hi : i.val < 2048 := i.isLt
  have row := fun x => row_same Q K V a b c d hQ hK hV (lam_real a b c d ha hb hc hd) B H i x (B.val * 2 + H.val / 4)
    (H.val % 4 * 8 + i.val / 256) ⟨i.val % 256, Nat.mod_lt _ (by decide)⟩ rfl rfl rfl
  show normGate (F := Ideal) (scaleOf g) (mapDiff (lamOf a b c d) (tileSum (part Q (B.val * 2 + H.val / 4)) (part K (B.val * 2 + H.val / 4)) (H.val % 4 * 8 + i.val / 256))
    (weighted (valuesT (headAll (part V (B.val * 2 + H.val / 4)) ((H.val % 4 * 8 + i.val / 256) / 8)))
      (tileWeights (part Q (B.val * 2 + H.val / 4)) (part K (B.val * 2 + H.val / 4)) (H.val % 4 * 8 + i.val / 256))))
    (tileRows (part Z (B.val * 2 + H.val / 4)) (H.val % 4 * 8 + i.val / 256))
    (ValueIdx.ix4 0 0 ⟨i.val % 256, Nat.mod_lt _ (by decide)⟩ e) = _
  rw [← ix4_eq_valueIdx, normGate_ix]
  simp only [row]
  unfold Ref.refOut
  rw [Ref.refGate_ix, scaleOf_ix, tileRows_ix, mul_assoc (_ * _) (g _) _]
  rw [part_ix Z _ _ _ _ B H (by omega) (by show H.val = (B.val * 2 + H.val / 4) % 2 * 4 + min ((H.val % 4 * 8 + i.val / 256) / 8) 3; omega)]
  congr 2
  refine congrArg (fun x => ix4 B H x e) ?_
  apply Fin.ext
  show (H.val % 4 * 8 + i.val / 256) % 8 * 256 + i.val % 256 = i.val
  omega

/-- and so as a whole. -/
theorem whole_same (hQ : ∀ i, IsReal (Q i)) (hK : ∀ i, IsReal (K i)) (hV : ∀ i, IsReal (V i)) (ha : ∀ i, IsReal (a i))
    (hb : ∀ i, IsReal (b i)) (hc : ∀ i, IsReal (c i)) (hd : ∀ i, IsReal (d i)) :
    whole (F := Ideal) Q K V Z a b c d g = Ref.refOut a b c d g Q K V Z := by
  funext y
  idx_vars y
  exact whole_same_ix Q K V Z a b c d g hQ hK hV ha hb hc hd _ _ _ _

end Cert.Proof

end
-- ==== Proof.GateIx.lean ====
module

public import proofs.«01_k».proof.Proof.Gen.Kernel2Ideal.Value
public import Idealize.ShloMosaic.Lib.Pipeline.Value
public import Idealize.ShloMosaic.Lib.Pointwise

/-!
# The output projection's block, read at an index

`gateRow` is the mathematics of one output element: the token mix of the first branch, the two branch projections, their
gates, the output projection, the RMS norm and the residual. The block that the second kernel computes at a grid point is
`gateRow` of the rows of its operands' blocks (`out_ix`).
-/

@[expose] public section

set_option maxRecDepth 16384

noncomputable section

namespace Cert.Gate

open Cert.Kernel2Ideal Cert.Kernel2Ideal.Gen
open Idealize.ShloMosaic

/-- The first branch before its projection, at lane `l` of a row: the gate `uz` times the mix of the row's chunk of tokens. -/
def mixRow (uz : Fin 1024 → EReal) (vn : Fin 128 → Fin 1024 → EReal) (A : Fin 8 → Fin 128 → EReal) (bs : Fin 8 → EReal) (l : Fin 1024) : EReal :=
  uz l * ((∑ j : Fin 128, A ⟨l.val / 128, by omega⟩ j * vn j l) + bs ⟨l.val / 128, by omega⟩)

/-- The output projection's element `e` of a row: the two branches projected, gated, added and projected. -/
def projRow (ya yb ga gb : Fin 1024 → EReal) (wa wb wo : Fin 1024 → Fin 1024 → EReal) (e : Fin 1024) : EReal :=
  ∑ k : Fin 1024, (ga k * (∑ l : Fin 1024, ya l * wa l k) + gb k * (∑ l : Fin 1024, yb l * wb l k)) * wo k e

/-- The RMS norm of a row with its scale, added to the residual. -/
def normRow (x o g : Fin 1024 → EReal) (e : Fin 1024) : EReal :=
  x e + o e * Ideal.rsqrt (Ideal.div (∑ k : Fin 1024, o k * o k) (Ideal.ofBits .f32 0x44800000#32) + Ideal.ofBits .f32 0x358637BD#32) * g e

/-- One element of the result. -/
def gateRow (x uz yb ga gb : Fin 1024 → EReal) (vn : Fin 128 → Fin 1024 → EReal) (A : Fin 8 → Fin 128 → EReal) (bs : Fin 8 → EReal)
    (wa wb wo : Fin 1024 → Fin 1024 → EReal) (g : Fin 1024 → EReal) (e : Fin 1024) : EReal :=
  normRow x (projRow (mixRow uz vn A bs) yb ga gb wa wb wo) g e

/-- The product of one head's mixing matrix and a chunk of 128 tokens, the head's lanes only. -/
def headMix (A : Vec Ideal S8x128x128 .bf16) (vn : Vec Ideal S512x1024 .bf16) (r : Fin 4) (h : Fin 8) : FVec Ideal S128x128 .f32 :=
  k0_pay1 (F := Ideal) (View.ld A (Rect.unit (s := S8x128x128) ![h.val, 0, 0] S1x128x128.size (by
      intro a; have := h.isLt; fin_cases a <;> simp [S8x128x128, S1x128x128] <;> omega)))
    (View.ld vn (Rect.unit (s := S512x1024) ![r.val * 128, h.val * 128] S128x128.size (by
      intro a; have := h.isLt; have := r.isLt; fin_cases a <;> simp [S512x1024, S128x128] <;> omega)))

theorem headMix_ix (A : Vec Ideal S8x128x128 .bf16) (vn : Vec Ideal S512x1024 .bf16) (r : Fin 4) (h : Fin 8) (i d : Fin 128) :
    headMix A vn r h (ix2 i d) = ∑ j : Fin 128, A (ix3 h i j) * vn (ix2 ⟨r.val * 128 + j.val, by omega⟩ ⟨h.val * 128 + d.val, by omega⟩) := by
  pointwise [headMix, k0_pay1, View.ld]

/-- A chunk's mix with its bias, times the gate. -/
def gated (uz : Vec Ideal S512x1024 .bf16) (bs : Vec Ideal S128x1024 .f32) (C : FVec Ideal S128x1024 .f32) (r : Fin 4) : FVec Ideal S128x1024 .bf16 :=
  truncf .bf16 (mulf (extf .f32 (View.ld uz (Rect.unit (s := S512x1024) ![r.val * 128, 0] S128x1024.size (by
      intro a; have := r.isLt; fin_cases a <;> simp [S512x1024, S128x1024] <;> omega))) bitsLt_bf16_f32)
    (addf C (shapeCast S128x1024 (View.ld bs r0_16) shapeCasts_S128x1024_S128x1024))) bitsLt_bf16_f32

theorem gated_ix (uz : Vec Ideal S512x1024 .bf16) (bs : Vec Ideal S128x1024 .f32) (C : FVec Ideal S128x1024 .f32) (r : Fin 4) (i : Fin 128) (l : Fin 1024) :
    gated uz bs C r (ix2 i l) = uz (ix2 ⟨r.val * 128 + i.val, by omega⟩ l) * (C (ix2 i l) + bs (ix2 i l)) := by
  pointwise [gated, View.ld]

/-- The first branch's rows of one chunk. -/
def chunk (A : Vec Ideal S8x128x128 .bf16) (vn uz : Vec Ideal S512x1024 .bf16) (bs : Vec Ideal S128x1024 .f32) (r : Fin 4) : FVec Ideal S128x1024 .bf16 :=
  gated uz bs (concatenate S128x1024 1 (List.ofFn fun h : Fin 8 => (⟨S128x128, headMix A vn r h⟩ : (s : Shape) × (s.Idx → EReal)))
    concatenates_S128x128_S128x128_S128x128_S128x128_S128x128_S128x128_S128x128_S128x128_S128x1024_d1) r

theorem chunk_ix (A : Vec Ideal S8x128x128 .bf16) (vn uz : Vec Ideal S512x1024 .bf16) (bs : Vec Ideal S128x1024 .f32) (r : Fin 4) (i : Fin 128) (l : Fin 1024) :
    chunk A vn uz bs r (ix2 i l)
      = uz (ix2 ⟨r.val * 128 + i.val, by omega⟩ l) *
        ((∑ j : Fin 128, A (ix3 ⟨l.val / 128, by omega⟩ i j) * vn (ix2 ⟨r.val * 128 + j.val, by omega⟩ l)) + bs (ix2 i l)) := by
  have e := concatenate_ofFn_apply (t := S128x1024) (s₁ := S128x128) 1 (fun h : Fin 8 => headMix A vn r h)
    concatenates_S128x128_S128x128_S128x128_S128x128_S128x128_S128x128_S128x128_S128x128_S128x1024_d1 rfl 128 rfl (ix2 i l)
    ⟨l.val / 128, by omega⟩ rfl (ix2 i ⟨l.val % 128, Nat.mod_lt _ (by decide)⟩) rfl
    (by intro b hb; fin_cases b <;> first | rfl | exact absurd rfl hb)
  rw [headMix_ix] at e
  have el : (⟨l.val / 128 * 128 + l.val % 128, by omega⟩ : Fin 1024) = l := Fin.ext (by show l.val / 128 * 128 + l.val % 128 = l.val; omega)
  simp only [el] at e
  unfold chunk
  rw [gated_ix, e]

/-- The first branch's rows of a block: its four chunks. -/
def branchA (A : Vec Ideal S8x128x128 .bf16) (vn uz : Vec Ideal S512x1024 .bf16) (bs : Vec Ideal S128x1024 .f32) : FVec Ideal S512x1024 .bf16 :=
  concatenate S512x1024 0 (List.ofFn fun r : Fin 4 => (⟨S128x1024, chunk A vn uz bs r⟩ : (s : Shape) × (s.Idx → EReal)))
    concatenates_S128x1024_S128x1024_S128x1024_S128x1024_S512x1024_d0

theorem branchA_ix (A : Vec Ideal S8x128x128 .bf16) (vn uz : Vec Ideal S512x1024 .bf16) (bs : Vec Ideal S128x1024 .f32) (s : Fin 512) (l : Fin 1024) :
    branchA A vn uz bs (ix2 s l)
      = mixRow (fun l => uz (ix2 s l)) (fun j l => vn (ix2 ⟨s.val / 128 * 128 + j.val, by omega⟩ l))
        (fun h j => A (ix3 h ⟨s.val % 128, Nat.mod_lt _ (by decide)⟩ j))
        (fun _ => bs (ix2 ⟨s.val % 128, Nat.mod_lt _ (by decide)⟩ l)) l := by
  have e := concatenate_ofFn_apply (t := S512x1024) (s₁ := S128x1024) 0 (fun r : Fin 4 => chunk A vn uz bs r)
    concatenates_S128x1024_S128x1024_S128x1024_S128x1024_S512x1024_d0 rfl 128 rfl (ix2 s l)
    ⟨s.val / 128, by omega⟩ rfl (ix2 ⟨s.val % 128, Nat.mod_lt _ (by decide)⟩ l) rfl
    (by intro b hb; fin_cases b <;> first | rfl | exact absurd rfl hb)
  rw [chunk_ix] at e
  have es : (⟨s.val / 128 * 128 + s.val % 128, by omega⟩ : Fin 512) = s := Fin.ext (by show s.val / 128 * 128 + s.val % 128 = s.val; omega)
  simp only [es] at e
  exact e

/-- A head's block without its two axes of extent one. -/
theorem oneHead_ix (v : Vec Ideal S1x1x512x128 .bf16) (s : Fin 512) (d : Fin 128) :
    shapeCast S512x128 v shapeCasts_S1x1x512x128_S512x128 (ix2 s d) = v (ix4 0 0 s d) := by
  pointwise

/-- One head of the second branch. -/
def headOf (yb : Vec Ideal S1x8x512x128 .bf16) (h : Fin 8) : FVec Ideal S512x128 .bf16 :=
  shapeCast S512x128 (View.ld yb (Rect.unit (s := S1x8x512x128) ![0, h.val, 0, 0] S1x1x512x128.size (by
    intro a; have := h.isLt; fin_cases a <;> simp [S1x8x512x128, S1x1x512x128] <;> omega))) shapeCasts_S1x1x512x128_S512x128

theorem headOf_ix (yb : Vec Ideal S1x8x512x128 .bf16) (h : Fin 8) (s : Fin 512) (d : Fin 128) : headOf yb h (ix2 s d) = yb (ix4 0 h s d) := by
  refine (oneHead_ix _ s d).trans (congrArg yb ?_)
  funext a
  apply Fin.ext
  fin_cases a <;> show _ + 1 * _ = _ <;> simp

/-- The second branch's rows of a block: its eight heads side by side. -/
def branchB (yb : Vec Ideal S1x8x512x128 .bf16) : FVec Ideal S512x1024 .bf16 :=
  concatenate S512x1024 1 (List.ofFn fun h : Fin 8 => (⟨S512x128, headOf yb h⟩ : (s : Shape) × (s.Idx → EReal)))
    concatenates_S512x128_S512x128_S512x128_S512x128_S512x128_S512x128_S512x128_S512x128_S512x1024_d1

theorem branchB_ix (yb : Vec Ideal S1x8x512x128 .bf16) (s : Fin 512) (l : Fin 1024) :
    branchB yb (ix2 s l) = yb (ix4 0 ⟨l.val / 128, by omega⟩ s ⟨l.val % 128, Nat.mod_lt _ (by decide)⟩) := by
  have e := concatenate_ofFn_apply (t := S512x1024) (s₁ := S512x128) 1 (fun h : Fin 8 => headOf yb h)
    concatenates_S512x128_S512x128_S512x128_S512x128_S512x128_S512x128_S512x128_S512x128_S512x1024_d1 rfl 128 rfl (ix2 s l)
    ⟨l.val / 128, by omega⟩ rfl (ix2 s ⟨l.val % 128, Nat.mod_lt _ (by decide)⟩) rfl
    (by intro b hb; fin_cases b <;> first | rfl | exact absurd rfl hb)
  rw [headOf_ix] at e
  exact e

/-- The two branches projected, gated, added and projected. -/
def projBlock (ya yb : FVec Ideal S512x1024 .bf16) (ga gb : Vec Ideal S512x1024 .bf16) (wa wb wo : Vec Ideal S1024x1024 .bf16) : FVec Ideal S512x1024 .f32 :=
  have a : FVec Ideal S512x1024 .f32 := matmul dot_S512x1024_S1024x1024_S512x1024_1_0_0_1_n_n none ya
    (shapeCast S1024x1024 wa shapeCasts_S1024x1024_S1024x1024 : FVec Ideal S1024x1024 .bf16) (constant S512x1024 .f32 0x00000000#32)
  have b : FVec Ideal S512x1024 .f32 := matmul dot_S512x1024_S1024x1024_S512x1024_1_0_0_1_n_n none yb
    (shapeCast S1024x1024 wb shapeCasts_S1024x1024_S1024x1024 : FVec Ideal S1024x1024 .bf16) (constant S512x1024 .f32 0x00000000#32)
  have s : FVec Ideal S512x1024 .bf16 :=
    truncf .bf16 (addf (mulf (extf .f32 ga bitsLt_bf16_f32) a) (mulf (extf .f32 gb bitsLt_bf16_f32) b)) bitsLt_bf16_f32
  matmul dot_S512x1024_S1024x1024_S512x1024_1_0_0_1_n_n none s
    (shapeCast S1024x1024 wo shapeCasts_S1024x1024_S1024x1024 : FVec Ideal S1024x1024 .bf16) (constant S512x1024 .f32 0x00000000#32)

theorem projBlock_ix (ya yb : FVec Ideal S512x1024 .bf16) (ga gb : Vec Ideal S512x1024 .bf16) (wa wb wo : Vec Ideal S1024x1024 .bf16)
    (s : Fin 512) (e : Fin 1024) :
    projBlock ya yb ga gb wa wb wo (ix2 s e)
      = projRow (fun k => ya (ix2 s k)) (fun k => yb (ix2 s k)) (fun k => ga (ix2 s k)) (fun k => gb (ix2 s k))
          (fun l k => wa (ix2 l k)) (fun l k => wb (ix2 l k)) (fun l k => wo (ix2 l k)) e := by
  unfold projRow
  pointwise [projBlock]

/-- The RMS norm and the residual. -/
def normBlock (o : FVec Ideal S512x1024 .f32) (x : Vec Ideal S512x1024 .f32) (g : Vec Ideal S1x1024 .f32) : FVec Ideal S512x1024 .f32 :=
  addf x (mulf (mulf o (broadcastTo S512x1024 (rsqrt (addf (divf
    (shapeCast S512x1 (multiReduction .add [1] S512 (mulf o o) 0x00000000#32 reduces_S512x1024_S512 (.inl rfl) rfl) shapeCasts_S512_S512x1)
    (broadcast S512x1 (Scalar.ofBits .f32 0x44800000#32))) (broadcast S512x1 (Scalar.ofBits .f32 0x358637BD#32)))) broadcasts_S512x1_S512x1024)) (broadcastTo S512x1024 g broadcasts_S1x1024_S512x1024))

theorem normBlock_ix (o : FVec Ideal S512x1024 .f32) (x : Vec Ideal S512x1024 .f32) (g : Vec Ideal S1x1024 .f32) (s : Fin 512) (e : Fin 1024) :
    normBlock o x g (ix2 s e) = normRow (fun k => x (ix2 s k)) (fun k => o (ix2 s k)) (fun k => g (ix2 0 k)) e := by
  unfold normRow
  pointwise [normBlock]

/-- The output block of a grid point, from the operands' blocks. -/
theorem out_eq (x0 : Vec Ideal S512x1024 .f32) (x1 x2 : Vec Ideal S512x1024 .bf16) (x3 : Vec Ideal S1x8x512x128 .bf16)
    (x4 x5 : Vec Ideal S512x1024 .bf16) (x6 : Vec Ideal S8x128x128 .bf16) (x7 : Vec Ideal S128x1024 .f32)
    (x8 x9 x10 : Vec Ideal S1024x1024 .bf16) (x11 : Vec Ideal S1x1024 .f32) :
    out0_12 (F := Ideal) x0 x1 x2 x3 x4 x5 x6 x7 x8 x9 x10 x11
      = normBlock (projBlock (branchA x6 x2 x1 x7) (branchB x3) x4 x5 x8 x9 x10) x0 x11 := by
  have z2 : (![0, 0] : Fin 2 → ℕ) = fun _ => 0 := by funext a; fin_cases a <;> rfl
  have e0 : View.ld x0 r0_54 = x0 := View.ld_unit_zero z2 _ _
  have e4 : View.ld x4 r0_54 = x4 := View.ld_unit_zero z2 _ _
  have e5 : View.ld x5 r0_54 = x5 := View.ld_unit_zero z2 _ _
  have e8 : View.ld x8 r0_53 = x8 := View.ld_unit_zero z2 _ _
  have e9 : View.ld x9 r0_53 = x9 := View.ld_unit_zero z2 _ _
  have e10 : View.ld x10 r0_53 = x10 := View.ld_unit_zero z2 _ _
  have e11 : View.ld x11 r0_55 = x11 := View.ld_unit_zero z2 _ _
  unfold out0_12
  rw [View.canon_unit_zero z2, e0, e4, e5, e8, e9, e10, e11]
  rfl

/-- The output block at an index. -/
theorem out_ix (x0 : Vec Ideal S512x1024 .f32) (x1 x2 : Vec Ideal S512x1024 .bf16) (x3 : Vec Ideal S1x8x512x128 .bf16)
    (x4 x5 : Vec Ideal S512x1024 .bf16) (x6 : Vec Ideal S8x128x128 .bf16) (x7 : Vec Ideal S128x1024 .f32)
    (x8 x9 x10 : Vec Ideal S1024x1024 .bf16) (x11 : Vec Ideal S1x1024 .f32) (bs : Fin 8 → EReal) (s : Fin 512) (e : Fin 1024)
    (hb : ∀ l : Fin 1024, x7 (ix2 ⟨s.val % 128, Nat.mod_lt _ (by decide)⟩ l) = bs ⟨l.val / 128, by omega⟩) :
    out0_12 (F := Ideal) x0 x1 x2 x3 x4 x5 x6 x7 x8 x9 x10 x11 (ix2 s e)
      = gateRow (fun k => x0 (ix2 s k)) (fun k => x1 (ix2 s k))
          (fun l => x3 (ix4 0 ⟨l.val / 128, by omega⟩ s ⟨l.val % 128, Nat.mod_lt _ (by decide)⟩))
          (fun k => x4 (ix2 s k)) (fun k => x5 (ix2 s k))
          (fun j l => x2 (ix2 ⟨s.val / 128 * 128 + j.val, by omega⟩ l)) (fun h j => x6 (ix3 h ⟨s.val % 128, Nat.mod_lt _ (by decide)⟩ j)) bs
          (fun l k => x8 (ix2 l k)) (fun l k => x9 (ix2 l k)) (fun l k => x10 (ix2 l k)) (fun k => x11 (ix2 0 k)) e := by
  rw [out_eq, normBlock_ix]
  unfold gateRow
  congr 1
  funext k
  rw [projBlock_ix]
  congr 1
  · funext l
    rw [branchA_ix]
    unfold mixRow
    rw [hb]
  · funext l
    rw [branchB_ix]

end Cert.Gate

end
-- ==== Proof.GateRef.lean ====
module

public import proofs.«01_k».proof.Proof.GateIx
public import proofs.«01_k».proof.Proof.Gen.Reference2Ideal.Run

/-!
# The output projection's reference, read at an index

An element of the reference's result is `gateRow` of the arrays' rows.
-/

@[expose] public section

set_option maxRecDepth 16384

noncomputable section

namespace Cert.GateRef

open Cert.Reference2Ideal Cert.Reference2Ideal.Gen
open Idealize.ShloMosaic
open Cert.Gate (mixRow projRow normRow gateRow)

/-- The first branch before its projection. -/
def mixed (uz vn : FVec Ideal S65536x1024 .bf16) (A : FVec Ideal S1x8x128x128 .f32) (bs : FVec Ideal S1x8x128 .f32) : FVec Ideal S32x2048x1024 .f32 :=
  mulf (shapeCast S32x2048x1024 (extf .f32 uz bitsLt_bf16_f32) shapeCasts_S65536x1024_S32x2048x1024)
    (shapeCast S32x2048x1024 (addf
      (transpose S32x16x128x8x128 [1, 2, 4, 0, 3] (Host.dotGeneral dot_S32x16x128x8x128_S8x128x128_S8x32x16x128x128_2_2_014_1_3_0 none
        (shapeCast S32x16x128x8x128 (extf .f32 vn bitsLt_bf16_f32) shapeCasts_S65536x1024_S32x16x128x8x128)
        (shapeCast S8x128x128 A shapeCasts_S1x8x128x128_S8x128x128)) transposes_S8x32x16x128x128_S32x16x128x8x128_1_2_4_0_3)
      (broadcastInDim S32x16x128x8x128 ![0, 1, 2, 3, 4] bcast_S1x1x128x8x1_S32x16x128x8x128_0_1_2_3_4
        (broadcastInDim S1x1x128x8x1 ![2, 3] bcast_S128x8_S1x1x128x8x1_2_3
          (transpose S128x8 [1, 0] (shapeCast S8x128 bs shapeCasts_S1x8x128_S8x128) transposes_S8x128_S128x8_1_0))))
      shapeCasts_S32x16x128x8x128_S32x2048x1024)

/-- The second branch before its projection. -/
def joined (yb : FVec Ideal S32x8x2048x128 .bf16) : FVec Ideal S32x2048x1024 .f32 :=
  shapeCast S32x2048x1024 (transpose S32x2048x8x128 [0, 2, 1, 3] (extf .f32 yb bitsLt_bf16_f32) transposes_S32x8x2048x128_S32x2048x8x128_0_2_1_3)
    shapeCasts_S32x2048x8x128_S32x2048x1024

/-- The product of rows and a weight matrix. -/
def times (x : FVec Ideal S32x2048x1024 .f32) (w : FVec Ideal S1x1024x1024 .f32) : FVec Ideal S32x2048x1024 .f32 :=
  Host.dotGeneral dot_S32x2048x1024_S1024x1024_S32x2048x1024_2_0_01_1_n_n none x (shapeCast S1024x1024 w shapeCasts_S1x1024x1024_S1024x1024)

/-- Rows with a batch axis of their own. -/
def rows (x : FVec Ideal S65536x1024 .bf16) : FVec Ideal S32x2048x1024 .f32 :=
  shapeCast S32x2048x1024 (extf .f32 x bitsLt_bf16_f32) shapeCasts_S65536x1024_S32x2048x1024

/-- The two branches gated and projected. -/
def proj (ya yb : FVec Ideal S32x2048x1024 .f32) (ga gb : FVec Ideal S65536x1024 .bf16) (wa wb wo : FVec Ideal S1x1024x1024 .f32) :
    FVec Ideal S32x2048x1024 .f32 :=
  times (addf (mulf (rows ga) (times ya wa)) (mulf (rows gb) (times yb wb))) wo

/-- The RMS norm and the residual. -/
def normed (x : FVec Ideal S65536x1024 .f32) (o : FVec Ideal S32x2048x1024 .f32) (g : FVec Ideal S1x1024 .f32) : FVec Ideal S65536x1024 .f32 :=
  shapeCast S65536x1024 (addf (shapeCast S32x2048x1024 x shapeCasts_S65536x1024_S32x2048x1024)
    (mulf (mulf o (broadcastInDim S32x2048x1024 ![0, 1, 2] bcast_S32x2048x1_S32x2048x1024_0_1_2
      (Host.rsqrt (addf (Host.divf (broadcastInDim S32x2048x1 ![0, 1] bcast_S32x2048_S32x2048x1_0_1
          (Host.reduceAdd (mulf o o) (constant S_ .f32 0x00000000#32) reducesTo_S32x2048x1024_S32x2048_d2 h_S_))
          (broadcastInDim S32x2048x1 ![] bcast_S_S32x2048x1 (constant S_ .f32 0x44800000#32)))
        (broadcastInDim S32x2048x1 ![] bcast_S_S32x2048x1 (constant S_ .f32 0x358637BD#32))))))
      (broadcastInDim S32x2048x1024 ![0, 1, 2] bcast_S1x1x1024_S32x2048x1024_0_1_2
        (broadcastInDim S1x1x1024 ![2] bcast_S1024_S1x1x1024_2 (shapeCast S1024 g shapeCasts_S1x1024_S1024)))))
    shapeCasts_S32x2048x1024_S65536x1024

theorem res_eq (m : (ℓ : Loc nD τ sig) → Buf (Elt Ideal) ℓ) (c : Dev nD) :
    Value.res_out0 m c = normed (m ((c.tc : Thread nD τ).loc main_arg0))
      (proj (mixed (m ((c.tc : Thread nD τ).loc main_arg1)) (m ((c.tc : Thread nD τ).loc main_arg2)) (m ((c.tc : Thread nD τ).loc main_arg6))
          (m ((c.tc : Thread nD τ).loc main_arg7)))
        (joined (m ((c.tc : Thread nD τ).loc main_arg3))) (m ((c.tc : Thread nD τ).loc main_arg4)) (m ((c.tc : Thread nD τ).loc main_arg5))
        (m ((c.tc : Thread nD τ).loc main_arg8)) (m ((c.tc : Thread nD τ).loc main_arg9)) (m ((c.tc : Thread nD τ).loc main_arg10)))
      (m ((c.tc : Thread nD τ).loc main_arg11)) := by
  unfold Value.res_out0 Value.res_main_v46
  rfl

theorem mixed_ix (uz vn : FVec Ideal S65536x1024 .bf16) (A : FVec Ideal S1x8x128x128 .f32) (bs : FVec Ideal S1x8x128 .f32)
    (b : Fin 32) (q : Fin 2048) (l : Fin 1024) :
    mixed uz vn A bs (ix3 b q l)
      = mixRow (fun l => uz (ix2 ⟨b.val * 2048 + q.val, by omega⟩ l))
          (fun j l => vn (ix2 ⟨b.val * 2048 + q.val / 128 * 128 + j.val, by omega⟩ l))
          (fun h j => A (ix4 0 h ⟨q.val % 128, Nat.mod_lt _ (by decide)⟩ j)) (fun h => bs (ix3 0 h ⟨q.val % 128, Nat.mod_lt _ (by decide)⟩)) l := by
  unfold mixRow
  pointwise [mixed]
  simp only [mul_comm (vn _) (A _)]

theorem joined_ix (yb : FVec Ideal S32x8x2048x128 .bf16) (b : Fin 32) (q : Fin 2048) (l : Fin 1024) :
    joined yb (ix3 b q l) = yb (ix4 b ⟨l.val / 128, by omega⟩ q ⟨l.val % 128, Nat.mod_lt _ (by decide)⟩) := by
  pointwise [joined]

theorem proj_ix (ya yb : FVec Ideal S32x2048x1024 .f32) (ga gb : FVec Ideal S65536x1024 .bf16) (wa wb wo : FVec Ideal S1x1024x1024 .f32)
    (b : Fin 32) (q : Fin 2048) (e : Fin 1024) :
    proj ya yb ga gb wa wb wo (ix3 b q e)
      = projRow (fun k => ya (ix3 b q k)) (fun k => yb (ix3 b q k)) (fun k => ga (ix2 ⟨b.val * 2048 + q.val, by omega⟩ k))
          (fun k => gb (ix2 ⟨b.val * 2048 + q.val, by omega⟩ k)) (fun l k => wa (ix3 0 l k)) (fun l k => wb (ix3 0 l k)) (fun l k => wo (ix3 0 l k)) e := by
  unfold projRow
  pointwise [proj, times, rows]

theorem normed_ix (x : FVec Ideal S65536x1024 .f32) (o : FVec Ideal S32x2048x1024 .f32) (g : FVec Ideal S1x1024 .f32)
    (b : Fin 32) (q : Fin 2048) (e : Fin 1024) :
    normed x o g (ix2 ⟨b.val * 2048 + q.val, by omega⟩ e)
      = normRow (fun k => x (ix2 ⟨b.val * 2048 + q.val, by omega⟩ k)) (fun k => o (ix3 b q k)) (fun k => g (ix2 0 k)) e := by
  unfold normRow
  pointwise [normed]

end Cert.GateRef

end
-- ==== Proof.GateValue.lean ====
module

public import proofs.«01_k».proof.Proof.GateRef
public import proofs.«01_k».proof.Proof.Whole

/-!
# The output projection's result

The blocks of the operands at a grid point as parts of the arrays, the output array that the grid points' blocks make up
together, and its equality with the reference's result.
-/

@[expose] public section

set_option maxRecDepth 16384

noncomputable section

namespace Cert.Gate

open Cert.Kernel2Ideal Cert.Kernel2Ideal.Gen Cert.Kernel2Ideal.Value
open Idealize.ShloMosaic Idealize.ShloMosaic.TcCoe Idealize.ShloMosaic.StableHlo
open Cert.Proof (emb_all zero2)

/-- One element of the result, from the arrays. -/
def gateAt (x : Vec Ideal S65536x1024 .f32) (uz vn : Vec Ideal S65536x1024 .bf16) (yb : Vec Ideal S32x8x2048x128 .bf16)
    (ga gb : Vec Ideal S65536x1024 .bf16) (A : Vec Ideal S1x8x128x128 .f32) (bs : Vec Ideal S1x8x128 .f32)
    (wa wb wo : Vec Ideal S1x1024x1024 .f32) (g : Vec Ideal S1x1024 .f32) (R : Fin 65536) (e : Fin 1024) : EReal :=
  gateRow (fun k => x (ix2 R k)) (fun k => uz (ix2 R k))
    (fun l => yb (ix4 ⟨R.val / 2048, by omega⟩ ⟨l.val / 128, by omega⟩ ⟨R.val % 2048, Nat.mod_lt _ (by decide)⟩ ⟨l.val % 128, Nat.mod_lt _ (by decide)⟩))
    (fun k => ga (ix2 R k)) (fun k => gb (ix2 R k)) (fun j l => vn (ix2 ⟨R.val / 128 * 128 + j.val, by omega⟩ l))
    (fun h j => A (ix4 0 h ⟨R.val % 128, Nat.mod_lt _ (by decide)⟩ j)) (fun h => bs (ix3 0 h ⟨R.val % 128, Nat.mod_lt _ (by decide)⟩))
    (fun l k => wa (ix3 0 l k)) (fun l k => wb (ix3 0 l k)) (fun l k => wo (ix3 0 l k)) (fun k => g (ix2 0 k)) e

variable (m : (ℓ : Loc nD τ sig) → Buf (Elt Ideal) ℓ) (c : Dev nD)

/-- The output array. -/
def outWhole : Vec Ideal S65536x1024 .f32 := fun i =>
  gateAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (i 0) (i 1)

/-- The host's values of the bias, the mixing matrices and the weights. -/
theorem host_bias : V m c main_v3 = shapeCast S128x1024 (broadcastInDim S128x8x128 ![0, 1] bcast_S128x8_S128x8x128_0_1
    (transpose S128x8 [1, 0] (shapeCast S8x128 (m ((c : Thread nD τ).loc main_arg7)) shapeCasts_S1x8x128_S8x128) transposes_S8x128_S128x8_1_0))
    shapeCasts_S128x8x128_S128x1024 := by
  after_results_simp <;> rfl

theorem host_mix : V m c main_v5 = truncf (F := Ideal) .bf16 (shapeCast S8x128x128 (m ((c : Thread nD τ).loc main_arg6)) shapeCasts_S1x8x128x128_S8x128x128) bitsLt_bf16_f32 := by
  rfl

theorem host_a : V m c main_v7 = truncf (F := Ideal) .bf16 (shapeCast S1024x1024 (m ((c : Thread nD τ).loc main_arg8)) shapeCasts_S1x1024x1024_S1024x1024) bitsLt_bf16_f32 := by
  rfl

theorem host_b : V m c main_v9 = truncf (F := Ideal) .bf16 (shapeCast S1024x1024 (m ((c : Thread nD τ).loc main_arg9)) shapeCasts_S1x1024x1024_S1024x1024) bitsLt_bf16_f32 := by
  rfl

theorem host_o : V m c main_v11 = truncf (F := Ideal) .bf16 (shapeCast S1024x1024 (m ((c : Thread nD τ).loc main_arg10)) shapeCasts_S1x1024x1024_S1024x1024) bitsLt_bf16_f32 := by
  rfl

/-- The bias at an index, the mixing matrices at an index, a weight matrix at an index. -/
theorem bias_ix (bs : Vec Ideal S1x8x128 .f32) (i : Fin 128) (l : Fin 1024) :
    shapeCast S128x1024 (broadcastInDim S128x8x128 ![0, 1] bcast_S128x8_S128x8x128_0_1
      (transpose S128x8 [1, 0] (shapeCast S8x128 bs shapeCasts_S1x8x128_S8x128) transposes_S8x128_S128x8_1_0)) shapeCasts_S128x8x128_S128x1024 (ix2 i l)
      = bs (ix3 0 ⟨l.val / 128, by omega⟩ i) := by
  pointwise

theorem mix_ix (A : FVec Ideal S1x8x128x128 .f32) (h : Fin 8) (i j : Fin 128) :
    truncf (F := Ideal) .bf16 (shapeCast S8x128x128 A shapeCasts_S1x8x128x128_S8x128x128) bitsLt_bf16_f32 (ix3 h i j) = A (ix4 0 h i j) := by
  pointwise

theorem weight_ix (w : FVec Ideal S1x1024x1024 .f32) (l k : Fin 1024) :
    truncf (F := Ideal) .bf16 (shapeCast S1024x1024 w shapeCasts_S1x1024x1024_S1024x1024) bitsLt_bf16_f32 (ix2 l k) = w (ix3 0 l k) := by
  pointwise

/-- Where the windows over the rows put a point's block, -/
theorem index_rows (t : Fin grid0.N) :
    ![win0_0.index t 0, win0_0.index t 1] = ![t.val, 0] ∧ ![win0_1.index t 0, win0_1.index t 1] = ![t.val, 0]
    ∧ ![win0_2.index t 0, win0_2.index t 1] = ![t.val, 0] ∧ ![win0_4.index t 0, win0_4.index t 1] = ![t.val, 0]
    ∧ ![win0_5.index t 0, win0_5.index t 1] = ![t.val, 0] ∧ ![win0_12.index t 0, win0_12.index t 1] = ![t.val, 0] := by
  revert t
  decide +kernel

/-- and the window over the attention's result. -/
theorem index_heads (t : Fin grid0.N) :
    ![win0_3.index t 0, win0_3.index t 1, win0_3.index t 2, win0_3.index t 3] = ![t.val / 4, 0, t.val % 4, 0] := by
  revert t
  decide +kernel

/-- An index of a block of rows, placed in the array. -/
theorem emb_row (t : ℕ) (ht : t < 128) (s : Fin 512) (k : Fin 1024) (o : Fin 2 → ℕ) (i : S65536x1024.Idx) (h : ![o 0, o 1] = ![t, 0])
    (e : ∀ a, (i a).val = o a * S512x1024.size a + 1 * (ix2 s k a : Fin _).val) : i = ix2 ⟨t * 512 + s.val, by omega⟩ k := by
  have e0 := congrFun h 0
  have e1 := congrFun h 1
  simp at e0 e1
  funext a
  apply Fin.ext
  rw [e]
  match a with
  | ⟨0, _⟩ => show o 0 * 512 + 1 * s.val = t * 512 + s.val; rw [e0]; omega
  | ⟨1, _⟩ => show o 1 * 1024 + 1 * k.val = k.val; rw [e1]; omega

/-- An index of a block of the attention's result, placed in the array. -/
theorem emb_heads (t : ℕ) (ht : t < 128) (h8 : Fin 8) (s : Fin 512) (d : Fin 128) (o : Fin 4 → ℕ) (i : S32x8x2048x128.Idx)
    (h : ![o 0, o 1, o 2, o 3] = ![t / 4, 0, t % 4, 0])
    (e : ∀ a, (i a).val = o a * S1x8x512x128.size a + 1 * (ix4 (0 : Fin 1) h8 s d a : Fin _).val) :
    i = ix4 ⟨t / 4, by omega⟩ h8 ⟨t % 4 * 512 + s.val, by omega⟩ d := by
  have e0 := congrFun h 0
  have e1 := congrFun h 1
  have e2 := congrFun h 2
  have e3 := congrFun h 3
  simp at e0 e1 e2 e3
  funext a
  apply Fin.ext
  rw [e]
  match a with
  | ⟨0, _⟩ => show o 0 * 1 + 1 * 0 = t / 4; omega
  | ⟨1, _⟩ => show o 1 * 8 + 1 * h8.val = h8.val; rw [e1]; omega
  | ⟨2, _⟩ => show o 2 * 512 + 1 * s.val = t % 4 * 512 + s.val; rw [e2]; omega
  | ⟨3, _⟩ => show o 3 * 128 + 1 * d.val = d.val; rw [e3]; omega

theorem lt_N (t : Fin cfg0.N) : t.val < 128 := by
  have := t.isLt
  have hN : cfg0.N = 128 := N_0
  omega

section Blocks
variable (t : Fin cfg0.N) (s : Fin 512) (k : Fin 1024)

theorem iblk_0 : iblk m c 0 t (ix2 s k) = m ((c : Thread nD τ).loc main_arg0) (ix2 ⟨t.val * 512 + s.val, by have := lt_N t; omega⟩ k) :=
  (congrArg (V m c main_arg0) (emb_row t.val (lt_N t) s k (win0_0.index t) _ (index_rows t).1 fun _ => rfl)).trans (congrFun (V_main_arg0 m c) _)

theorem iblk_1 : iblk m c 1 t (ix2 s k) = m ((c : Thread nD τ).loc main_arg1) (ix2 ⟨t.val * 512 + s.val, by have := lt_N t; omega⟩ k) :=
  (congrArg (V m c main_arg1) (emb_row t.val (lt_N t) s k (win0_1.index t) _ (index_rows t).2.1 fun _ => rfl)).trans (congrFun (V_main_arg1 m c) _)

theorem iblk_2 : iblk m c 2 t (ix2 s k) = m ((c : Thread nD τ).loc main_arg2) (ix2 ⟨t.val * 512 + s.val, by have := lt_N t; omega⟩ k) :=
  (congrArg (V m c main_arg2) (emb_row t.val (lt_N t) s k (win0_2.index t) _ (index_rows t).2.2.1 fun _ => rfl)).trans (congrFun (V_main_arg2 m c) _)

theorem iblk_4 : iblk m c 4 t (ix2 s k) = m ((c : Thread nD τ).loc main_arg4) (ix2 ⟨t.val * 512 + s.val, by have := lt_N t; omega⟩ k) :=
  (congrArg (V m c main_arg4) (emb_row t.val (lt_N t) s k (win0_4.index t) _ (index_rows t).2.2.2.1 fun _ => rfl)).trans (congrFun (V_main_arg4 m c) _)

theorem iblk_5 : iblk m c 5 t (ix2 s k) = m ((c : Thread nD τ).loc main_arg5) (ix2 ⟨t.val * 512 + s.val, by have := lt_N t; omega⟩ k) :=
  (congrArg (V m c main_arg5) (emb_row t.val (lt_N t) s k (win0_5.index t) _ (index_rows t).2.2.2.2.1 fun _ => rfl)).trans (congrFun (V_main_arg5 m c) _)

theorem iblk_3 (h : Fin 8) (d : Fin 128) : iblk m c 3 t (ix4 (0 : Fin 1) h s d)
    = m ((c : Thread nD τ).loc main_arg3) (ix4 ⟨t.val / 4, by have := lt_N t; omega⟩ h ⟨t.val % 4 * 512 + s.val, by omega⟩ d) :=
  (congrArg (V m c main_arg3) (emb_heads t.val (lt_N t) h s d (win0_3.index t) _ (index_heads t) fun _ => rfl)).trans (congrFun (V_main_arg3 m c) _)

theorem iblk_6 (h : Fin 8) (i j : Fin 128) : iblk m c 6 t (ix3 h i j) = m ((c : Thread nD τ).loc main_arg6) (ix4 0 h i j) :=
  (congrArg (V m c main_v5) (emb_all (ix3 h i j : S8x128x128.Idx) _ ![0, 0, 0] (by decide) fun _ => rfl)).trans ((congrFun (host_mix m c) _).trans (mix_ix _ h i j))

theorem iblk_7 (i : Fin 128) : iblk m c 7 t (ix2 i k) = m ((c : Thread nD τ).loc main_arg7) (ix3 0 ⟨k.val / 128, by omega⟩ i) :=
  (congrArg (V m c main_v3) (emb_all (ix2 i k : S128x1024.Idx) _ ![0, 0] zero2 fun _ => rfl)).trans ((congrFun (host_bias m c) _).trans (bias_ix _ i k))

theorem iblk_8 (l : Fin 1024) : iblk m c 8 t (ix2 l k) = m ((c : Thread nD τ).loc main_arg8) (ix3 0 l k) :=
  (congrArg (V m c main_v7) (emb_all (ix2 l k : S1024x1024.Idx) _ ![0, 0] zero2 fun _ => rfl)).trans ((congrFun (host_a m c) _).trans (weight_ix _ l k))

theorem iblk_9 (l : Fin 1024) : iblk m c 9 t (ix2 l k) = m ((c : Thread nD τ).loc main_arg9) (ix3 0 l k) :=
  (congrArg (V m c main_v9) (emb_all (ix2 l k : S1024x1024.Idx) _ ![0, 0] zero2 fun _ => rfl)).trans ((congrFun (host_b m c) _).trans (weight_ix _ l k))

theorem iblk_10 (l : Fin 1024) : iblk m c 10 t (ix2 l k) = m ((c : Thread nD τ).loc main_arg10) (ix3 0 l k) :=
  (congrArg (V m c main_v11) (emb_all (ix2 l k : S1024x1024.Idx) _ ![0, 0] zero2 fun _ => rfl)).trans ((congrFun (host_o m c) _).trans (weight_ix _ l k))

theorem iblk_11 : iblk m c 11 t (ix2 (0 : Fin 1) k) = m ((c : Thread nD τ).loc main_arg11) (ix2 0 k) :=
  (congrArg (V m c main_arg11) (emb_all (ix2 (0 : Fin 1) k : S1x1024.Idx) _ ![0, 0] zero2 fun _ => rfl)).trans (congrFun (V_main_arg11 m c) _)

/-- The block of a grid point is the output array's part. -/
theorem block_ix : out0_12 (F := Ideal) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (ix2 s k)
    = outWhole m c (ix2 ⟨t.val * 512 + s.val, by have := lt_N t; omega⟩ k) := by
  have ht := lt_N t
  rw [out_ix _ _ _ _ _ _ _ _ _ _ _ _ (fun h => m ((c : Thread nD τ).loc main_arg7) (ix3 0 h ⟨s.val % 128, Nat.mod_lt _ (by decide)⟩)) s k fun l => iblk_7 m c t l _]
  unfold outWhole gateAt
  have e1 : (t.val * 512 + s.val) / 2048 = t.val / 4 := by omega
  have e2 : (t.val * 512 + s.val) % 2048 = t.val % 4 * 512 + s.val := by omega
  have e3 : (t.val * 512 + s.val) % 128 = s.val % 128 := by omega
  have e4 (j : ℕ) : (t.val * 512 + s.val) / 128 * 128 + j = t.val * 512 + (s.val / 128 * 128 + j) := by omega
  simp only [iblk_0, iblk_1, iblk_2, iblk_3, iblk_4, iblk_5, iblk_6, iblk_8, iblk_9, iblk_10, iblk_11]
  show gateRow _ _ _ _ _ _ _ _ _ _ _ _ _ = gateRow _ _ _ _ _ _ _ _ _ _ _ _ _
  simp only [e1, e2, e3, e4, ix2, ix4]

end Blocks

/-- What a grid point writes back is its part of the output array. -/
theorem flushed_eq (t : Fin cfg0.N) : (dats m 0 c).flushed 12 t = (win0_12.blk t).view.read (Elt Ideal) (outWhole m c) := by
  rw [flushed12]
  funext y
  have h := (index_rows t).2.2.2.2.2
  obtain ⟨s, k, hy⟩ : ∃ (s : Fin 512) (k : Fin 1024), y = ix2 s k := ⟨y 0, y 1, by funext a; fin_cases a <;> rfl⟩
  have e : (win0_12.blk t).view.read (Elt Ideal) (outWhole m c) y = outWhole m c (ix2 ⟨t.val * 512 + s.val, by have := lt_N t; omega⟩ k) := by
    subst hy
    exact congrArg (outWhole m c) (emb_row t.val (lt_N t) s k (win0_12.index t) _ h fun _ => rfl)
  rw [e, ← block_ix m c t s k, hy]
  rfl

/-- A row's index lies in the block of its grid point. -/
theorem mem_blk (t : Fin cfg0.N) (i : S65536x1024.Idx) (e : t.val = (i 0).val / 512) : i ∈ (win0_12.blk t).view.set := by
  show i ∈ ((View.whole main_v12).slice (win0_12.rect t)).set
  rw [View.set_slice_whole, Rect.mem_set_unit]
  have h := (index_rows t).2.2.2.2.2
  have e0 := congrFun h 0
  have e1 := congrFun h 1
  simp at e0 e1
  have h0 : (i 0).val < 65536 := (i 0).isLt
  have h1 : (i 1).val < 1024 := (i 1).isLt
  intro a
  match a with
  | ⟨0, _⟩ => show win0_12.index t 0 * 512 ≤ (i 0).val ∧ (i 0).val < win0_12.index t 0 * 512 + 512; omega
  | ⟨1, _⟩ => show win0_12.index t 1 * 1024 ≤ (i 1).val ∧ (i 1).val < win0_12.index t 1 * 1024 + 1024; omega

theorem cover (i : S65536x1024.Idx) : ∃ t : Fin cfg0.N, (cfg0.win 12).flush t = true ∧ i ∈ ((cfg0.win 12).blk t).view.set := by
  have h0 : (i 0).val < 65536 := (i 0).isLt
  have hN : cfg0.N = 128 := N_0
  exact ⟨⟨(i 0).val / 512, by omega⟩, flush0_12 _, mem_blk _ i rfl⟩

/-- After the last grid point the output array holds `outWhole`. -/
theorem final : (dats m 0 c).arrAt 12 cfg0.N = outWhole m c :=
  (dats m 0 c).arrAt_eq_of_cover 12 (outWhole m c) (fun t _ => flushed_eq m c t) cover

/-- The reference's result at an index, -/
theorem reference_ix (x : Vec Ideal S65536x1024 .f32) (uz vn : Vec Ideal S65536x1024 .bf16) (yb : Vec Ideal S32x8x2048x128 .bf16)
    (ga gb : Vec Ideal S65536x1024 .bf16) (A : Vec Ideal S1x8x128x128 .f32) (bs : Vec Ideal S1x8x128 .f32)
    (wa wb wo : Vec Ideal S1x1024x1024 .f32) (g : Vec Ideal S1x1024 .f32) (R : Fin 65536) (e : Fin 1024) :
    GateRef.normed x (GateRef.proj (GateRef.mixed uz vn A bs) (GateRef.joined yb) ga gb wa wb wo) g (ix2 R e)
      = gateAt x uz vn yb ga gb A bs wa wb wo g R e := by
  have hR : (⟨R.val / 2048 * 2048 + R.val % 2048, by omega⟩ : Fin 65536) = R := Fin.ext (by show R.val / 2048 * 2048 + R.val % 2048 = R.val; omega)
  have h := GateRef.normed_ix x (GateRef.proj (GateRef.mixed uz vn A bs) (GateRef.joined yb) ga gb wa wb wo) g
    ⟨R.val / 2048, by omega⟩ ⟨R.val % 2048, Nat.mod_lt _ (by decide)⟩ e
  simp only [GateRef.proj_ix, GateRef.mixed_ix, GateRef.joined_ix, hR] at h
  rw [h]
  unfold gateAt gateRow
  have e3 : R.val % 2048 % 128 = R.val % 128 := by omega
  have e4 (j : ℕ) : R.val / 2048 * 2048 + R.val % 2048 / 128 * 128 + j = R.val / 128 * 128 + j := by omega
  simp only [e3, e4]

/-- and so as a whole: it is the output array, if the arguments agree. -/
theorem same (m' : (ℓ : Loc Reference2Ideal.nD Reference2Ideal.τ Reference2Ideal.sig) → Buf (Elt Ideal) ℓ)
    (h : GateRef.normed (m ((c : Thread nD τ).loc main_arg0)) (GateRef.proj
      (GateRef.mixed (m ((c : Thread nD τ).loc main_arg1)) (m ((c : Thread nD τ).loc main_arg2)) (m ((c : Thread nD τ).loc main_arg6)) (m ((c : Thread nD τ).loc main_arg7)))
      (GateRef.joined (m ((c : Thread nD τ).loc main_arg3))) (m ((c : Thread nD τ).loc main_arg4)) (m ((c : Thread nD τ).loc main_arg5))
      (m ((c : Thread nD τ).loc main_arg8)) (m ((c : Thread nD τ).loc main_arg9)) (m ((c : Thread nD τ).loc main_arg10)))
      (m ((c : Thread nD τ).loc main_arg11)) = Reference2Ideal.Value.res_out0 m' c) :
    Reference2Ideal.Value.res_out0 m' c = outWhole m c := by
  rw [← h]
  funext y
  idx_vars y
  exact reference_ix _ _ _ _ _ _ _ _ _ _ _ _ _ _

end Cert.Gate

end
-- ==== Proof.ProjIx.lean ====
module

public import proofs.«01_k».proof.Proof.Gen.Kernel3Ideal.Value
public import Idealize.ShloMosaic.Lib.Pipeline.Value
public import Idealize.ShloMosaic.Lib.Pointwise

/-!
# The input projection's block, read at an index

The mathematics of one row: the RMS norm (`hRow`), one of the nine projections (`projAt`), the gates, the LayerNorm
(`lnRow`) and the rotation of the heads' lanes (`ropeRow`). The pieces of the block that the third kernel computes at a
grid point are these functions of the rows of its operands' blocks.
-/

@[expose] public section

set_option maxRecDepth 16384

noncomputable section

namespace Cert.InProj

open Cert.Kernel3Ideal Cert.Kernel3Ideal.Gen
open Idealize.ShloMosaic

/-- The RMS norm of a row with its scale, at a lane. -/
def hRow (a g : Fin 1024 → EReal) (k : Fin 1024) : EReal :=
  a k * Ideal.rsqrt (Ideal.div (∑ j : Fin 1024, a j * a j) (Ideal.ofBits .f32 0x44800000#32) + Ideal.ofBits .f32 0x358637BD#32) * g k

/-- Column `e` of a row's projection by the columns of the weights that start at `o`. -/
def projAt (h : Fin 1024 → EReal) (w : Fin 1024 → Fin 9216 → EReal) (o : ℕ) (ho : o + 1024 ≤ 9216) (e : Fin 1024) : EReal :=
  ∑ k : Fin 1024, h k * w k ⟨o + e.val, by omega⟩

/-- `x * sigmoid x` by the hyperbolic tangent. -/
def siluT (y : EReal) : EReal :=
  Ideal.ofBits .f32 0x3F000000#32 * y + Ideal.ofBits .f32 0x3F000000#32 * y * Ideal.tanh (Ideal.ofBits .f32 0x3F000000#32 * y)

/-- The sigmoid by the hyperbolic tangent. -/
def sigT (y : EReal) : EReal :=
  Ideal.ofBits .f32 0x3F000000#32 * Ideal.tanh (Ideal.ofBits .f32 0x3F000000#32 * y) + Ideal.ofBits .f32 0x3F000000#32

/-- A row without its mean. -/
def cenRow (v : Fin 1024 → EReal) (e : Fin 1024) : EReal :=
  v e - Ideal.div (∑ j : Fin 1024, v j) (Ideal.ofBits .f32 0x44800000#32)

/-- The LayerNorm of a row with its scale and shift, at a lane. -/
def lnRow (v g b : Fin 1024 → EReal) (e : Fin 1024) : EReal :=
  cenRow v e * Ideal.rsqrt (Ideal.div (∑ j : Fin 1024, cenRow v j * cenRow v j) (Ideal.ofBits .f32 0x44800000#32) + Ideal.ofBits .f32 0x358637BD#32)
    * g e + b e

/-- The lane that the rotation pairs with lane `d` of a head: the other half of the 64 lanes it lies in. -/
def pair (d : Fin 128) : Fin 128 := if d.val % 64 < 32 then ⟨(d.val + 32) % 128, Nat.mod_lt _ (by decide)⟩ else ⟨(d.val + 96) % 128, Nat.mod_lt _ (by decide)⟩

/-- The rotation of a head's lanes. -/
def ropeRow (p c s : Fin 128 → EReal) (d : Fin 128) : EReal := p d * c d + p (pair d) * s d

/-- The lanes of head `h` of a row. -/
def lanes (p : Fin 1024 → EReal) (h : Fin 8) (d : Fin 128) : EReal := p ⟨h.val * 128 + d.val, by omega⟩

/-- The norm of the first half of a block's rows. -/
theorem first_ix (x : FVec Ideal S256x1024 .f32) (g : FVec Ideal S1x1024 .f32) (s : Fin 256) (k : Fin 1024) :
    k0_pay2 (F := Ideal) x g (ix2 s k) = hRow (fun j => x (ix2 s j)) (fun j => g (ix2 0 j)) k := by
  pointwise [k0_pay2, hRow]

/-- The norm of the second half. -/
theorem second_ix (x : FVec Ideal S256x1024 .f32) (g : FVec Ideal S1x1024 .f32) (s : Fin 256) (k : Fin 1024) :
    k0_pay5 (F := Ideal) (k0_pay4 x) g (ix2 s k) = hRow (fun j => x (ix2 s j)) (fun j => g (ix2 0 j)) k := by
  pointwise [k0_pay5, k0_pay4, hRow]

/-- Two halves of a block put together, at an index. -/
theorem halves_ix (A B : FVec Ideal S256x1024 .bf16) (s : Fin 512) (k : Fin 1024) :
    concatenate S512x1024 0 [⟨S256x1024, A⟩, ⟨S256x1024, B⟩] concatenates_S256x1024_S256x1024_S512x1024_d0 (ix2 s k)
      = (![A, B] ⟨s.val / 256, by omega⟩) (ix2 ⟨s.val % 256, Nat.mod_lt _ (by decide)⟩ k) :=
  concatenate_ofFn_apply (t := S512x1024) (s₁ := S256x1024) 0 (fun h : Fin 2 => ![A, B] h) concatenates_S256x1024_S256x1024_S512x1024_d0 rfl 256 rfl
    (ix2 s k) ⟨s.val / 256, by omega⟩ rfl (ix2 ⟨s.val % 256, Nat.mod_lt _ (by decide)⟩ k) rfl
    (by intro b hb; fin_cases b <;> first | rfl | exact absurd rfl hb)

/-- The product of the normed rows and a block of the weights. -/
def prodBlk (h : FVec Ideal S512x1024 .bf16) (w : FVec Ideal S1024x1024 .bf16) : FVec Ideal S512x1024 .f32 :=
  matmul (F := Ideal) dot_S512x1024_S1024x1024_S512x1024_1_0_0_1_n_n none h (shapeCast S1024x1024 w shapeCasts_S1024x1024_S1024x1024)
    (constant S512x1024 .f32 0x00000000#32)

/-- A product of a block with one projection's weights, at an index. -/
theorem prodBlk_ix (h : FVec Ideal S512x1024 .bf16) (w : FVec Ideal S1024x1024 .bf16) (s : Fin 512) (e : Fin 1024) :
    prodBlk h w (ix2 s e) = ∑ k : Fin 1024, h (ix2 s k) * w (ix2 k e) := by
  pointwise [prodBlk]

/-- The gates of a block. -/
def siluBlk (p : FVec Ideal S512x1024 .f32) : FVec Ideal S512x1024 .f32 :=
  addf (mulf (broadcast S512x1024 (Scalar.ofBits (F := Ideal) .f32 0x3F000000#32)) p)
    (mulf (mulf (broadcast S512x1024 (Scalar.ofBits (F := Ideal) .f32 0x3F000000#32)) p)
      (tanh (mulf (broadcast S512x1024 (Scalar.ofBits (F := Ideal) .f32 0x3F000000#32)) p)))

/-- The sigmoid of a block, by the hyperbolic tangent. -/
def sigBlk (p : FVec Ideal S512x1024 .f32) : FVec Ideal S512x1024 .bf16 :=
  truncf .bf16 (addf (mulf (broadcast S512x1024 (Scalar.ofBits (F := Ideal) .f32 0x3F000000#32))
    (tanh (mulf (broadcast S512x1024 (Scalar.ofBits (F := Ideal) .f32 0x3F000000#32)) p)))
    (broadcast S512x1024 (Scalar.ofBits (F := Ideal) .f32 0x3F000000#32))) bitsLt_bf16_f32

/-- silu of a block, at an index. -/
theorem siluBlk_ix (p : FVec Ideal S512x1024 .f32) (s : Fin 512) (e : Fin 1024) : siluBlk p (ix2 s e) = siluT (p (ix2 s e)) := by
  pointwise [siluBlk, siluT]

/-- The sigmoid of a block, at an index. -/
theorem sigBlk_ix (p : FVec Ideal S512x1024 .f32) (s : Fin 512) (e : Fin 1024) : sigBlk p (ix2 s e) = sigT (p (ix2 s e)) := by
  pointwise [sigBlk, sigT]

/-- The gate of half a block's rows, as the kernel keeps it. -/
theorem half_ix (h : FVec Ideal S256x1024 .bf16) (w : FVec Ideal S1024x1024 .bf16) (s : Fin 256) (e : Fin 1024) :
    matmul (F := Ideal) dot_S256x1024_S1024x1024_S256x1024_1_0_0_1_n_n none h (shapeCast S1024x1024 w shapeCasts_S1024x1024_S1024x1024)
      (constant S256x1024 .f32 0x00000000#32) (ix2 s e) = ∑ k : Fin 1024, h (ix2 s k) * w (ix2 k e) := by
  pointwise

/-- What the scratch holds on the first half of the rows, at an index. -/
theorem keepFirst_ix (x : FVec Ideal S256x1024 .f32) (g : FVec Ideal S1x1024 .f32) (w : FVec Ideal S1024x1024 .bf16) (s : Fin 256) (e : Fin 1024) :
    k0_pay3 (F := Ideal) x g w (ix2 s e)
      = siluT (∑ k : Fin 1024, hRow (fun j => x (ix2 s j)) (fun j => g (ix2 0 j)) k * w (ix2 k e)) := by
  simp only [← first_ix, ← half_ix]
  pointwise [k0_pay3, siluT]

/-- What the scratch holds on the second half of the rows, at an index. -/
theorem keepSecond_ix (x : FVec Ideal S256x1024 .f32) (g : FVec Ideal S1x1024 .f32) (w : FVec Ideal S1024x1024 .bf16) (s : Fin 256) (e : Fin 1024) :
    k0_pay6 (F := Ideal) (k0_pay4 x) g w (ix2 s e)
      = siluT (∑ k : Fin 1024, hRow (fun j => x (ix2 s j)) (fun j => g (ix2 0 j)) k * w (ix2 k e)) := by
  simp only [← second_ix, ← half_ix]
  pointwise [k0_pay6, siluT]

/-- The lanes of one head of a block, with the unit axes of the result's block. -/
def headBlk (X : FVec Ideal S512x1024 .bf16) (o : ℕ) (hs : S512x1024.Slices ![0, o] S512x128) : FVec Ideal S1x1x512x128 .bf16 :=
  shapeCast S1x1x512x128 (extractStridedSlice S512x128 ![0, o] X hs) shapeCasts_S512x128_S1x1x512x128

/-- One head's lanes of a block, at an index. -/
theorem headBlk_ix (X : FVec Ideal S512x1024 .bf16) (o : ℕ) (ho : o + 128 ≤ 1024) (hs : S512x1024.Slices ![0, o] S512x128) (s : Fin 512) (d : Fin 128) :
    headBlk X o hs (ix4 0 0 s d) = X (ix2 s ⟨o + d.val, by omega⟩) := by
  pointwise [headBlk]

/-- The rotated lanes of one head. -/
def ropeBlk (p c s : FVec Ideal S512x128 .f32) : FVec Ideal S512x128 .f32 :=
  addf (mulf p c) (mulf (select (k0_pay41) (dynamicRotate 1 96#32 none p rotates_S512x128_d1) (dynamicRotate 1 32#32 none p rotates_S512x128_d1)) s)

/-- The rotation of one head's block, at an index. -/
theorem ropeBlk_ix (p c s : FVec Ideal S512x128 .f32) (t : Fin 512) (d : Fin 128) :
    ropeBlk p c s (ix2 t d) = ropeRow (fun l => p (ix2 t l)) (fun l => c (ix2 t l)) (fun l => s (ix2 t l)) d := by
  have hd : ∀ d : Fin 128, IntOp.cmpi .eq (IntOp.andi (BitVec.ofNat 32 d.val) 32#32) 0#32 = if d.val % 64 < 32 then 1#1 else 0#1 := by
    decide +kernel
  pointwise [ropeBlk, k0_pay41, ropeRow, pair]
  rw [hd]
  congr 2
  by_cases h : d.val % 64 < 32
  · simp only [h, if_true, Scalar.select]
    exact congrArg p (congrArg (ix2 t) (Fin.ext (show (d.val + 128 - 96) % 128 = (d.val + 32) % 128 by omega)))
  · simp only [h, if_false, Scalar.select]
    exact congrArg p (congrArg (ix2 t) (Fin.ext (show (d.val + 128 - 32) % 128 = (d.val + 96) % 128 by omega)))

/-- A LayerNorm of the rows of a slab. -/
def lnBlk (v : FVec Ideal S128x1024 .f32) (g b : FVec Ideal S1x1024 .f32) : FVec Ideal S128x1024 .bf16 :=
  have m := subf v (broadcastTo S128x1024 (divf (shapeCast S128x1 (multiReduction .add [1] S128 v 0x00000000#32 reduces_S128x1024_S128 (.inl rfl) rfl) shapeCasts_S128_S128x1)
    (broadcast S128x1 (Scalar.ofBits (F := Ideal) .f32 0x44800000#32))) broadcasts_S128x1_S128x1024)
  truncf .bf16 (addf (mulf (mulf m (broadcastTo S128x1024 (rsqrt (addf (divf (shapeCast S128x1
    (multiReduction .add [1] S128 (mulf m m) 0x00000000#32 reduces_S128x1024_S128 (.inl rfl) rfl) shapeCasts_S128_S128x1)
    (broadcast S128x1 (Scalar.ofBits (F := Ideal) .f32 0x44800000#32))) (broadcast S128x1 (Scalar.ofBits (F := Ideal) .f32 0x358637BD#32))))
    broadcasts_S128x1_S128x1024)) (broadcastTo S128x1024 g broadcasts_S1x1024_S128x1024)) (broadcastTo S128x1024 b broadcasts_S1x1024_S128x1024)) bitsLt_bf16_f32

/-- The LayerNorm of 128 rows, at an index. -/
theorem lnBlk_ix (v : FVec Ideal S128x1024 .f32) (g b : FVec Ideal S1x1024 .f32) (s : Fin 128) (e : Fin 1024) :
    lnBlk v g b (ix2 s e) = lnRow (fun j => v (ix2 s j)) (fun j => g (ix2 0 j)) (fun j => b (ix2 0 j)) e := by
  pointwise [lnBlk, lnRow, cenRow]

end Cert.InProj

end
-- ==== Proof.ProjPiece.lean ====
module

public import proofs.«01_k».proof.Proof.ProjIx
public import Idealize.ShloMosaic.Lib.Pipeline.ReadBack

/-!
# What the input projection's body writes

The eight blocks that the third kernel's body leaves, from its operands' blocks: each is one function of the rows, whatever
the pieces in which it was stored.
-/

@[expose] public section

set_option maxRecDepth 16384

noncomputable section

namespace Cert.InProj

open Cert.Kernel3Ideal Cert.Kernel3Ideal.Gen
open Idealize.ShloMosaic

/-- The normed rows of a block. -/
def hBlk (x0 : Vec Ideal S512x1024 .f32) (x1 : Vec Ideal S1x1024 .f32) : FVec Ideal S512x1024 .bf16 :=
  k0_pay7 (F := Ideal) (k0_pay2 (F := Ideal) (View.ld x0 (Rect.unit ![0, 0] S256x1024.size inb_S512x1024_S256x1024_0_0)) (View.ld x1 (Rect.unit ![0, 0] S1x1024.size inb_S1x1024_S1x1024_0_0)))
    (k0_pay4 (F := Ideal) (View.ld x0 (Rect.unit ![256, 0] S256x1024.size inb_S512x1024_S256x1024_256_0)))
    (View.ld x1 (Rect.unit ![0, 0] S1x1024.size inb_S1x1024_S1x1024_0_0))

/-- The two zero offsets. -/
theorem zero2 : (![0, 0] : Fin 2 → ℕ) = fun _ => 0 := by funext a; fin_cases a <;> rfl

/-- A load of rows of a block, at an index. -/
theorem rows_ix (x : Vec Ideal S512x1024 .f32) (o : ℕ) (ho : o + 256 ≤ 512) (inb : ∀ a, (![o, 0] : Fin 2 → ℕ) a + S256x1024.size a ≤ S512x1024.size a)
    (s : Fin 256) (k : Fin 1024) :
    View.ld x (Rect.unit ![o, 0] S256x1024.size inb) (ix2 s k) = x (ix2 ⟨o + s.val, by omega⟩ k) :=
  congrArg x (by funext a; apply Fin.ext; fin_cases a <;> show _ + 1 * _ = _ <;> simp)

/-- The normed block at an index. -/
theorem hBlk_ix (x0 : Vec Ideal S512x1024 .f32) (x1 : Vec Ideal S1x1024 .f32) (s : Fin 512) (k : Fin 1024) :
    hBlk x0 x1 (ix2 s k) = hRow (fun j => x0 (ix2 s j)) (fun j => x1 (ix2 0 j)) k := by
  unfold hBlk
  rw [View.ld_unit_zero zero2]
  refine (halves_ix _ _ s k).trans ?_
  have hs := s.isLt
  by_cases h : s.val < 256
  · have e : (⟨s.val / 256, by omega⟩ : Fin 2) = 0 := Fin.ext (by show s.val / 256 = 0; omega)
    have e2 : (⟨0 + s.val % 256, by omega⟩ : Fin 512) = s := Fin.ext (by show 0 + s.val % 256 = s.val; omega)
    rw [e]
    refine (first_ix _ x1 ⟨s.val % 256, Nat.mod_lt _ (by decide)⟩ k).trans ?_
    simp only [rows_ix x0 0 (by decide) inb_S512x1024_S256x1024_0_0, e2]
  · have e : (⟨s.val / 256, by omega⟩ : Fin 2) = 1 := Fin.ext (by show s.val / 256 = 1; omega)
    have e2 : (⟨256 + s.val % 256, by omega⟩ : Fin 512) = s := Fin.ext (by show 256 + s.val % 256 = s.val; omega)
    rw [e]
    refine (second_ix _ x1 ⟨s.val % 256, Nat.mod_lt _ (by decide)⟩ k).trans ?_
    simp only [rows_ix x0 256 (by decide) inb_S512x1024_S256x1024_256_0, e2]

/-- A block of the weights' columns. -/
def wBlk (x2 : Vec Ideal S1024x9216 .bf16) (o : ℕ) (inb : ∀ a, (![0, o] : Fin 2 → ℕ) a + S1024x1024.size a ≤ S1024x9216.size a) : FVec Ideal S1024x1024 .bf16 :=
  View.ld x2 (Rect.unit ![0, o] S1024x1024.size inb)

/-- One projection's weights at an index. -/
theorem wBlk_ix (x2 : Vec Ideal S1024x9216 .bf16) (o : ℕ) (ho : o + 1024 ≤ 9216) (inb) (k e : Fin 1024) :
    wBlk x2 o inb (ix2 k e) = x2 (ix2 k ⟨o + e.val, by omega⟩) :=
  congrArg x2 (by funext a; apply Fin.ext; fin_cases a <;> show _ + 1 * _ = _ <;> simp)

/-- A projection of a block's rows. -/
def pBlk (x0 : Vec Ideal S512x1024 .f32) (x1 : Vec Ideal S1x1024 .f32) (x2 : Vec Ideal S1024x9216 .bf16) (o : ℕ)
    (inb : ∀ a, (![0, o] : Fin 2 → ℕ) a + S1024x1024.size a ≤ S1024x9216.size a) : FVec Ideal S512x1024 .f32 := prodBlk (hBlk x0 x1) (wBlk x2 o inb)

/-- The same of a row. -/
def pRow (x0 : Vec Ideal S512x1024 .f32) (x1 : Vec Ideal S1x1024 .f32) (x2 : Vec Ideal S1024x9216 .bf16) (o : ℕ) (ho : o + 1024 ≤ 9216) (s : Fin 512) (e : Fin 1024) : EReal :=
  projAt (hRow (fun j => x0 (ix2 s j)) (fun j => x1 (ix2 0 j))) (fun k c => x2 (ix2 k c)) o ho e

/-- One projection of the block at an index. -/
theorem pBlk_ix (x0 : Vec Ideal S512x1024 .f32) (x1 : Vec Ideal S1x1024 .f32) (x2 : Vec Ideal S1024x9216 .bf16) (o : ℕ) (ho : o + 1024 ≤ 9216) (inb) (s : Fin 512) (e : Fin 1024) :
    pBlk x0 x1 x2 o inb (ix2 s e) = pRow x0 x1 x2 o ho s e := by
  unfold pBlk pRow projAt
  rw [prodBlk_ix]
  simp only [hBlk_ix, wBlk_ix x2 o ho]

/-- A block by heads, from its elements; and the pieces it may be stored in. -/
def headsOf (G : Fin 512 → Fin 8 → Fin 128 → EReal) : S1x8x512x128.Idx → EReal := fun i => G (i 2) (i 1) (i 3)

/-- A store of one head agrees with the array given by heads, if its values do. -/
theorem head_piece (G : Fin 512 → Fin 8 → Fin 128 → EReal) (w : FVec Ideal S1x1x512x128 .bf16) (h : Fin 8)
    (inb : ∀ a, (![0, h.val, 0, 0] : Fin 4 → ℕ) a + S1x1x512x128.size a ≤ S1x8x512x128.size a) (hw : ∀ s d, w (ix4 0 0 s d) = G s h d)
    (x : S1x1x512x128.Idx) : w x = headsOf G ((Rect.unit (s := S1x8x512x128) ![0, h.val, 0, 0] S1x1x512x128.size inb).emb x) := by
  have ex : x = ix4 0 0 (x 2) (x 3) := by
    funext a
    fin_cases a
    · exact Subsingleton.elim (α := Fin 1) _ _
    · exact Subsingleton.elim (α := Fin 1) _ _
    · rfl
    · rfl
  have e1 : (x 1).val = 0 := by have : (x 1).val < 1 := (x 1).isLt; omega
  refine (congrArg w ex).trans ((hw (x 2) (x 3)).trans ?_)
  unfold headsOf
  have h2 : ((Rect.unit (s := S1x8x512x128) ![0, h.val, 0, 0] S1x1x512x128.size inb).emb x) 2 = x 2 := Fin.ext (by show 0 + 1 * (x 2).val = (x 2).val; omega)
  have h1 : ((Rect.unit (s := S1x8x512x128) ![0, h.val, 0, 0] S1x1x512x128.size inb).emb x) 1 = h := Fin.ext (by show h.val + 1 * (x 1).val = h.val; omega)
  have h3 : ((Rect.unit (s := S1x8x512x128) ![0, h.val, 0, 0] S1x1x512x128.size inb).emb x) 3 = x 3 := Fin.ext (by show 0 + 1 * (x 3).val = (x 3).val; omega)
  rw [h1, h2, h3]

/-- A block of rows, from its elements; and the slabs it may be stored in. -/
def rowsOf (G : Fin 512 → Fin 1024 → EReal) : S512x1024.Idx → EReal := fun i => G (i 0) (i 1)

/-- A store of some rows agrees with the array given by rows, if its values do. -/
theorem slab_piece (n : ℕ) (ty : FTy) (G : Fin 512 → Fin 1024 → EReal) (w : FVec Ideal ⟨2, ![n, 1024]⟩ ty) (o : ℕ) (ho : o + n ≤ 512)
    (inb : ∀ a, (![o, 0] : Fin 2 → ℕ) a + (![n, 1024] : Fin 2 → ℕ) a ≤ S512x1024.size a) (hw : ∀ (s : Fin n) e, w (ix2 s e) = G ⟨o + s.val, by omega⟩ e)
    (x : (⟨2, ![n, 1024]⟩ : Shape).Idx) : w x = rowsOf G ((Rect.unit (s := S512x1024) ![o, 0] ![n, 1024] inb).emb x) := by
  have ex : x = ix2 (x 0) (x 1) := by
    funext a
    fin_cases a <;> rfl
  refine (congrArg w ex).trans ((hw (x 0) (x 1)).trans ?_)
  unfold rowsOf
  have h0 : ((Rect.unit (s := S512x1024) ![o, 0] ![n, 1024] inb).emb x) 0 = (⟨o + (x 0).val, by have : (x 0).val < n := (x 0).isLt; omega⟩ : Fin 512) :=
    Fin.ext (by show o + 1 * (x 0).val = o + (x 0).val; rw [one_mul])
  have h1 : ((Rect.unit (s := S512x1024) ![o, 0] ![n, 1024] inb).emb x) 1 = x 1 := Fin.ext (by show 0 + 1 * (x 1).val = (x 1).val; omega)
  rw [h0, h1]

/-- One head's piece of the rotated queries, and of the rotated keys. -/
def qPiece (P : FVec Ideal S512x1024 .f32) (c s : FVec Ideal S512x128 .f32) (o : ℕ) (hs : S512x1024.Slices ![0, o] S512x128) : FVec Ideal S1x1x512x128 .bf16 :=
  shapeCast S1x1x512x128 (truncf .bf16 (mulf (ropeBlk (extractStridedSlice S512x128 ![0, o] P hs) c s)
    (broadcast S512x128 (Scalar.ofBits (F := Ideal) .f32 0x3E38AA3B#32))) bitsLt_bf16_f32) shapeCasts_S512x128_S1x1x512x128

/-- The rotated keys of one head. -/
def kPiece (P : FVec Ideal S512x1024 .f32) (c s : FVec Ideal S512x128 .f32) (o : ℕ) (hs : S512x1024.Slices ![0, o] S512x128) : FVec Ideal S1x1x512x128 .bf16 :=
  shapeCast S1x1x512x128 (truncf .bf16 (ropeBlk (extractStridedSlice S512x128 ![0, o] P hs) c s) bitsLt_bf16_f32) shapeCasts_S512x128_S1x1x512x128

/-- One head's lanes at an index. -/
theorem slice_ix (P : FVec Ideal S512x1024 .f32) (o : ℕ) (ho : o + 128 ≤ 1024) (hs : S512x1024.Slices ![0, o] S512x128) (t : Fin 512) (d : Fin 128) :
    extractStridedSlice S512x128 ![0, o] P hs (ix2 t d) = P (ix2 t ⟨o + d.val, by omega⟩) := by
  pointwise

/-- Two unit axes in front, at an index. -/
theorem unitAxes_ix (w : FVec Ideal S512x128 .bf16) (t : Fin 512) (d : Fin 128) :
    shapeCast S1x1x512x128 w shapeCasts_S512x128_S1x1x512x128 (ix4 0 0 t d) = w (ix2 t d) := by
  pointwise

/-- The stored queries of one head, at an index. -/
theorem qPiece_ix (P : FVec Ideal S512x1024 .f32) (c s : FVec Ideal S512x128 .f32) (h : Fin 8) (hs) (t : Fin 512) (d : Fin 128) :
    qPiece P c s (h.val * 128) hs (ix4 0 0 t d) = ropeRow (lanes (fun l => P (ix2 t l)) h) (fun l => c (ix2 t l)) (fun l => s (ix2 t l)) d * Ideal.ofBits .f32 0x3E38AA3B#32 := by
  refine (unitAxes_ix _ t d).trans ?_
  show ropeBlk _ c s (ix2 t d) * _ = _
  rw [ropeBlk_ix]
  simp only [slice_ix P (h.val * 128) (by omega)]
  rfl

/-- The stored keys of one head, at an index. -/
theorem kPiece_ix (P : FVec Ideal S512x1024 .f32) (c s : FVec Ideal S512x128 .f32) (h : Fin 8) (hs) (t : Fin 512) (d : Fin 128) :
    kPiece P c s (h.val * 128) hs (ix4 0 0 t d) = ropeRow (lanes (fun l => P (ix2 t l)) h) (fun l => c (ix2 t l)) (fun l => s (ix2 t l)) d := by
  refine (unitAxes_ix _ t d).trans ?_
  show ropeBlk _ c s (ix2 t d) = _
  rw [ropeBlk_ix]
  simp only [slice_ix P (h.val * 128) (by omega)]
  rfl

/-- The stored lanes of one head, at an index. -/
theorem plainPiece_ix (X : FVec Ideal S512x1024 .bf16) (h : Fin 8) (hs) (t : Fin 512) (d : Fin 128) :
    headBlk X (h.val * 128) hs (ix4 0 0 t d) = lanes (fun l => X (ix2 t l)) h d :=
  headBlk_ix X (h.val * 128) (by omega) hs t d

/-- A slab of the LayerNorm. -/
theorem lnPiece_ix (V : FVec Ideal S512x1024 .f32) (g b : FVec Ideal S1x1024 .f32) (o : ℕ) (ho : o + 128 ≤ 512) (hs : S512x1024.Slices ![o, 0] S128x1024) (s : Fin 128) (e : Fin 1024) :
    lnBlk (extractStridedSlice S128x1024 ![o, 0] V hs) g b (ix2 s e)
      = lnRow (fun j => V (ix2 ⟨o + s.val, by omega⟩ j)) (fun j => g (ix2 0 j)) (fun j => b (ix2 0 j)) e := by
  have h (j : Fin 1024) : extractStridedSlice S128x1024 ![o, 0] V hs (ix2 s j) = V (ix2 ⟨o + s.val, by omega⟩ j) := by pointwise
  rw [lnBlk_ix]
  simp only [h]

end Cert.InProj

end
-- ==== Proof.ProjOut.lean ====
module

public import proofs.«01_k».proof.Proof.ProjPiece

/-!
# The eight blocks that the input projection's body leaves

Each result's block of a grid point as one function of the operands' blocks, from the stores that the body makes: whole blocks
for the gates, four slabs of rows for the LayerNorm, and a store for each head for the rest.
-/

@[expose] public section

set_option maxRecDepth 16384

noncomputable section

namespace Cert.InProj

open Cert.Kernel3Ideal Cert.Kernel3Ideal.Gen
open Idealize.ShloMosaic

/-- A head's lanes lie inside a row. -/
theorem slices_head (h : Fin 8) : S512x1024.Slices ![0, h.val * 128] S512x128 := by
  fin_cases h
  · exact slices_S512x1024_o0_0_S512x128
  · exact slices_S512x1024_o0_128_S512x128
  · exact slices_S512x1024_o0_256_S512x128
  · exact slices_S512x1024_o0_384_S512x128
  · exact slices_S512x1024_o0_512_S512x128
  · exact slices_S512x1024_o0_640_S512x128
  · exact slices_S512x1024_o0_768_S512x128
  · exact slices_S512x1024_o0_896_S512x128

/-- A head's piece lies inside the block. -/
theorem inb_head (h : Fin 8) : ∀ a, (![0, h.val, 0, 0] : Fin 4 → ℕ) a + S1x1x512x128.size a ≤ S1x8x512x128.size a := by
  revert h
  decide

/-- The MLP's product of a block: the input's part times the gate. -/
def uzBlk (p z : FVec Ideal S512x1024 .f32) : FVec Ideal S512x1024 .bf16 := truncf .bf16 (mulf p z) bitsLt_bf16_f32

/-- A load of a whole operand. -/
def tileOf (x : Vec Ideal S512x128 .f32) : FVec Ideal S512x128 .f32 := View.ld x (Rect.unit ![0, 0] S512x128.size inb_S512x128_S512x128_0_0)

/-- Loading a whole table gives the table. -/
theorem tileOf_eq (x : Vec Ideal S512x128 .f32) : tileOf x = x := by unfold tileOf; exact View.ld_unit_zero zero2 _ _

/-- The load of a whole vector over the lanes. -/
def rowOf (x : Vec Ideal S1x1024 .f32) : FVec Ideal S1x1024 .f32 := View.ld x (Rect.unit ![0, 0] S1x1024.size inb_S1x1024_S1x1024_0_0)

/-- Loading a whole vector gives the vector. -/
theorem rowOf_eq (x : Vec Ideal S1x1024 .f32) : rowOf x = x := by unfold rowOf; exact View.ld_unit_zero zero2 _ _

/-- The loaded cosines at an index. -/
theorem heldCos_ix (x : FVec Ideal S512x128 .f32) (t : Fin 512) (d : Fin 128) : k0_pay39 (F := Ideal) x (ix2 t d) = x (ix2 t d) := by
  pointwise [k0_pay39]

/-- The loaded sines at an index. -/
theorem heldSin_ix (x : FVec Ideal S512x128 .f32) (t : Fin 512) (d : Fin 128) : k0_pay40 (F := Ideal) x (ix2 t d) = x (ix2 t d) := by
  pointwise [k0_pay40]

/-- Rounding changes nothing at ideal floats. -/
theorem truncf_ix (X : FVec Ideal S512x1024 .f32) (s : Fin 512) (e : Fin 1024) :
    (truncf .bf16 X bitsLt_bf16_f32 : FVec Ideal S512x1024 .bf16) (ix2 s e) = X (ix2 s e) := rfl

variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x9216 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S1x8x512x128 .bf16) (harg10 : arg10.IsWhole) (arg11 : Memref sig .tc .vmem S1x8x512x128 .bf16) (harg11 : arg11.IsWhole) (arg12 : Memref sig .tc .vmem S1x8x512x128 .bf16) (harg12 : arg12.IsWhole) (arg13 : Memref sig .tc .vmem S1x8x512x128 .bf16) (harg13 : arg13.IsWhole) (arg14 : Memref sig .tc .vmem S512x1024 .bf16) (harg14 : arg14.IsWhole) (arg15 : Memref sig .tc .vmem S512x1024 .bf16) (harg15 : arg15.IsWhole) (arg16 : Memref sig .tc .vmem S512x1024 .f32) (harg16 : arg16.IsWhole)
  (x0 : Vec Ideal S512x1024 .f32) (x1 : Vec Ideal S1x1024 .f32) (x2 : Vec Ideal S1024x9216 .bf16) (x3 : Vec Ideal S1x1024 .f32) (x4 : Vec Ideal S1x1024 .f32) (x5 : Vec Ideal S512x128 .f32) (x6 : Vec Ideal S512x128 .f32)

/-- The first branch's gate. -/
theorem out13_eq : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6
    = sigBlk (pBlk x0 x1 x2 7168 inb_S1024x9216_S1024x1024_0_7168) := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6)]
  unfold kernelRun0_A
  dsimp only
  refine (View.canon_unit_zero zero2 _ _).trans ?_
  simp only [kernelRun0_A.sl.r, kernelRun0_A.sl.r_1, kernelRun0_A.sl.r_2, kernelRun0_A.sl.r_3, View.readAt_eq_ld, Memref.IsWhole.read_unread]
  rfl

/-- The second branch's gate. -/
theorem out14_eq : out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6
    = sigBlk (pBlk x0 x1 x2 8192 inb_S1024x9216_S1024x1024_0_8192) := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6)]
  unfold kernelRun0_A
  dsimp only
  refine (View.canon_unit_zero zero2 _ _).trans ?_
  simp only [kernelRun0_A.sl.r, kernelRun0_A.sl.r_1, kernelRun0_A.sl.r_2, kernelRun0_A.sl.r_3, View.readAt_eq_ld, Memref.IsWhole.read_unread]
  rfl

/-- The attention's gate, by heads. -/
theorem out12_eq : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6
    = headsOf (fun s h d => lanes (fun l => siluT (pRow x0 x1 x2 6144 (by decide) s l)) h d) := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6)]
  funext y
  refine View.canon_apply_of_pieces _ _ (View.PiecesOf.mem ?_) y (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 y)
  unfold kernelRun0_A
  dsimp only
  simp only [kernelRun0_A.sl.r_11, kernelRun0_A.sl.r_10, kernelRun0_A.sl.r, kernelRun0_A.sl.r_1, kernelRun0_A.sl.r_2, kernelRun0_A.sl.r_3, View.readAt_eq_ld, Memref.IsWhole.read_unread]
  have piece := fun h : Fin 8 => head_piece (fun s h d => lanes (fun l => siluT (pRow x0 x1 x2 6144 (by decide) s l)) h d) _ h (inb_head h) (fun s d => (plainPiece_ix (truncf .bf16 (siluBlk (pBlk x0 x1 x2 6144 inb_S1024x9216_S1024x1024_0_6144)) bitsLt_bf16_f32) h (slices_head h) s d).trans (by simp only [truncf_ix, siluBlk_ix, pBlk_ix _ _ _ 6144 (by decide)]))
  exact ⟨piece 7, piece 6, piece 5, piece 4, piece 3, piece 2, piece 1, piece 0, trivial⟩

/-- The attention's values, by heads. -/
theorem out11_eq : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6
    = headsOf (fun s h d => lanes (pRow x0 x1 x2 5120 (by decide) s) h d) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6)]
  funext y
  refine View.canon_apply_of_pieces _ _ (View.PiecesOf.mem ?_) y (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 y)
  unfold kernelRun0_A
  dsimp only
  simp only [kernelRun0_A.sl.r_12, kernelRun0_A.sl.r_13, kernelRun0_A.sl.r, kernelRun0_A.sl.r_1, kernelRun0_A.sl.r_2, kernelRun0_A.sl.r_3, View.readAt_eq_ld, Memref.IsWhole.read_unread]
  have piece := fun h : Fin 8 => head_piece (fun s h d => lanes (pRow x0 x1 x2 5120 (by decide) s) h d) _ h (inb_head h) (fun s d => (plainPiece_ix (truncf .bf16 (pBlk x0 x1 x2 5120 inb_S1024x9216_S1024x1024_0_5120) bitsLt_bf16_f32) h (slices_head h) s d).trans (by simp only [truncf_ix, pBlk_ix _ _ _ 5120 (by decide)]))
  exact ⟨piece 7, piece 6, piece 5, piece 4, piece 3, piece 2, piece 1, piece 0, trivial⟩

/-- The attention's queries, by heads. -/
theorem out9_eq : out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6
    = headsOf (fun s h d => ropeRow (lanes (pRow x0 x1 x2 3072 (by decide) s) h) (fun l => x5 (ix2 s l)) (fun l => x6 (ix2 s l)) d * Ideal.ofBits .f32 0x3E38AA3B#32) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6)]
  funext y
  refine View.canon_apply_of_pieces _ _ (View.PiecesOf.mem ?_) y (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 y)
  unfold kernelRun0_A
  dsimp only
  simp only [kernelRun0_A.sl.r_22, kernelRun0_A.sl.r_21, kernelRun0_A.sl.r_20, kernelRun0_A.sl.r_19, kernelRun0_A.sl.r_18, kernelRun0_A.sl.r_17, kernelRun0_A.sl.r_16, kernelRun0_A.sl.r_15, kernelRun0_A.sl.r_14, kernelRun0_A.sl.r, kernelRun0_A.sl.r_1, kernelRun0_A.sl.r_2, kernelRun0_A.sl.r_3, View.readAt_eq_ld, Memref.IsWhole.read_unread]
  have piece := fun h : Fin 8 => head_piece (fun s h d => ropeRow (lanes (pRow x0 x1 x2 3072 (by decide) s) h) (fun l => x5 (ix2 s l)) (fun l => x6 (ix2 s l)) d * Ideal.ofBits .f32 0x3E38AA3B#32) _ h (inb_head h) (fun s d => (qPiece_ix (pBlk x0 x1 x2 3072 inb_S1024x9216_S1024x1024_0_3072) (k0_pay39 (F := Ideal) (tileOf x5)) (k0_pay40 (F := Ideal) (tileOf x6)) h (slices_head h) s d).trans (by simp only [pBlk_ix _ _ _ 3072 (by decide), heldCos_ix, heldSin_ix, tileOf_eq]))
  exact ⟨piece 7, piece 6, piece 5, piece 4, piece 3, piece 2, piece 1, piece 0, trivial⟩

/-- The attention's keys, by heads. -/
theorem out10_eq : out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6
    = headsOf (fun s h d => ropeRow (lanes (pRow x0 x1 x2 4096 (by decide) s) h) (fun l => x5 (ix2 s l)) (fun l => x6 (ix2 s l)) d) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6)]
  funext y
  refine View.canon_apply_of_pieces _ _ (View.PiecesOf.mem ?_) y (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 y)
  unfold kernelRun0_A
  dsimp only
  simp only [kernelRun0_A.sl.r_25, kernelRun0_A.sl.r_24, kernelRun0_A.sl.r_23, kernelRun0_A.sl.r_22, kernelRun0_A.sl.r_21, kernelRun0_A.sl.r_20, kernelRun0_A.sl.r_19, kernelRun0_A.sl.r_18, kernelRun0_A.sl.r_17, kernelRun0_A.sl.r_16, kernelRun0_A.sl.r_15, kernelRun0_A.sl.r_14, kernelRun0_A.sl.r, kernelRun0_A.sl.r_1, kernelRun0_A.sl.r_2, kernelRun0_A.sl.r_3, View.readAt_eq_ld, Memref.IsWhole.read_unread]
  have piece := fun h : Fin 8 => head_piece (fun s h d => ropeRow (lanes (pRow x0 x1 x2 4096 (by decide) s) h) (fun l => x5 (ix2 s l)) (fun l => x6 (ix2 s l)) d) _ h (inb_head h) (fun s d => (kPiece_ix (pBlk x0 x1 x2 4096 inb_S1024x9216_S1024x1024_0_4096) (k0_pay39 (F := Ideal) (tileOf x5)) (k0_pay40 (F := Ideal) (tileOf x6)) h (slices_head h) s d).trans (by simp only [pBlk_ix _ _ _ 4096 (by decide), heldCos_ix, heldSin_ix, tileOf_eq]))
  exact ⟨piece 7, piece 6, piece 5, piece 4, piece 3, piece 2, piece 1, piece 0, trivial⟩

/-- The LayerNorm. -/
theorem out8_eq : out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6
    = rowsOf (fun s e => lnRow (pRow x0 x1 x2 1024 (by decide) s) (fun j => x3 (ix2 0 j)) (fun j => x4 (ix2 0 j)) e) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6)]
  funext y
  refine View.canon_apply_of_pieces _ _ (View.PiecesOf.mem ?_) y (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 y)
  unfold kernelRun0_A
  dsimp only
  simp only [kernelRun0_A.sl.r_9, kernelRun0_A.sl.r_8, kernelRun0_A.sl.r_7, kernelRun0_A.sl.r_6, kernelRun0_A.sl.r_5, kernelRun0_A.sl.r_4, kernelRun0_A.sl.r, kernelRun0_A.sl.r_1, kernelRun0_A.sl.r_2, View.readAt_eq_ld, Memref.IsWhole.read_unread]
  have piece := fun (o : ℕ) (ho : o + 128 ≤ 512) (hs : S512x1024.Slices ![o, 0] S128x1024) (inb : ∀ a, (![o, 0] : Fin 2 → ℕ) a + S128x1024.size a ≤ S512x1024.size a) =>
    slab_piece 128 .bf16 (fun s e => lnRow (pRow x0 x1 x2 1024 (by decide) s) (fun j => x3 (ix2 0 j)) (fun j => x4 (ix2 0 j)) e) _ o ho inb
      (fun s e => (lnPiece_ix (pBlk x0 x1 x2 1024 inb_S1024x9216_S1024x1024_0_1024) (rowOf x3) (rowOf x4) o ho hs s e).trans
        (by simp only [pBlk_ix _ _ _ 1024 (by decide), rowOf_eq]))
  exact ⟨piece 384 (by decide) slices_S512x1024_o384_0_S128x1024 inb_S512x1024_S128x1024_384_0, piece 256 (by decide) slices_S512x1024_o256_0_S128x1024 inb_S512x1024_S128x1024_256_0,
    piece 128 (by decide) slices_S512x1024_o128_0_S128x1024 inb_S512x1024_S128x1024_128_0, piece 0 (by decide) slices_S512x1024_o0_0_S128x1024 inb_S512x1024_S128x1024_0_0, trivial⟩

/-- The gate that the body keeps in two halves, read back. -/
theorem kept_eq : kernelRun0_A.sl.v467 (F := Ideal) c arg1 harg1 arg2 harg2 arg3 harg3 arg16 x0 x1 x2
    = rowsOf (fun s e => siluT (pRow x0 x1 x2 2048 (by decide) s e)) := by
  unfold kernelRun0_A.sl.v467
  rw [View.readCov_eq_canon']
  refine funext fun y : S512x1024.Idx => ?_
  have ey : (Rect.unit (s := S512x1024) ![0, 0] ![512, 1024] inb_S512x1024_S512x1024_0_0).toLoadRect.idx y = y :=
    funext fun a => Fin.ext (by fin_cases a <;> show 0 + 1 * _ = _ <;> rw [Nat.zero_add, Nat.one_mul])
  refine (congrArg _ ey).trans ?_
  unfold kernelRun0_A.sl.HS0_2
  refine View.canon_apply_of_pieces _ _ (View.PiecesOf.mem ?_) y (View.cover_of_tiledL (s := S512x1024) _ S256x1024.size rfl y)
  simp only [kernelRun0_A.sl.r_1, kernelRun0_A.sl.r_2, View.readAt_eq_ld, Memref.IsWhole.read_unread]
  rw [View.ld_unit_zero zero2]
  have piece := fun (o : ℕ) (ho : o + 256 ≤ 512) (inb : ∀ a, (![o, 0] : Fin 2 → ℕ) a + S256x1024.size a ≤ S512x1024.size a)
      (w : FVec Ideal S256x1024 .f32) (hw : ∀ s e, w (ix2 s e) = siluT (∑ k : Fin 1024, hRow (fun j => View.ld x0 (Rect.unit ![o, 0] S256x1024.size inb) (ix2 s j))
        (fun j => x1 (ix2 0 j)) k * wBlk x2 2048 inb_S1024x9216_S1024x1024_0_2048 (ix2 k e))) =>
    slab_piece 256 .f32 (fun s e => siluT (pRow x0 x1 x2 2048 (by decide) s e)) w o ho inb
      (fun s e => (hw s e).trans (by simp only [rows_ix x0 o ho inb, wBlk_ix x2 2048 (by decide)]; rfl))
  exact ⟨piece 256 (by decide) inb_S512x1024_S256x1024_256_0 _ (fun s e => keepSecond_ix _ _ _ s e),
    piece 0 (by decide) inb_S512x1024_S256x1024_0_0 _ (fun s e => keepFirst_ix _ _ _ s e), trivial⟩

/-- The MLP's product. -/
theorem out7_eq : out0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6
    = uzBlk (pBlk x0 x1 x2 0 inb_S1024x9216_S1024x1024_0_0) (rowsOf (fun s e => siluT (pRow x0 x1 x2 2048 (by decide) s e))) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6)]
  unfold kernelRun0_A
  dsimp only
  refine (View.canon_unit_zero zero2 _ _).trans ?_
  rw [kept_eq]
  simp only [kernelRun0_A.sl.r, kernelRun0_A.sl.r_1, kernelRun0_A.sl.r_2, kernelRun0_A.sl.r_3, View.readAt_eq_ld, Memref.IsWhole.read_unread]
  rfl

end Cert.InProj

end
-- ==== Proof.ProjArr.lean ====
module

public import proofs.«01_k».proof.Proof.ProjOut
public import proofs.«01_k».proof.Proof.GateValue
public import proofs.«01_k».proof.Proof.Gen.Kernel3Ideal.Value

/-!
# The input projection's operands, block by block

What the host puts in front of the third kernel, read at an index; the operands' blocks at a grid point as parts of the arguments;
and the rows' projections as functions of the arguments.
-/

@[expose] public section

set_option maxRecDepth 16384

noncomputable section

namespace Cert.InProj

open Cert.Kernel3Ideal Cert.Kernel3Ideal.Gen Cert.Kernel3Ideal.Value
open Idealize.ShloMosaic Idealize.ShloMosaic.TcCoe Idealize.ShloMosaic.StableHlo
open Cert.Proof (emb_all)
open Cert.Gate (emb_row)

variable (m : (ℓ : Loc nD τ sig) → Buf (Elt Ideal) ℓ) (c : Dev nD)

/-- The arguments. -/
def argX : FVec Ideal S65536x1024 .f32 := m ((c : Thread nD τ).loc main_arg0)
/-- The norm's scale. -/
def argG : FVec Ideal S1x1024 .f32 := m ((c : Thread nD τ).loc main_arg1)
/-- The weights of the nine projections. -/
def argW : FVec Ideal S1x1024x9216 .f32 := m ((c : Thread nD τ).loc main_arg2)
/-- The LayerNorm's scale. -/
def argLg : FVec Ideal S1x1024 .f32 := m ((c : Thread nD τ).loc main_arg3)
/-- The LayerNorm's shift. -/
def argLb : FVec Ideal S1x1024 .f32 := m ((c : Thread nD τ).loc main_arg4)

/-- The exponents of the rotation's frequencies, twice the lane over 64. -/
def exponents : FVec Ideal S32 .f32 :=
  Host.divf (addf (broadcastInDim S32 ![] bcast_S_S32 (constant S_ .f32 0x00000000#32))
    (mulf (broadcastInDim S32 ![] bcast_S_S32 (constant S_ .f32 0x40000000#32)) (sitofp .f32 (iotaInDim S32 32 0))))
    (broadcastInDim S32 ![] bcast_S_S32 (constant S_ .f32 0x42800000#32))

/-- The rotation's angles, position times frequency. -/
def angles : FVec Ideal S2048x32 .f32 :=
  mulf (broadcastInDim S2048x32 ![0, 1] bcast_S2048x1_S2048x32_0_1 (broadcastInDim S2048x1 ![0] bcast_S2048_S2048x1_0 (sitofp .f32 (iotaInDim S2048 32 0))))
    (broadcastInDim S2048x32 ![0, 1] bcast_S1x32_S2048x32_0_1 (broadcastInDim S1x32 ![1] bcast_S32_S1x32_1
      (Host.divf (broadcastInDim S32 ![] bcast_S_S32 (constant S_ .f32 0x3F800000#32))
        (Host.powf (broadcastInDim S32 ![] bcast_S_S32 (constant S_ .f32 0x461C4000#32)) exponents))))

/-- The rotation's cosines, one row a position. -/
def cosTab : FVec Ideal S2048x32 .f32 := Host.cos angles

/-- The rotation's sines. -/
def sinTab : FVec Ideal S2048x32 .f32 := Host.sin angles

/-- A row's projection by the columns from `o` on. -/
def projOf (o : ℕ) (ho : o + 1024 ≤ 9216) (R : Fin 65536) (e : Fin 1024) : EReal :=
  projAt (hRow (fun j => argX m c (ix2 R j)) (fun j => argG m c (ix2 0 j))) (fun k l => argW m c (ix3 0 k l)) o ho e

/-- The cosines and the signed sines of a position, on the 128 lanes of a head. -/
def cosOf (q : Fin 2048) (d : Fin 128) : EReal := cosTab (ix2 q ⟨d.val % 32, Nat.mod_lt _ (by decide)⟩)
/-- The sine at a position and a lane of a head, negative on the lower half of each group of 64 lanes. -/
def sinOf (q : Fin 2048) (d : Fin 128) : EReal :=
  if d.val % 64 < 32 then -sinTab (ix2 q ⟨d.val % 32, Nat.mod_lt _ (by decide)⟩) else sinTab (ix2 q ⟨d.val % 32, Nat.mod_lt _ (by decide)⟩)

/-- The host's values in front of the call. -/
theorem host_w : V m c main_v28 = truncf (F := Ideal) .bf16 (shapeCast S1024x9216 (argW m c) shapeCasts_S1x1024x9216_S1024x9216) bitsLt_bf16_f32 := by
  rfl

/-- The cosine operand of the call: the table repeated four times along the lanes. -/
theorem host_cos : V m c main_v21 = shapeCast S2048x128 (broadcastInDim S1x2048x4x32 ![0, 1, 2, 3] bcast_S1x2048x1x32_S1x2048x4x32_0_1_2_3
    (shapeCast S1x2048x1x32 (cosTab) shapeCasts_S2048x32_S1x2048x1x32)) shapeCasts_S1x2048x4x32_S2048x128 := by
  after_results_simp <;> rfl

/-- The sines' table, its first half negated. -/
def signed (s : FVec Ideal S2048x32 .f32) : FVec Ideal S2048x64 .f32 :=
  concatenate S2048x64 1 [⟨S2048x32, Host.negf s⟩, ⟨S2048x32, s⟩] concatenates_S2048x32_S2048x32_S2048x64_d1

/-- The sine operand of the call: the signed table, twice along the lanes. -/
theorem host_sin : V m c main_v26 = shapeCast S2048x128 (broadcastInDim S1x2048x2x64 ![0, 1, 2, 3] bcast_S1x2048x1x64_S1x2048x2x64_0_1_2_3
    (shapeCast S1x2048x1x64 (signed (sinTab)) shapeCasts_S2048x64_S1x2048x1x64)) shapeCasts_S1x2048x2x64_S2048x128 := by
  after_results_simp <;> rfl

/-- The weights without their leading axis, at an index. -/
theorem w_ix (w : FVec Ideal S1x1024x9216 .f32) (k : Fin 1024) (l : Fin 9216) :
    truncf (F := Ideal) .bf16 (shapeCast S1024x9216 w shapeCasts_S1x1024x9216_S1024x9216) bitsLt_bf16_f32 (ix2 k l) = w (ix3 0 k l) := by
  pointwise

/-- The table repeated four times, at an index. -/
theorem cos_ix (x : FVec Ideal S2048x32 .f32) (q : Fin 2048) (d : Fin 128) :
    shapeCast S2048x128 (broadcastInDim S1x2048x4x32 ![0, 1, 2, 3] bcast_S1x2048x1x32_S1x2048x4x32_0_1_2_3
      (shapeCast S1x2048x1x32 x shapeCasts_S2048x32_S1x2048x1x32)) shapeCasts_S1x2048x4x32_S2048x128 (ix2 q d)
      = x (ix2 q ⟨d.val % 32, Nat.mod_lt _ (by decide)⟩) := by
  pointwise

/-- The signed table repeated twice, at an index. -/
theorem sin_ix (x : FVec Ideal S2048x64 .f32) (q : Fin 2048) (d : Fin 128) :
    shapeCast S2048x128 (broadcastInDim S1x2048x2x64 ![0, 1, 2, 3] bcast_S1x2048x1x64_S1x2048x2x64_0_1_2_3
      (shapeCast S1x2048x1x64 x shapeCasts_S2048x64_S1x2048x1x64)) shapeCasts_S1x2048x2x64_S2048x128 (ix2 q d)
      = x (ix2 q ⟨d.val % 64, Nat.mod_lt _ (by decide)⟩) := by
  pointwise

/-- The signed table at an index: the lower 32 lanes are the negative sines. -/
theorem signed_ix (s : FVec Ideal S2048x32 .f32) (q : Fin 2048) (l : Fin 64) :
    signed s (ix2 q l) = if l.val < 32 then -s (ix2 q ⟨l.val % 32, Nat.mod_lt _ (by decide)⟩) else s (ix2 q ⟨l.val % 32, Nat.mod_lt _ (by decide)⟩) := by
  have h := concatenate_ofFn_apply (t := S2048x64) (s₁ := S2048x32) 1 (fun i : Fin 2 => (![Host.negf s, s] : Fin 2 → FVec Ideal S2048x32 .f32) i)
    concatenates_S2048x32_S2048x32_S2048x64_d1 rfl 32 rfl (ix2 q l) ⟨l.val / 32, by omega⟩ rfl
    (ix2 q ⟨l.val % 32, Nat.mod_lt _ (by decide)⟩) rfl (by intro b hb; fin_cases b <;> first | rfl | exact absurd rfl hb)
  refine h.trans ?_
  have hl := l.isLt
  by_cases h : l.val < 32
  · have e : (⟨l.val / 32, by omega⟩ : Fin 2) = 0 := Fin.ext (by show l.val / 32 = 0; omega)
    rw [e, if_pos h]
    rfl
  · have e : (⟨l.val / 32, by omega⟩ : Fin 2) = 1 := Fin.ext (by show l.val / 32 = 1; omega)
    rw [e, if_neg h]
    rfl

/-- Where the windows over the rows put a point's block, -/
theorem index_rows (t : Fin grid0.N) :
    ![win0_0.index t 0, win0_0.index t 1] = ![t.val, 0] ∧ ![win0_7.index t 0, win0_7.index t 1] = ![t.val, 0]
    ∧ ![win0_8.index t 0, win0_8.index t 1] = ![t.val, 0] ∧ ![win0_13.index t 0, win0_13.index t 1] = ![t.val, 0]
    ∧ ![win0_14.index t 0, win0_14.index t 1] = ![t.val, 0] := by
  revert t
  decide +kernel

/-- the windows over the tables, -/
theorem index_tables (t : Fin grid0.N) :
    ![win0_5.index t 0, win0_5.index t 1] = ![t.val % 4, 0] ∧ ![win0_6.index t 0, win0_6.index t 1] = ![t.val % 4, 0] := by
  revert t
  decide +kernel

/-- and the windows over the results by heads. -/
theorem index_heads (t : Fin grid0.N) :
    ![win0_9.index t 0, win0_9.index t 1, win0_9.index t 2, win0_9.index t 3] = ![t.val / 4, 0, t.val % 4, 0]
    ∧ ![win0_10.index t 0, win0_10.index t 1, win0_10.index t 2, win0_10.index t 3] = ![t.val / 4, 0, t.val % 4, 0]
    ∧ ![win0_11.index t 0, win0_11.index t 1, win0_11.index t 2, win0_11.index t 3] = ![t.val / 4, 0, t.val % 4, 0]
    ∧ ![win0_12.index t 0, win0_12.index t 1, win0_12.index t 2, win0_12.index t 3] = ![t.val / 4, 0, t.val % 4, 0] := by
  revert t
  decide +kernel

/-- An index of a block of a table, placed in the table. -/
theorem emb_table (t : ℕ) (s : Fin 512) (d : Fin 128) (o : Fin 2 → ℕ) (i : S2048x128.Idx) (h : ![o 0, o 1] = ![t % 4, 0])
    (e : ∀ a, (i a).val = o a * S512x128.size a + 1 * (ix2 s d a : Fin _).val) : i = ix2 ⟨t % 4 * 512 + s.val, by omega⟩ d := by
  have e0 := congrFun h 0
  have e1 := congrFun h 1
  simp at e0 e1
  funext a
  apply Fin.ext
  rw [e]
  match a with
  | ⟨0, _⟩ => show o 0 * 512 + 1 * s.val = t % 4 * 512 + s.val; rw [e0]; omega
  | ⟨1, _⟩ => show o 1 * 128 + 1 * d.val = d.val; rw [e1]; omega

/-- The grid has 128 points. -/
theorem lt_N (t : Fin cfg0.N) : t.val < 128 := by
  have := t.isLt
  have hN : cfg0.N = 128 := N_0
  omega

/-- The row of the array that a row of a point's block is. -/
def rowAt (t : Fin cfg0.N) (s : Fin 512) : Fin 65536 := ⟨t.val * 512 + s.val, by have := lt_N t; omega⟩

/-- The position of a row. -/
def posOf (R : Fin 65536) : Fin 2048 := ⟨R.val % 2048, Nat.mod_lt _ (by decide)⟩

/-- The position of a row of a block. -/
theorem posOf_rowAt (t : Fin cfg0.N) (s : Fin 512) : posOf (rowAt t s) = ⟨t.val % 4 * 512 + s.val, by omega⟩ := by
  apply Fin.ext
  show (t.val * 512 + s.val) % 2048 = t.val % 4 * 512 + s.val
  omega

section Blocks
variable (t : Fin cfg0.N) (s : Fin 512) (k : Fin 1024)

/-- Row `s` of the block of inputs is a row of the argument. -/
theorem iblk_0 : iblk m c 0 t (ix2 s k) = argX m c (ix2 (rowAt t s) k) :=
  (congrArg (V m c main_arg0) (emb_row t.val (lt_N t) s k (win0_0.index t) _ (index_rows t).1 fun _ => rfl)).trans (congrFun (V_main_arg0 m c) _)

/-- The block of the norm's scale is the argument. -/
theorem iblk_1 : iblk m c 1 t (ix2 (0 : Fin 1) k) = argG m c (ix2 0 k) :=
  (congrArg (V m c main_arg1) (emb_all (ix2 (0 : Fin 1) k : S1x1024.Idx) _ ![0, 0] Cert.Proof.zero2 fun _ => rfl)).trans (congrFun (V_main_arg1 m c) _)

/-- The block of weights is the argument. -/
theorem iblk_2 (l : Fin 9216) : iblk m c 2 t (ix2 k l) = argW m c (ix3 0 k l) :=
  (congrArg (V m c main_v28) (emb_all (ix2 k l : S1024x9216.Idx) _ ![0, 0] Cert.Proof.zero2 fun _ => rfl)).trans ((congrFun (host_w m c) _).trans (w_ix _ k l))

/-- The block of the LayerNorm's scale is the argument. -/
theorem iblk_3 : iblk m c 3 t (ix2 (0 : Fin 1) k) = argLg m c (ix2 0 k) :=
  (congrArg (V m c main_arg3) (emb_all (ix2 (0 : Fin 1) k : S1x1024.Idx) _ ![0, 0] Cert.Proof.zero2 fun _ => rfl)).trans (congrFun (V_main_arg3 m c) _)

/-- The block of the LayerNorm's shift is the argument. -/
theorem iblk_4 : iblk m c 4 t (ix2 (0 : Fin 1) k) = argLb m c (ix2 0 k) :=
  (congrArg (V m c main_arg4) (emb_all (ix2 (0 : Fin 1) k : S1x1024.Idx) _ ![0, 0] Cert.Proof.zero2 fun _ => rfl)).trans (congrFun (V_main_arg4 m c) _)

/-- The block of cosines holds those of the rows' positions. -/
theorem iblk_5 (d : Fin 128) : iblk m c 5 t (ix2 s d) = cosOf (posOf (rowAt t s)) d := by
  rw [posOf_rowAt]
  exact (congrArg (V m c main_v21) (emb_table t.val s d (win0_5.index t) _ (index_tables t).1 fun _ => rfl)).trans ((congrFun (host_cos m c) _).trans (cos_ix _ _ d))

/-- The block of sines holds those of the rows' positions. -/
theorem iblk_6 (d : Fin 128) : iblk m c 6 t (ix2 s d) = sinOf (posOf (rowAt t s)) d := by
  rw [posOf_rowAt]
  refine (congrArg (V m c main_v26) (emb_table t.val s d (win0_6.index t) _ (index_tables t).2 fun _ => rfl)).trans ((congrFun (host_sin m c) _).trans
    ((sin_ix _ _ d).trans ((signed_ix _ _ _).trans ?_)))
  have e : d.val % 64 % 32 = d.val % 32 := by omega
  unfold sinOf
  simp only [e]

/-- A row's projection in a block is the array's row's. -/
theorem pRow_eq (o : ℕ) (ho : o + 1024 ≤ 9216) : pRow (iblk m c 0 t) (iblk m c 1 t) (iblk m c 2 t) o ho s = projOf m c o ho (rowAt t s) := by
  funext e
  unfold pRow projOf
  simp only [iblk_0, iblk_1, iblk_2]

end Blocks

end Cert.InProj

end
-- ==== Proof.ProjFinal.lean ====
module

public import proofs.«01_k».proof.Proof.ProjArr

/-!
# The input projection's eight results

The block that a grid point writes back is its part of one array for each result, and the points' blocks cover the arrays.
-/

@[expose] public section

set_option maxRecDepth 16384

noncomputable section

namespace Cert.InProj

open Cert.Kernel3Ideal Cert.Kernel3Ideal.Gen Cert.Kernel3Ideal.Value
open Idealize.ShloMosaic Idealize.ShloMosaic.TcCoe Idealize.ShloMosaic.StableHlo
open Cert.Gate (emb_row emb_heads)

/-- An array of rows and an array by heads, from their elements at a row. -/
def rowsArr (G : Fin 65536 → Fin 1024 → EReal) : FVec Ideal S65536x1024 .bf16 := fun i => G (i 0) (i 1)

/-- The row of a sequence's position. -/
def rowOfPos (b : Fin 32) (q : Fin 2048) : Fin 65536 := ⟨b.val * 2048 + q.val, by omega⟩

/-- The array by batch, head, position and lane, given row by row. -/
def headsArr (H : Fin 65536 → Fin 8 → Fin 128 → EReal) : FVec Ideal S32x8x2048x128 .bf16 := fun i => H (rowOfPos (i 0) (i 2)) (i 1) (i 3)

/-- The row of a position in the block of a grid point. -/
theorem rowOfPos_block (t : Fin cfg0.N) (s : Fin 512) :
    rowOfPos ⟨t.val / 4, by have := lt_N t; omega⟩ ⟨t.val % 4 * 512 + s.val, by omega⟩ = rowAt t s :=
  Fin.ext (by show t.val / 4 * 2048 + (t.val % 4 * 512 + s.val) = t.val * 512 + s.val; omega)

/-- A point's block of rows, read out of the array. -/
theorem rows_part (G : Fin 65536 → Fin 1024 → EReal) (t : Fin cfg0.N) (o : Fin 2 → ℕ) (h : ![o 0, o 1] = ![t.val, 0]) (f : S512x1024.Idx → S65536x1024.Idx)
    (e : ∀ y a, (f y a).val = o a * S512x1024.size a + 1 * (y a).val) : (fun y => rowsArr G (f y)) = rowsOf fun s => G (rowAt t s) := by
  funext y
  obtain ⟨s, k, rfl⟩ : ∃ (s : Fin 512) (k : Fin 1024), y = ix2 s k := ⟨y 0, y 1, by funext a; fin_cases a <;> rfl⟩
  exact congrArg (rowsArr G) (emb_row t.val (lt_N t) s k o (f (ix2 s k)) h (e _))

/-- A point's block by heads, read out of the array. -/
theorem heads_part (H : Fin 65536 → Fin 8 → Fin 128 → EReal) (t : Fin cfg0.N) (o : Fin 4 → ℕ) (h : ![o 0, o 1, o 2, o 3] = ![t.val / 4, 0, t.val % 4, 0])
    (f : S1x8x512x128.Idx → S32x8x2048x128.Idx) (e : ∀ y a, (f y a).val = o a * S1x8x512x128.size a + 1 * (y a).val) :
    (fun y => headsArr H (f y)) = headsOf fun s => H (rowAt t s) := by
  funext y
  obtain ⟨i, s, d, rfl⟩ : ∃ (i : Fin 8) (s : Fin 512) (d : Fin 128), y = ix4 (0 : Fin 1) i s d :=
    ⟨y 1, y 2, y 3, by funext a; fin_cases a <;> first | rfl | exact Subsingleton.elim (α := Fin 1) _ _⟩
  refine (congrArg (headsArr H) (emb_heads t.val (lt_N t) i s d o (f (ix4 0 i s d)) h (e _))).trans ?_
  exact congrArg (fun R => H R i d) (rowOfPos_block t s)

/-- A block given by rows, at an index. -/
theorem rowsOf_ix (G : Fin 512 → Fin 1024 → EReal) (s : Fin 512) (e : Fin 1024) : rowsOf G (ix2 s e) = G s e := rfl

/-- The product of two blocks, at an index. -/
theorem uzBlk_ix (p z : FVec Ideal S512x1024 .f32) (s : Fin 512) (e : Fin 1024) : uzBlk p z (ix2 s e) = p (ix2 s e) * z (ix2 s e) := rfl

/-- The grid point whose block a row lies in, -/
def pointOfRow (i : S65536x1024.Idx) : Fin cfg0.N := ⟨(i 0).val / 512, by have h0 : (i 0).val < 65536 := (i 0).isLt; have hN : cfg0.N = 128 := N_0; omega⟩

/-- Every row lies in the block of its grid point. -/
theorem rows_mem (i : S65536x1024.Idx) (o : Fin 2 → ℕ) (h : ![o 0, o 1] = ![(pointOfRow i).val, 0]) (a : Fin 2) :
    o a * S512x1024.size a ≤ (i a).val ∧ (i a).val < o a * S512x1024.size a + S512x1024.size a := by
  have e0 := congrFun h 0
  have e1 := congrFun h 1
  simp [pointOfRow] at e0 e1
  have h0 : (i 0).val < 65536 := (i 0).isLt
  have h1 : (i 1).val < 1024 := (i 1).isLt
  match a with
  | ⟨0, _⟩ => show o 0 * 512 ≤ (i 0).val ∧ (i 0).val < o 0 * 512 + 512; omega
  | ⟨1, _⟩ => show o 1 * 1024 ≤ (i 1).val ∧ (i 1).val < o 1 * 1024 + 1024; omega

/-- and the one of a position. -/
def pointOfPos (i : S32x8x2048x128.Idx) : Fin cfg0.N :=
  ⟨(i 0).val * 4 + (i 2).val / 512, by have h0 : (i 0).val < 32 := (i 0).isLt; have h2 : (i 2).val < 2048 := (i 2).isLt; have hN : cfg0.N = 128 := N_0; omega⟩

/-- Every position lies in the block of its grid point. -/
theorem heads_mem (i : S32x8x2048x128.Idx) (o : Fin 4 → ℕ) (h : ![o 0, o 1, o 2, o 3] = ![(pointOfPos i).val / 4, 0, (pointOfPos i).val % 4, 0]) (a : Fin 4) :
    o a * S1x8x512x128.size a ≤ (i a).val ∧ (i a).val < o a * S1x8x512x128.size a + S1x8x512x128.size a := by
  have e0 := congrFun h 0
  have e1 := congrFun h 1
  have e2 := congrFun h 2
  have e3 := congrFun h 3
  simp [pointOfPos] at e0 e1 e2 e3
  have h0 : (i 0).val < 32 := (i 0).isLt
  have h1 : (i 1).val < 8 := (i 1).isLt
  have h2 : (i 2).val < 2048 := (i 2).isLt
  have h3 : (i 3).val < 128 := (i 3).isLt
  match a with
  | ⟨0, _⟩ => show o 0 * 1 ≤ (i 0).val ∧ (i 0).val < o 0 * 1 + 1; omega
  | ⟨1, _⟩ => show o 1 * 8 ≤ (i 1).val ∧ (i 1).val < o 1 * 8 + 8; omega
  | ⟨2, _⟩ => show o 2 * 512 ≤ (i 2).val ∧ (i 2).val < o 2 * 512 + 512; omega
  | ⟨3, _⟩ => show o 3 * 128 ≤ (i 3).val ∧ (i 3).val < o 3 * 128 + 128; omega

variable (m : (ℓ : Loc nD τ sig) → Buf (Elt Ideal) ℓ) (c : Dev nD)

/-- The results' elements, as the kernel forms them. -/
def uzOf (R : Fin 65536) (e : Fin 1024) : EReal := projOf m c 0 (by decide) R e * siluT (projOf m c 2048 (by decide) R e)
/-- The LayerNorm of the second projection. -/
def vnOf (R : Fin 65536) (e : Fin 1024) : EReal :=
  lnRow (projOf m c 1024 (by decide) R) (fun j => argLg m c (ix2 0 j)) (fun j => argLb m c (ix2 0 j)) e
/-- The sigmoid of the eighth projection. -/
def gaOf (R : Fin 65536) (e : Fin 1024) : EReal := sigT (projOf m c 7168 (by decide) R e)
/-- The sigmoid of the ninth projection. -/
def gbOf (R : Fin 65536) (e : Fin 1024) : EReal := sigT (projOf m c 8192 (by decide) R e)
/-- The queries: the fourth projection, rotated and scaled. -/
def qOf (R : Fin 65536) (h : Fin 8) (d : Fin 128) : EReal :=
  ropeRow (lanes (projOf m c 3072 (by decide) R) h) (cosOf (posOf R)) (sinOf (posOf R)) d * Ideal.ofBits .f32 0x3E38AA3B#32
/-- The keys: the fifth projection, rotated. -/
def kOf (R : Fin 65536) (h : Fin 8) (d : Fin 128) : EReal :=
  ropeRow (lanes (projOf m c 4096 (by decide) R) h) (cosOf (posOf R)) (sinOf (posOf R)) d
/-- The values: the sixth projection. -/
def vOf (R : Fin 65536) (h : Fin 8) (d : Fin 128) : EReal := lanes (projOf m c 5120 (by decide) R) h d
/-- The gate of the attention: silu of the seventh projection. -/
def zOf (R : Fin 65536) (h : Fin 8) (d : Fin 128) : EReal := lanes (fun l => siluT (projOf m c 6144 (by decide) R l)) h d

/-- The MLP's product after the last grid point. -/
theorem final7 : (dats m 0 c).arrAt 7 cfg0.N = rowsArr (uzOf m c) := by
  refine (dats m 0 c).arrAt_eq_of_cover 7 (rowsArr (uzOf m c)) (fun t _ => ?_) fun i => ⟨pointOfRow i, flush0_7 _, ?_⟩
  · refine Eq.trans ?_ (rows_part (uzOf m c) t (win0_7.index t) (index_rows t).2.1 (win0_7.blk t).view.emb fun _ _ => rfl).symm
    rw [flushed7_A, out7_eq]
    refine funext fun y : S512x1024.Idx => ?_
    obtain ⟨s, k, rfl⟩ : ∃ (s : Fin 512) (k : Fin 1024), y = ix2 s k := ⟨y 0, y 1, by funext a; fin_cases a <;> rfl⟩
    refine (uzBlk_ix _ _ s k).trans ?_
    rw [pBlk_ix _ _ _ 0 (by decide), rowsOf_ix, pRow_eq, pRow_eq]
    rfl
  · show i ∈ ((View.whole main_v29_0).slice (win0_7.rect (pointOfRow i))).set
    rw [View.set_slice_whole, Rect.mem_set_unit]
    exact rows_mem i _ (index_rows _).2.1

/-- The LayerNorm after the last grid point. -/
theorem final8 : (dats m 0 c).arrAt 8 cfg0.N = rowsArr (vnOf m c) := by
  refine (dats m 0 c).arrAt_eq_of_cover 8 (rowsArr (vnOf m c)) (fun t _ => ?_) fun i => ⟨pointOfRow i, flush0_8 _, ?_⟩
  · refine Eq.trans ?_ (rows_part (vnOf m c) t (win0_8.index t) (index_rows t).2.2.1 (win0_8.blk t).view.emb fun _ _ => rfl).symm
    rw [flushed8_A, out8_eq]
    simp only [pRow_eq, iblk_3, iblk_4]
    rfl
  · show i ∈ ((View.whole main_v29_1).slice (win0_8.rect (pointOfRow i))).set
    rw [View.set_slice_whole, Rect.mem_set_unit]
    exact rows_mem i _ (index_rows _).2.2.1

/-- The queries after the last grid point. -/
theorem final9 : (dats m 0 c).arrAt 9 cfg0.N = headsArr (qOf m c) := by
  refine (dats m 0 c).arrAt_eq_of_cover 9 (headsArr (qOf m c)) (fun t _ => ?_) fun i => ⟨pointOfPos i, flush0_9 _, ?_⟩
  · refine Eq.trans ?_ (heads_part (qOf m c) t (win0_9.index t) (index_heads t).1 (win0_9.blk t).view.emb fun _ _ => rfl).symm
    rw [flushed9_A, out9_eq]
    simp only [pRow_eq, iblk_5, iblk_6]
    rfl
  · show i ∈ ((View.whole main_v29_2).slice (win0_9.rect (pointOfPos i))).set
    rw [View.set_slice_whole, Rect.mem_set_unit]
    exact heads_mem i _ (index_heads _).1

/-- The keys after the last grid point. -/
theorem final10 : (dats m 0 c).arrAt 10 cfg0.N = headsArr (kOf m c) := by
  refine (dats m 0 c).arrAt_eq_of_cover 10 (headsArr (kOf m c)) (fun t _ => ?_) fun i => ⟨pointOfPos i, flush0_10 _, ?_⟩
  · refine Eq.trans ?_ (heads_part (kOf m c) t (win0_10.index t) (index_heads t).2.1 (win0_10.blk t).view.emb fun _ _ => rfl).symm
    rw [flushed10_A, out10_eq]
    simp only [pRow_eq, iblk_5, iblk_6]
    rfl
  · show i ∈ ((View.whole main_v29_3).slice (win0_10.rect (pointOfPos i))).set
    rw [View.set_slice_whole, Rect.mem_set_unit]
    exact heads_mem i _ (index_heads _).2.1

/-- The values after the last grid point. -/
theorem final11 : (dats m 0 c).arrAt 11 cfg0.N = headsArr (vOf m c) := by
  refine (dats m 0 c).arrAt_eq_of_cover 11 (headsArr (vOf m c)) (fun t _ => ?_) fun i => ⟨pointOfPos i, flush0_11 _, ?_⟩
  · refine Eq.trans ?_ (heads_part (vOf m c) t (win0_11.index t) (index_heads t).2.2.1 (win0_11.blk t).view.emb fun _ _ => rfl).symm
    rw [flushed11_A, out11_eq]
    simp only [pRow_eq]
    rfl
  · show i ∈ ((View.whole main_v29_4).slice (win0_11.rect (pointOfPos i))).set
    rw [View.set_slice_whole, Rect.mem_set_unit]
    exact heads_mem i _ (index_heads _).2.2.1

/-- The attention's gate after the last grid point. -/
theorem final12 : (dats m 0 c).arrAt 12 cfg0.N = headsArr (zOf m c) := by
  refine (dats m 0 c).arrAt_eq_of_cover 12 (headsArr (zOf m c)) (fun t _ => ?_) fun i => ⟨pointOfPos i, flush0_12 _, ?_⟩
  · refine Eq.trans ?_ (heads_part (zOf m c) t (win0_12.index t) (index_heads t).2.2.2 (win0_12.blk t).view.emb fun _ _ => rfl).symm
    rw [flushed12_A, out12_eq]
    simp only [pRow_eq]
    rfl
  · show i ∈ ((View.whole main_v29_5).slice (win0_12.rect (pointOfPos i))).set
    rw [View.set_slice_whole, Rect.mem_set_unit]
    exact heads_mem i _ (index_heads _).2.2.2

/-- The first gate after the last grid point. -/
theorem final13 : (dats m 0 c).arrAt 13 cfg0.N = rowsArr (gaOf m c) := by
  refine (dats m 0 c).arrAt_eq_of_cover 13 (rowsArr (gaOf m c)) (fun t _ => ?_) fun i => ⟨pointOfRow i, flush0_13 _, ?_⟩
  · refine Eq.trans ?_ (rows_part (gaOf m c) t (win0_13.index t) (index_rows t).2.2.2.1 (win0_13.blk t).view.emb fun _ _ => rfl).symm
    rw [flushed13_A, out13_eq]
    refine funext fun y : S512x1024.Idx => ?_
    obtain ⟨s, k, rfl⟩ : ∃ (s : Fin 512) (k : Fin 1024), y = ix2 s k := ⟨y 0, y 1, by funext a; fin_cases a <;> rfl⟩
    refine (sigBlk_ix _ s k).trans ?_
    rw [pBlk_ix _ _ _ 7168 (by decide), pRow_eq]
    rfl
  · show i ∈ ((View.whole main_v29_6).slice (win0_13.rect (pointOfRow i))).set
    rw [View.set_slice_whole, Rect.mem_set_unit]
    exact rows_mem i _ (index_rows _).2.2.2.1

/-- The second gate after the last grid point. -/
theorem final14 : (dats m 0 c).arrAt 14 cfg0.N = rowsArr (gbOf m c) := by
  refine (dats m 0 c).arrAt_eq_of_cover 14 (rowsArr (gbOf m c)) (fun t _ => ?_) fun i => ⟨pointOfRow i, flush0_14 _, ?_⟩
  · refine Eq.trans ?_ (rows_part (gbOf m c) t (win0_14.index t) (index_rows t).2.2.2.2 (win0_14.blk t).view.emb fun _ _ => rfl).symm
    rw [flushed14_A, out14_eq]
    refine funext fun y : S512x1024.Idx => ?_
    obtain ⟨s, k, rfl⟩ : ∃ (s : Fin 512) (k : Fin 1024), y = ix2 s k := ⟨y 0, y 1, by funext a; fin_cases a <;> rfl⟩
    refine (sigBlk_ix _ s k).trans ?_
    rw [pBlk_ix _ _ _ 8192 (by decide), pRow_eq]
    rfl
  · show i ∈ ((View.whole main_v29_7).slice (win0_14.rect (pointOfRow i))).set
    rw [View.set_slice_whole, Rect.mem_set_unit]
    exact rows_mem i _ (index_rows _).2.2.2.2

end Cert.InProj

end
-- ==== Proof.ProjRef.lean ====
module

public import proofs.«01_k».proof.Proof.ProjIx
public import proofs.«01_k».proof.Proof.Gen.Reference3Ideal.Run

/-!
# The input projection's reference, read at an index

The reference's results as functions of its arguments, written with a few operations on whole arrays, and each of those
operations at an index.
-/

@[expose] public section

set_option maxRecDepth 16384

noncomputable section

namespace Cert.InProjRef

open Cert.Reference3Ideal Cert.Reference3Ideal.Gen
open Idealize.ShloMosaic
open Cert.InProj (hRow cenRow lnRow)

/-- The mean over the lanes of each row. -/
def meanOf (v : FVec Ideal S65536x1024 .f32) : FVec Ideal S65536x1 .f32 :=
  Host.divf (broadcastInDim S65536x1 ![0] bcast_S65536_S65536x1_0 (Host.reduceAdd v (constant S_ .f32 0x00000000#32) reducesTo_S65536x1024_S65536_d1 h_S_))
    (broadcastInDim S65536x1 ![] bcast_S_S65536x1 (constant S_ .f32 0x44800000#32))

/-- The reciprocal root of the mean square of each row, on every lane. -/
def scaleOf (v : FVec Ideal S65536x1024 .f32) : FVec Ideal S65536x1024 .f32 :=
  broadcastInDim S65536x1024 ![0, 1] bcast_S65536x1_S65536x1024_0_1
    (Host.rsqrt (addf (meanOf (mulf v v)) (broadcastInDim S65536x1 ![] bcast_S_S65536x1 (constant S_ .f32 0x358637BD#32))))

/-- A vector over the lanes, on every row. -/
def onRows (g : FVec Ideal S1x1024 .f32) : FVec Ideal S65536x1024 .f32 :=
  broadcastInDim S65536x1024 ![0, 1] bcast_S1x1024_S65536x1024_0_1 (broadcastInDim S1x1024 ![1] bcast_S1024_S1x1024_1
    (shapeCast S1024 g shapeCasts_S1x1024_S1024))

/-- The nine projections of the normed rows, side by side. -/
def wide (x : FVec Ideal S65536x1024 .f32) (g : FVec Ideal S1x1024 .f32) (w : FVec Ideal S1x1024x9216 .f32) : FVec Ideal S65536x9216 .f32 :=
  Host.dotGeneral dot_S65536x1024_S1024x9216_S65536x9216_1_0_0_1_n_n none (mulf (mulf x (scaleOf x)) (onRows g))
    (shapeCast S1024x9216 w shapeCasts_S1x1024x9216_S1024x9216)

/-- The columns from `o` on. -/
def part (P : FVec Ideal S65536x9216 .f32) (o : ℕ) (hs : S65536x9216.Slices ![0, o] S65536x1024) : FVec Ideal S65536x1024 .f32 :=
  extractStridedSlice S65536x1024 ![0, o] P hs

/-- The sigmoid, elementwise. -/
def sig (p : FVec Ideal S65536x1024 .f32) : FVec Ideal S65536x1024 .f32 :=
  Host.divf (broadcastInDim S65536x1024 ![] bcast_S_S65536x1024 (constant S_ .f32 0x3F800000#32))
    (addf (broadcastInDim S65536x1024 ![] bcast_S_S65536x1024 (constant S_ .f32 0x3F800000#32)) (Host.exp (Host.negf p)))

/-- The LayerNorm of each row. -/
def normed (v : FVec Ideal S65536x1024 .f32) (g b : FVec Ideal S1x1024 .f32) : FVec Ideal S65536x1024 .f32 :=
  have m := subf v (broadcastInDim S65536x1024 ![0, 1] bcast_S65536x1_S65536x1024_0_1 (meanOf v))
  addf (mulf (mulf m (scaleOf m)) (onRows g)) (onRows b)

/-- The rows' lanes as two groups of 64 in each of eight heads. -/
def split (p : FVec Ideal S65536x1024 .f32) : FVec Ideal S32x2048x8x2x64 .f32 := shapeCast S32x2048x8x2x64 p shapeCasts_S65536x1024_S32x2048x8x2x64

/-- The lower 32 lanes of each group. -/
def lower (p : FVec Ideal S32x2048x8x2x64 .f32) : FVec Ideal S32x2048x8x2x32 .f32 :=
  extractStridedSlice S32x2048x8x2x32 ![0, 0, 0, 0, 0] p slices_S32x2048x8x2x64_S32x2048x8x2x32_0_0_0_0_0

/-- The upper 32 lanes of each group. -/
def upper (p : FVec Ideal S32x2048x8x2x64 .f32) : FVec Ideal S32x2048x8x2x32 .f32 :=
  extractStridedSlice S32x2048x8x2x32 ![0, 0, 0, 0, 32] p slices_S32x2048x8x2x64_S32x2048x8x2x32_0_0_0_0_32

/-- A table over the positions, for every head. -/
def table (c : FVec Ideal S2048x32 .f32) : FVec Ideal S32x2048x8x2x32 .f32 :=
  broadcastInDim S32x2048x8x2x32 ![0, 1, 2, 3, 4] bcast_S1x2048x1x1x32_S32x2048x8x2x32_0_1_2_3_4
    (broadcastInDim S1x2048x1x1x32 ![1, 2, 3, 4] bcast_S2048x1x1x32_S1x2048x1x1x32_1_2_3_4
      (broadcastInDim S2048x1x1x32 ![0, 3] bcast_S2048x32_S2048x1x1x32_0_3 c))

/-- Lower and upper lanes side by side. -/
def join (A B : FVec Ideal S32x2048x8x2x32 .f32) : FVec Ideal S32x2048x8x2x64 .f32 :=
  concatenate S32x2048x8x2x64 4 [⟨S32x2048x8x2x32, A⟩, ⟨S32x2048x8x2x32, B⟩] concatenates_S32x2048x8x2x32_S32x2048x8x2x32_S32x2048x8x2x64_d4

/-- The rotation of each group of lanes. -/
def turned (p : FVec Ideal S65536x1024 .f32) (c s : FVec Ideal S2048x32 .f32) : FVec Ideal S32x2048x8x2x64 .f32 :=
  join (subf (mulf (lower (split p)) (table c)) (mulf (upper (split p)) (table s)))
    (addf (mulf (upper (split p)) (table c)) (mulf (lower (split p)) (table s)))

/-- The heads in front of the positions. -/
def byHead (p : FVec Ideal S32x2048x8x128 .f32) : FVec Ideal S32x8x2048x128 .bf16 :=
  truncf .bf16 (transpose S32x8x2048x128 [0, 2, 1, 3] p transposes_S32x2048x8x128_S32x8x2048x128_0_2_1_3) bitsLt_bf16_f32

/-- An array given by rows, by batch and head. -/
def ofRows (p : FVec Ideal S65536x1024 .f32) : FVec Ideal S32x8x2048x128 .bf16 := byHead (shapeCast S32x2048x8x128 p shapeCasts_S65536x1024_S32x2048x8x128)

/-- An array given by groups of 64 lanes, by batch and head. -/
def ofHalves (p : FVec Ideal S32x2048x8x2x64 .f32) : FVec Ideal S32x8x2048x128 .bf16 := byHead (shapeCast S32x2048x8x128 p shapeCasts_S32x2048x8x2x64_S32x2048x8x128)

/-- The mean of a row. -/
theorem meanOf_ix (v : FVec Ideal S65536x1024 .f32) (R : Fin 65536) :
    meanOf v (ix2 R 0) = Ideal.div (∑ j : Fin 1024, v (ix2 R j)) (Ideal.ofBits .f32 0x44800000#32) := by
  pointwise [meanOf]

/-- The reciprocal root mean square of a row. -/
theorem scaleOf_ix (v : FVec Ideal S65536x1024 .f32) (R : Fin 65536) (k : Fin 1024) :
    scaleOf v (ix2 R k) = Ideal.rsqrt (Ideal.div (∑ j : Fin 1024, v (ix2 R j) * v (ix2 R j)) (Ideal.ofBits .f32 0x44800000#32) + Ideal.ofBits .f32 0x358637BD#32) := by
  pointwise [scaleOf, meanOf]

/-- A vector on every row, at an index. -/
theorem onRows_ix (g : FVec Ideal S1x1024 .f32) (R : Fin 65536) (k : Fin 1024) : onRows g (ix2 R k) = g (ix2 0 k) := by
  pointwise [onRows]

/-- The projections at an index: a sum over the normed row. -/
theorem wide_ix (x : FVec Ideal S65536x1024 .f32) (g : FVec Ideal S1x1024 .f32) (w : FVec Ideal S1x1024x9216 .f32) (R : Fin 65536) (e : Fin 9216) :
    wide x g w (ix2 R e) = ∑ k : Fin 1024, hRow (fun j => x (ix2 R j)) (fun j => g (ix2 0 j)) k * w (ix3 0 k e) := by
  simp only [hRow, ← scaleOf_ix]
  pointwise [wide, onRows]
  simp only [scaleOf_ix]

/-- A part of the columns at an index. -/
theorem part_ix (P : FVec Ideal S65536x9216 .f32) (o : ℕ) (ho : o + 1024 ≤ 9216) (hs : S65536x9216.Slices ![0, o] S65536x1024) (R : Fin 65536) (e : Fin 1024) :
    part P o hs (ix2 R e) = P (ix2 R ⟨o + e.val, by omega⟩) := by
  pointwise [part]

/-- The reference's sigmoid of a number. -/
def sigR (y : EReal) : EReal := Ideal.div (Ideal.ofBits .f32 0x3F800000#32) (Ideal.ofBits .f32 0x3F800000#32 + Ideal.exp (-y))

/-- The sigmoid at an index. -/
theorem sig_ix (p : FVec Ideal S65536x1024 .f32) (R : Fin 65536) (e : Fin 1024) : sig p (ix2 R e) = sigR (p (ix2 R e)) := by
  pointwise [sig, sigR]

/-- The LayerNorm at an index. -/
theorem normed_ix (v : FVec Ideal S65536x1024 .f32) (g b : FVec Ideal S1x1024 .f32) (R : Fin 65536) (e : Fin 1024) :
    normed v g b (ix2 R e) = lnRow (fun j => v (ix2 R j)) (fun j => g (ix2 0 j)) (fun j => b (ix2 0 j)) e := by
  unfold lnRow cenRow
  pointwise [normed, scaleOf, meanOf, onRows]

/-- Joined lanes at an index. -/
theorem join_ix (A B : FVec Ideal S32x2048x8x2x32 .f32) (b : Fin 32) (q : Fin 2048) (h : Fin 8) (t : Fin 2) (l : Fin 64) :
    join A B (ix5 b q h t l) = (![A, B] ⟨l.val / 32, by omega⟩) (ix5 b q h t ⟨l.val % 32, Nat.mod_lt _ (by decide)⟩) :=
  concatenate_ofFn_apply (t := S32x2048x8x2x64) (s₁ := S32x2048x8x2x32) 4 (fun i : Fin 2 => ![A, B] i)
    concatenates_S32x2048x8x2x32_S32x2048x8x2x32_S32x2048x8x2x64_d4 rfl 32 rfl (ix5 b q h t l) ⟨l.val / 32, by omega⟩ rfl
    (ix5 b q h t ⟨l.val % 32, Nat.mod_lt _ (by decide)⟩) rfl (by intro b hb; fin_cases b <;> first | rfl | exact absurd rfl hb)

/-- The lower lanes at an index. -/
theorem lower_ix (p : FVec Ideal S65536x1024 .f32) (b : Fin 32) (q : Fin 2048) (h : Fin 8) (t : Fin 2) (l : Fin 32) :
    lower (split p) (ix5 b q h t l) = p (ix2 ⟨b.val * 2048 + q.val, by omega⟩ ⟨h.val * 128 + t.val * 64 + l.val, by omega⟩) := by
  pointwise [lower, split]

/-- The upper lanes at an index. -/
theorem upper_ix (p : FVec Ideal S65536x1024 .f32) (b : Fin 32) (q : Fin 2048) (h : Fin 8) (t : Fin 2) (l : Fin 32) :
    upper (split p) (ix5 b q h t l) = p (ix2 ⟨b.val * 2048 + q.val, by omega⟩ ⟨h.val * 128 + t.val * 64 + (32 + l.val), by omega⟩) := by
  pointwise [upper, split]

/-- A table on every head, at an index. -/
theorem table_ix (c : FVec Ideal S2048x32 .f32) (b : Fin 32) (q : Fin 2048) (h : Fin 8) (t : Fin 2) (l : Fin 32) :
    table c (ix5 b q h t l) = c (ix2 q l) := by
  pointwise [table]

/-- The array by batch and head at an index, from its rows. -/
theorem ofRows_ix (p : FVec Ideal S65536x1024 .f32) (b : Fin 32) (h : Fin 8) (q : Fin 2048) (d : Fin 128) :
    ofRows p (ix4 b h q d) = p (ix2 ⟨b.val * 2048 + q.val, by omega⟩ ⟨h.val * 128 + d.val, by omega⟩) := by
  pointwise [ofRows, byHead]

/-- The array by batch and head at an index, from its groups of lanes. -/
theorem ofHalves_ix (p : FVec Ideal S32x2048x8x2x64 .f32) (b : Fin 32) (h : Fin 8) (q : Fin 2048) (d : Fin 128) :
    ofHalves p (ix4 b h q d) = p (ix5 b q h ⟨d.val / 64, by omega⟩ ⟨d.val % 64, Nat.mod_lt _ (by decide)⟩) := by
  pointwise [ofHalves, byHead]

end Cert.InProjRef

end
-- ==== Proof.ProjReal.lean ====
module

public import proofs.«01_k».proof.Proof.ProjRef
public import proofs.«01_k».proof.Proof.Soft

/-!
# The input projection's numbers

The gates that the kernel forms with the hyperbolic tangent are the reference's sigmoids at every real number, and a normed row
has real entries whatever the row is, if the norm's scale is real: so the projections are real if the weights are too.
-/

@[expose] public section

noncomputable section

namespace Cert.InProj

open Idealize.ShloMosaic
open Cert.Proof (IsReal coe_sum isReal_sum_mul)
open Cert.InProjRef (sigR)

/-- The word of one half. -/
theorem half_val : Ideal.ofBits .f32 0x3F000000#32 = ((1 / 2 : ℝ) : EReal) := by
  simp [Ideal.ofBits, Ideal.ieee, ← EReal.coe_mul]
  norm_num

/-- The word of one. -/
theorem one_val : Ideal.ofBits .f32 0x3F800000#32 = ((1 : ℝ) : EReal) := by
  simp [Ideal.ofBits, Ideal.ieee, ← EReal.coe_mul]
  norm_num

/-- The word of 1024. -/
theorem lanes_val : Ideal.ofBits .f32 0x44800000#32 = ((1024 : ℝ) : EReal) := by
  simp [Ideal.ofBits, Ideal.ieee, ← EReal.coe_mul]
  norm_num

/-- The norm's small constant is a positive real. -/
theorem eps_val : ∃ e : ℝ, 0 < e ∧ Ideal.ofBits .f32 0x358637BD#32 = (e : EReal) := by
  refine ⟨8796093 * (2 : ℝ) ^ (-43 : ℤ), by positivity, ?_⟩
  simp [Ideal.ofBits, Ideal.ieee, ← EReal.coe_mul]

/-- The sigmoid of a real number is half the hyperbolic tangent of the half, plus a half. -/
theorem sigmoid_tanh (y : ℝ) : 1 / 2 * Real.tanh (1 / 2 * y) + 1 / 2 = 1 / (1 + Real.exp (-y)) := by
  have e : Real.exp (-y) = Real.exp (-(1 / 2 * y)) * Real.exp (-(1 / 2 * y)) := by rw [← Real.exp_add]; congr 1; ring
  have e1 : Real.exp (1 / 2 * y) * Real.exp (-(1 / 2 * y)) = 1 := by rw [← Real.exp_add]; simp
  rw [Real.tanh_eq_sinh_div_cosh, Real.sinh_eq, Real.cosh_eq, e]
  generalize Real.exp (-(1 / 2 * y)) = b at *
  generalize ha : Real.exp (1 / 2 * y) = a at *
  have hap : 0 < a := ha ▸ Real.exp_pos _
  have hb : b = 1 / a := by field_simp; linarith
  subst hb
  field_simp
  ring

/-- The reference's sigmoid of a real number. -/
theorem sigR_coe (y : ℝ) : sigR (y : EReal) = ((1 / (1 + Real.exp (-y)) : ℝ) : EReal) := by
  unfold sigR
  have h : (1 + Real.exp (-y)) ≠ 0 := by positivity
  rw [one_val, ← EReal.coe_neg, Ideal.exp_coe, ← EReal.coe_add, Ideal.div_coe h, ← EReal.coe_mul, one_mul]

/-- The kernel's sigmoid of a real number is the reference's. -/
theorem sigT_eq {y : EReal} (hy : IsReal y) : sigT y = sigR y := by
  obtain ⟨y, rfl⟩ := hy
  unfold sigT
  rw [sigR_coe, half_val, ← EReal.coe_mul, Ideal.tanh_coe, ← EReal.coe_mul, ← EReal.coe_add, sigmoid_tanh]

/-- So is its product of a real number and the sigmoid of it. -/
theorem siluT_eq {y : EReal} (hy : IsReal y) : siluT y = y * sigR y := by
  obtain ⟨y, rfl⟩ := hy
  unfold siluT
  rw [sigR_coe, half_val]
  simp only [← EReal.coe_mul, Ideal.tanh_coe, ← EReal.coe_add]
  rw [← sigmoid_tanh]
  congr 1
  ring

/-- A square is not negative. -/
theorem self_nonneg (a : EReal) : 0 ≤ a * a := by
  induction a with
  | bot => simp
  | top => simp
  | coe r => rw [← EReal.coe_mul]; exact EReal.coe_nonneg.mpr (mul_self_nonneg r)

/-- A number with a finite square is real. -/
theorem isReal_of_square {a : EReal} (h : a * a ≠ ⊤) : IsReal a := by
  induction a with
  | bot => simp at h
  | top => simp at h
  | coe r => exact ⟨r, rfl⟩

/-- A normed row has real entries, whatever the row is. -/
theorem isReal_hRow (a g : Fin 1024 → EReal) (hg : ∀ k, IsReal (g k)) (k : Fin 1024) : IsReal (hRow a g k) := by
  obtain ⟨g', hg'⟩ := hg k
  obtain ⟨e, he, hev⟩ := eps_val
  unfold hRow
  rw [hg', hev, lanes_val]
  by_cases hS : ∑ j : Fin 1024, a j * a j = ⊤
  · have ht : Ideal.div (⊤ : EReal) ((1024 : ℝ) : EReal) + (e : EReal) = ⊤ := by
      rw [Ideal.div_coe (by norm_num), EReal.top_mul_coe_of_pos (by norm_num), EReal.top_add_coe]
    rw [hS, ht, Ideal.rsqrt_top, mul_zero, zero_mul]
    exact ⟨0, rfl⟩
  · have h0 : 0 ≤ ∑ j : Fin 1024, a j * a j := Finset.sum_nonneg fun j _ => self_nonneg _
    have hk : a k * a k ≤ ∑ j : Fin 1024, a j * a j := Finset.single_le_sum (f := fun j => a j * a j) (fun j _ => self_nonneg _) (Finset.mem_univ k)
    obtain ⟨x, hx⟩ := isReal_of_square (a := a k) fun h => hS (top_le_iff.mp (h ▸ hk))
    generalize ∑ j : Fin 1024, a j * a j = S at *
    induction S with
    | bot => simp at h0
    | top => exact absurd rfl hS
    | coe r =>
      have hr : 0 ≤ r := EReal.coe_nonneg.mp h0
      have hp : 0 < r * (1 / 1024) + e := by positivity
      rw [hx, Ideal.div_coe (by norm_num), ← EReal.coe_mul, ← EReal.coe_add, Ideal.rsqrt_coe, if_neg hp.not_gt, if_neg hp.ne', ← EReal.coe_mul, ← EReal.coe_mul]
      exact ⟨_, rfl⟩

/-- A projection of it is real. -/
theorem isReal_projAt (a g : Fin 1024 → EReal) (w : Fin 1024 → Fin 9216 → EReal) (hg : ∀ k, IsReal (g k)) (hw : ∀ k e, IsReal (w k e))
    (o : ℕ) (ho : o + 1024 ≤ 9216) (e : Fin 1024) : IsReal (projAt (hRow a g) w o ho e) :=
  isReal_sum_mul _ _ (isReal_hRow a g hg) fun k => hw k _

end Cert.InProj

end
-- ==== Proof.ProjSame.lean ====
module

public import proofs.«01_k».proof.Proof.ProjFinal
public import proofs.«01_k».proof.Proof.ProjReal
public import proofs.«01_k».proof.Proof.Finite
public import proofs.«01_k».proof.Proof.Gen.Pre_finite3

/-!
# The input projection's results are the reference's

Each of the reference's eight results, written with the operations of `ProjRef`, is the kernel's array, if the norm's scale and
the weights are real.
-/

@[expose] public section

set_option maxRecDepth 16384

noncomputable section

namespace Cert.InProjRef

open Cert.Reference3Ideal Cert.Reference3Ideal.Gen
open Idealize.ShloMosaic

section Results
variable (x : FVec Ideal S65536x1024 .f32) (g : FVec Ideal S1x1024 .f32) (w : FVec Ideal S1x1024x9216 .f32)
  (lg lb : FVec Ideal S1x1024 .f32) (c s : FVec Ideal S2048x32 .f32)

/-- The reference's eight results; first the gated first branch. -/
def uzRef : FVec Ideal S65536x1024 .bf16 :=
  truncf .bf16 (mulf (part (wide x g w) 0 slices_S65536x9216_S65536x1024_0_0) (mulf (part (wide x g w) 2048 slices_S65536x9216_S65536x1024_0_2048)
    (sig (part (wide x g w) 2048 slices_S65536x9216_S65536x1024_0_2048)))) bitsLt_bf16_f32
/-- The normed second branch input. -/
def vnRef : FVec Ideal S65536x1024 .bf16 := truncf .bf16 (normed (part (wide x g w) 1024 slices_S65536x9216_S65536x1024_0_1024) lg lb) bitsLt_bf16_f32
/-- The queries. -/
def qRef : FVec Ideal S32x8x2048x128 .bf16 :=
  ofHalves (mulf (turned (part (wide x g w) 3072 slices_S65536x9216_S65536x1024_0_3072) c s)
    (broadcastInDim S32x2048x8x2x64 ![] bcast_S_S32x2048x8x2x64 (constant S_ .f32 0x3E38AA3B#32)))
/-- The keys. -/
def kRef : FVec Ideal S32x8x2048x128 .bf16 := ofHalves (turned (part (wide x g w) 4096 slices_S65536x9216_S65536x1024_0_4096) c s)
/-- The values. -/
def vRef : FVec Ideal S32x8x2048x128 .bf16 := ofRows (part (wide x g w) 5120 slices_S65536x9216_S65536x1024_0_5120)
/-- The gate of the attention. -/
def zRef : FVec Ideal S32x8x2048x128 .bf16 :=
  ofRows (mulf (part (wide x g w) 6144 slices_S65536x9216_S65536x1024_0_6144) (sig (part (wide x g w) 6144 slices_S65536x9216_S65536x1024_0_6144)))
/-- The first merge gate. -/
def gaRef : FVec Ideal S65536x1024 .bf16 := truncf .bf16 (sig (part (wide x g w) 7168 slices_S65536x9216_S65536x1024_0_7168)) bitsLt_bf16_f32
/-- The second merge gate. -/
def gbRef : FVec Ideal S65536x1024 .bf16 := truncf .bf16 (sig (part (wide x g w) 8192 slices_S65536x9216_S65536x1024_0_8192)) bitsLt_bf16_f32

end Results

open Cert.InProj (ropeRow lanes pair rowOfPos)

/-- The rotation at an index. -/
theorem turned_ix (p : FVec Ideal S65536x1024 .f32) (c s : FVec Ideal S2048x32 .f32) (b : Fin 32) (q : Fin 2048) (h : Fin 8) (d : Fin 128) :
    turned p c s (ix5 b q h ⟨d.val / 64, by omega⟩ ⟨d.val % 64, Nat.mod_lt _ (by decide)⟩)
      = ropeRow (lanes (fun l => p (ix2 (rowOfPos b q) l)) h) (fun d => c (ix2 q ⟨d.val % 32, Nat.mod_lt _ (by decide)⟩))
          (fun d => if d.val % 64 < 32 then -s (ix2 q ⟨d.val % 32, Nat.mod_lt _ (by decide)⟩) else s (ix2 q ⟨d.val % 32, Nat.mod_lt _ (by decide)⟩)) d := by
  have hd := d.isLt
  unfold turned
  refine (join_ix _ _ b q h _ _).trans ?_
  have e32 : d.val % 64 % 32 = d.val % 32 := by omega
  unfold ropeRow lanes pair
  by_cases hl : d.val % 64 < 32
  · have e : (⟨d.val % 64 / 32, by omega⟩ : Fin 2) = 0 := Fin.ext (by show d.val % 64 / 32 = 0; omega)
    have i0 : h.val * 128 + d.val / 64 * 64 + d.val % 32 = h.val * 128 + d.val := by omega
    have i1 : h.val * 128 + d.val / 64 * 64 + (32 + d.val % 32) = h.val * 128 + (d.val + 32) % 128 := by omega
    rw [e]
    show lower (split p) _ * table c _ - upper (split p) _ * table s _ = _
    rw [lower_ix, upper_ix, table_ix, table_ix]
    simp only [if_pos hl, i0, i1, e32, mul_neg, ← sub_eq_add_neg]
    rfl
  · have e : (⟨d.val % 64 / 32, by omega⟩ : Fin 2) = 1 := Fin.ext (by show d.val % 64 / 32 = 1; omega)
    have i0 : h.val * 128 + d.val / 64 * 64 + (32 + d.val % 32) = h.val * 128 + d.val := by omega
    have i1 : h.val * 128 + d.val / 64 * 64 + d.val % 32 = h.val * 128 + (d.val + 96) % 128 := by omega
    rw [e]
    show upper (split p) _ * table c _ + lower (split p) _ * table s _ = _
    rw [lower_ix, upper_ix, table_ix, table_ix]
    simp only [if_neg hl, i0, i1, e32]
    rfl

end Cert.InProjRef

namespace Cert.InProj

open Cert.Kernel3Ideal Cert.Kernel3Ideal.Gen
open Idealize.ShloMosaic Idealize.ShloMosaic.TcCoe
open Cert.Proof (IsReal)
open Cert.InProjRef

variable (m : (ℓ : Loc nD τ sig) → Buf (Elt Ideal) ℓ) (c : Dev nD)

/-- A part of the reference's projections at an index. -/
theorem part_row (o : ℕ) (ho : o + 1024 ≤ 9216) (hs) (R : Fin 65536) (e : Fin 1024) :
    part (wide (argX m c) (argG m c) (argW m c)) o hs (ix2 R e) = projOf m c o ho R e := by
  rw [part_ix _ o ho, wide_ix]
  rfl

/-- The position of the row of a position. -/
theorem posOf_rowOfPos (b : Fin 32) (q : Fin 2048) : posOf (rowOfPos b q) = q :=
  Fin.ext (by show (b.val * 2048 + q.val) % 2048 = q.val; omega)

/-- Arrays that agree at every index are equal. -/
theorem rows_ext (A : FVec Ideal S65536x1024 .bf16) (G : Fin 65536 → Fin 1024 → EReal) (h : ∀ R e, A (ix2 R e) = G R e) : A = rowsArr G := by
  funext y
  obtain ⟨R, e, rfl⟩ : ∃ (R : Fin 65536) (e : Fin 1024), y = ix2 R e := ⟨y 0, y 1, by funext a; fin_cases a <;> rfl⟩
  exact h R e

/-- So it is of arrays by batch, head, position and lane. -/
theorem heads_ext (A : FVec Ideal S32x8x2048x128 .bf16) (H : Fin 65536 → Fin 8 → Fin 128 → EReal)
    (h : ∀ b i q d, A (ix4 b i q d) = H (rowOfPos b q) i d) : A = headsArr H := by
  funext y
  obtain ⟨b, i, q, d, rfl⟩ : ∃ (b : Fin 32) (i : Fin 8) (q : Fin 2048) (d : Fin 128), y = ix4 b i q d :=
    ⟨y 0, y 1, y 2, y 3, by funext a; fin_cases a <;> rfl⟩
  exact h b i q d

/-- The LayerNorm agrees, of all arguments. -/
theorem vn_same : vnRef (argX m c) (argG m c) (argW m c) (argLg m c) (argLb m c) = rowsArr (vnOf m c) := by
  refine rows_ext _ _ fun R e => ?_
  refine (normed_ix _ _ _ R e).trans ?_
  simp only [part_row m c 1024 (by decide)]
  rfl

/-- The values agree, of all arguments. -/
theorem v_same : vRef (argX m c) (argG m c) (argW m c) = headsArr (vOf m c) :=
  heads_ext _ _ fun b i q d => (ofRows_ix _ b i q d).trans (part_row m c 5120 (by decide) _ _ _)

/-- The keys agree, of all arguments. -/
theorem k_same : kRef (argX m c) (argG m c) (argW m c) (cosTab) (sinTab) = headsArr (kOf m c) := by
  refine heads_ext _ _ fun b i q d => (ofHalves_ix _ b i q d).trans ((turned_ix _ _ _ b q i d).trans ?_)
  simp only [part_row m c 4096 (by decide)]
  unfold kOf cosOf sinOf
  rw [posOf_rowOfPos]

/-- The queries agree, of all arguments. -/
theorem q_same : qRef (argX m c) (argG m c) (argW m c) (cosTab) (sinTab) = headsArr (qOf m c) := by
  refine heads_ext _ _ fun b i q d => (ofHalves_ix _ b i q d).trans ?_
  refine (congrArg (· * Ideal.ofBits .f32 0x3E38AA3B#32) (turned_ix _ _ _ b q i d)).trans ?_
  simp only [part_row m c 3072 (by decide)]
  unfold qOf cosOf sinOf
  rw [posOf_rowOfPos]

section Gates
variable (hg : ∀ i, IsReal (argG m c i)) (hw : ∀ i, IsReal (argW m c i))
include hg hw

/-- The projections are real. -/
theorem isReal_projOf (o : ℕ) (ho : o + 1024 ≤ 9216) (R : Fin 65536) (e : Fin 1024) : IsReal (projOf m c o ho R e) :=
  isReal_projAt _ _ _ (fun k => hg _) (fun k l => hw _) o ho e

/-- The first merge gate agrees. -/
theorem ga_same : gaRef (argX m c) (argG m c) (argW m c) = rowsArr (gaOf m c) :=
  rows_ext _ _ fun R e => (sig_ix _ R e).trans ((congrArg sigR (part_row m c 7168 (by decide) _ R e)).trans
    (sigT_eq (isReal_projOf m c hg hw 7168 (by decide) R e)).symm)

/-- The second merge gate agrees. -/
theorem gb_same : gbRef (argX m c) (argG m c) (argW m c) = rowsArr (gbOf m c) :=
  rows_ext _ _ fun R e => (sig_ix _ R e).trans ((congrArg sigR (part_row m c 8192 (by decide) _ R e)).trans
    (sigT_eq (isReal_projOf m c hg hw 8192 (by decide) R e)).symm)

/-- The product of a projection and its sigmoid, at an index. -/
theorem silu_row (o : ℕ) (ho : o + 1024 ≤ 9216) (hs) (R : Fin 65536) (e : Fin 1024) :
    mulf (part (wide (argX m c) (argG m c) (argW m c)) o hs) (sig (part (wide (argX m c) (argG m c) (argW m c)) o hs)) (ix2 R e)
      = siluT (projOf m c o ho R e) := by
  rw [siluT_eq (isReal_projOf m c hg hw o ho R e), ← part_row m c o ho hs, ← sig_ix]
  rfl

/-- The attention's gate agrees. -/
theorem z_same : zRef (argX m c) (argG m c) (argW m c) = headsArr (zOf m c) :=
  heads_ext _ _ fun b i q d => (ofRows_ix _ b i q d).trans (silu_row m c hg hw 6144 (by decide) _ _ _)

/-- The gated first branch agrees. -/
theorem uz_same : uzRef (argX m c) (argG m c) (argW m c) = rowsArr (uzOf m c) :=
  rows_ext _ _ fun R e => congrArg₂ (· * ·) (part_row m c 0 (by decide) _ R e) (silu_row m c hg hw 2048 (by decide) _ R e)

end Gates

/-- The precondition's reading: the norm's scale and the weights are real. -/
theorem read_finite (x : FVec Ideal S65536x1024 .f32) (g : FVec Ideal S1x1024 .f32) (w : FVec Ideal S1x1024x9216 .f32) (lg lb : FVec Ideal S1x1024 .f32)
    (h : Cert.Pre_finite3.fn (F := Ideal) x g w lg lb = fun _ => 1#1) :
    (∀ i, IsReal (g i)) ∧ (∀ i, IsReal (w i)) := by
  have e := congrFun h ix0
  unfold Cert.Pre_finite3.fn at e
  obtain ⟨ha, hb⟩ := Cert.Proof.Finite.and_one _ _ e
  exact ⟨Cert.Proof.Finite.all_real _ _ _ _ _ ha, Cert.Proof.Finite.all_real _ _ _ _ _ hb⟩

end Cert.InProj

end
-- ==== Proof.lean ====
/-
The proof of `Cert.Claim`: the three calls of the layer (input projection, attention, output projection) run, keep their
arguments and leave every counter at zero, at machine floats and at ideal ones; and at ideal floats the results of each are
the results of its plain reference.

The modules under Proof/, in the order in which they are to be read:
  Spec      what one grid point computes, tile by tile, written as functions of whole arrays
  Parts     reading loads and piecewise written buffers
  Res, TripEven, TripOdd, Pipe   one trip of the pipelined loop, and its invariant
  EvenVal, OddVal, PipeVal       the values of a trip, and of the loop
  BodyRun, StartVal, BodyVal     the whole body at one grid point, and what it writes
  Triple, Run                    the launch over the grid
  Same                           the program with ideal floats is the same program
  Whole                          the output array, from the blocks of the grid points
  Soft                           softmax and averages over real numbers
  TileIx, TileRow                a tile read at an index, and a row of it as an average of the values
  RefIx, RefRow                  the same of the reference
  Finite                         the precondition, read
  Value                          the kernel's output array is the reference's result
  GateIx                         the output projection's block, read at an index
  GateRef                        the same of its reference
  GateValue                      its output array, and its equality with the reference's result
  ProjIx                         the formulas of the input projection's results, row by row, and its block read at an index
  ProjRef                        its reference's operations, read at an index
  ProjPiece                      the loads, projections and stores of one block
  ProjOut                        what one grid point leaves in each of the eight results' blocks
  ProjReal                       the sigmoid in its two forms, and realness of the projections
  ProjArr                        the blocks and the operands' parts a grid point sees, in the arguments
  ProjFinal                      the eight output arrays after the run
  ProjSame                       they are the reference's results; the precondition, read
-/
module

public import proofs.«01_k».proof.Defs
public import proofs.«01_k».proof.Proof.Run
public import proofs.«01_k».proof.Proof.Same
public import proofs.«01_k».proof.Proof.Finite
public import proofs.«01_k».proof.Proof.Value
public import proofs.«01_k».proof.Proof.GateValue
public import proofs.«01_k».proof.Proof.ProjSame
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Pre_finite3
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The call runs at machine floats, keeps its arguments, and leaves every counter at zero. -/
theorem frame_kernel : Cert.quiescent_Kernel := fun m ρ _ =>
  θ_run_with_sems (Cert.Kernel.Gen.frame_of m ρ (dats m) fun _ _ => rfl) (run_main (F := Bits) m ρ)

/-- So it does at ideal floats. -/
theorem frame_ideal : Cert.quiescent_KernelIdeal := fun m ρ _ =>
  run_of_same _ _ (θ_run_with_sems (Cert.Kernel.Gen.frame_of m ρ (dats m) fun _ _ => rfl) (run_main (F := Ideal) m ρ))

/-- So does the reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's run at ideal floats: the result is the output array, and the arguments are unchanged. -/
theorem run_ideal (m ρ) : θ_run (Cert.KernelIdeal.defs (F := Ideal)) (onTc (τ := Cert.KernelIdeal.τ) (Cert.KernelIdeal.main (F := Ideal)))
    ⟨m, fun _ => 0, ρ⟩ (fun r => (∀ c : Dev Cert.KernelIdeal.nD, r.2.mem ((c.tc : Thread Cert.KernelIdeal.nD Cert.KernelIdeal.τ).loc Cert.KernelIdeal.main_v0) = outWhole m c)
      ∧ Pipeline.FramePost Cert.Kernel.cfgs (dats (F := Ideal) m) 0 (Cert.Kernel.Gen.V m) r) :=
  run_of_same _ _ ((θ_run Cert.Kernel.defs _ _).mono (fun _ h => ⟨fun c => ((h.1 c).1 9).trans (final m c), h.1⟩) (run_main (F := Ideal) m ρ))

/-- At ideal floats and real arguments the call's result is the reference's. -/
theorem algebraic : Cert.algebraic_KernelIdeal_ReferenceIdeal_pre_finite := by
  intro m g m' g' hpre hargs
  refine ⟨fun c => outWhole m c, ?_, ?_⟩
  · refine (θ_run Cert.KernelIdeal.defs _ _).mono (fun r h c => ⟨h.1 c, ?_⟩) (run_ideal m g)
    have a w (e) := ((h.2 c).1 w).trans ((dats m 0 c).arrAt_in w e _)
    exact ⟨a 0 rfl, a 1 rfl, a 2 rfl, a 3 rfl, a 4 rfl, a 5 rfl, a 6 rfl, a 7 rfl, a 8 rfl⟩
  · refine (θ_run Cert.ReferenceIdeal.defs _ _).mono (fun r h c => ⟨(h c).1.trans ?_, (h c).2⟩) (Cert.ReferenceIdeal.Value.run (F := Ideal) m' g')
    obtain ⟨e0, e1, e2, e3, e4, e5, e6, e7, e8⟩ := hargs c
    obtain ⟨h0, h1, h2, h3, h5, h6, h7⟩ := Finite.read _ _ _ _ _ _ _ _ _ (hpre c)
    rw [Ref.res_eq, e0, e1, e2, e3, e4, e5, e6, e7, e8]
    exact (whole_same _ _ _ _ _ _ _ _ _ h5 h6 h7 h0 h1 h2 h3).symm

/-- The output projection runs at machine floats, keeps its arguments, and leaves every counter at zero. -/
theorem frame_gate : Cert.quiescent_Kernel2 := fun m ρ _ => Cert.Kernel2.Gen.frame m ρ

/-- So it does at ideal floats. -/
theorem frame_gate_ideal : Cert.quiescent_Kernel2Ideal := fun m ρ _ => Cert.Kernel2Ideal.Gen.frame m ρ

/-- So does its reference. -/
theorem frame_gate_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- At ideal floats the output projection's result is its reference's. -/
theorem algebraic_gate : Cert.algebraic_Kernel2Ideal_Reference2Ideal := by
  intro m g m' g' _ hargs
  refine ⟨fun c => Gate.outWhole m c, ?_, ?_⟩
  · exact (θ_run Cert.Kernel2Ideal.defs _ _).mono (fun r h c => ⟨(h c).1.trans (Gate.final m c), (h c).2⟩)
      (Cert.Kernel2Ideal.Value.run_blocks (F := Ideal) m g)
  · refine (θ_run Cert.Reference2Ideal.defs _ _).mono (fun r h c => ⟨(h c).1.trans (Gate.same m c m' ?_), (h c).2⟩)
      (Cert.Reference2Ideal.Value.run (F := Ideal) m' g')
    obtain ⟨e0, e1, e2, e3, e4, e5, e6, e7, e8, e9, e10, e11⟩ := hargs c
    rw [GateRef.res_eq, e0, e1, e2, e3, e4, e5, e6, e7, e8, e9, e10, e11]

/-- The input projection runs at machine floats, keeps its arguments, and leaves every counter at zero. -/
theorem frame_proj : Cert.quiescent_Kernel3 := fun m ρ _ => Cert.Kernel3.Gen.frame m ρ

/-- So it does at ideal floats. -/
theorem frame_proj_ideal : Cert.quiescent_Kernel3Ideal := fun m ρ _ => Cert.Kernel3Ideal.Gen.frame m ρ

/-- So does its reference. -/
theorem frame_proj_reference : Cert.quiescent_Reference3Ideal := fun m ρ _ =>
  (θ_run Cert.Reference3Ideal.defs _ _).mono
    (fun r h => ⟨fun c => (h c).2.2.2.2.2.2.2.2, sem_eq_zero_of_no_sems (by decide) r.2⟩)
    (Cert.Reference3Ideal.Value.run (F := Ideal) m ρ)

open Cert.InProj in
/-- At ideal floats, with a real norm scale and real weights, the input projection's eight results are its reference's. -/
theorem algebraic_proj : Cert.algebraic_Kernel3Ideal_Reference3Ideal_pre_finite3 := by
  intro m g m' g' hpre hargs
  refine ⟨fun c => rowsArr (uzOf m c), fun c => rowsArr (vnOf m c), fun c => headsArr (qOf m c), fun c => headsArr (kOf m c),
    fun c => headsArr (vOf m c), fun c => headsArr (zOf m c), fun c => rowsArr (gaOf m c), fun c => rowsArr (gbOf m c), ?_, ?_⟩
  · refine (θ_run Cert.Kernel3Ideal.defs _ _).mono (fun r h c => ?_) (Cert.Kernel3Ideal.Value.run_blocks (F := Ideal) m g)
    obtain ⟨h7, h8, h9, h10, h11, h12, h13, h14, hr⟩ := h c
    exact ⟨h7.trans (final7 m c), h8.trans (final8 m c), h9.trans (final9 m c), h10.trans (final10 m c),
      h11.trans (final11 m c), h12.trans (final12 m c), h13.trans (final13 m c), h14.trans (final14 m c), hr⟩
  · refine (θ_run Cert.Reference3Ideal.defs _ _).mono (fun r h c => ?_) (Cert.Reference3Ideal.Value.run (F := Ideal) m' g')
    obtain ⟨e0, e1, e2, e3, e4⟩ := hargs c
    obtain ⟨hg, hw⟩ := read_finite _ _ _ _ _ (hpre c)
    obtain ⟨h0, h1, h2, h3, h4, h5, h6, h7, hr⟩ := h c
    exact ⟨h0.trans ((congr (congr (congrArg InProjRef.uzRef e0) e1) e2).trans (uz_same m c hg hw)),
      h1.trans ((congr (congr (congr (congr (congrArg InProjRef.vnRef e0) e1) e2) e3) e4).trans (vn_same m c)),
      h2.trans ((congr (congr (congrArg (InProjRef.qRef · · · cosTab sinTab) e0) e1) e2).trans (q_same m c)),
      h3.trans ((congr (congr (congrArg (InProjRef.kRef · · · cosTab sinTab) e0) e1) e2).trans (k_same m c)),
      h4.trans ((congr (congr (congrArg InProjRef.vRef e0) e1) e2).trans (v_same m c)),
      h5.trans ((congr (congr (congrArg InProjRef.zRef e0) e1) e2).trans (z_same m c hg hw)),
      h6.trans ((congr (congr (congrArg InProjRef.gaRef e0) e1) e2).trans (ga_same m c hg hw)),
      h7.trans ((congr (congr (congrArg InProjRef.gbRef e0) e1) e2).trans (gb_same m c hg hw)), hr⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts, Cert.Pre_finite.Gen.facts, Cert.Pre_finite3.Gen.facts,
    frame_kernel, frame_ideal, fun m ρ _ => frame_ideal m ρ trivial, frame_reference, fun m ρ _ => frame_reference m ρ trivial,
    frame_gate, frame_gate_ideal, frame_gate_reference,
    frame_proj, frame_proj_ideal, fun m ρ _ => frame_proj_ideal m ρ trivial, frame_proj_reference,
    fun m ρ _ => frame_proj_reference m ρ trivial,
    trivial, algebraic, trivial, algebraic_gate, trivial, algebraic_proj⟩

end Cert.Proof

end
